-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_conv_finite [hPre_conv_finite : Cert.Pre_conv_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_conv_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_conv_finite [hPre_conv_finite : Cert.Pre_conv_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_conv_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_conv_finite [hKernel22Ideal : Cert.Kernel22Ideal.Facts] [hPre_conv_finite : Cert.Pre_conv_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_conv_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_conv_finite [hReference22Ideal : Cert.Reference22Ideal.Facts] [hPre_conv_finite : Cert.Pre_conv_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_conv_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v181) = v3 c
          ∧ r.2.mem ((c.tc : Thread Cert.ReferenceIdeal.nD Cert.ReferenceIdeal.τ).loc Cert.ReferenceIdeal.main_v185) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal_pre_conv_finite [hKernel22Ideal : Cert.Kernel22Ideal.Facts] [hReference22Ideal : Cert.Reference22Ideal.Facts] [hPre_conv_finite : Cert.Pre_conv_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_conv_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v22_0)) (v1 : (c : Dev Cert.Kernel22Ideal.nD) → Buf (Elt Ideal) ((c.tc : Thread Cert.Kernel22Ideal.nD Cert.Kernel22Ideal.τ).loc Cert.Kernel22Ideal.main_v22_1)) (v2 : (c : Dev Cert.Kernel22Ideal.nD) → Buf (Elt Ideal) ((c.tc : Thread Cert.Kernel22Ideal.nD Cert.Kernel22Ideal.τ).loc Cert.Kernel22Ideal.main_v22_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v22_0) = v0 c
          ∧ r.2.mem ((c.tc : Thread Cert.Kernel22Ideal.nD Cert.Kernel22Ideal.τ).loc Cert.Kernel22Ideal.main_v22_1) = v1 c
          ∧ r.2.mem ((c.tc : Thread Cert.Kernel22Ideal.nD Cert.Kernel22Ideal.τ).loc Cert.Kernel22Ideal.main_v22_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v87) = v0 c
          ∧ r.2.mem ((c.tc : Thread Cert.Reference22Ideal.nD Cert.Reference22Ideal.τ).loc Cert.Reference22Ideal.main_v81) = v1 c
          ∧ r.2.mem ((c.tc : Thread Cert.Reference22Ideal.nD Cert.Reference22Ideal.τ).loc Cert.Reference22Ideal.main_v86) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v22)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v22) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v29) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v20) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_conv_finite : Cert.Pre_conv_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_conv_finite (hKernel22Ideal := hKernel22Ideal) (hPre_conv_finite := hPre_conv_finite)
    ∧ quiescent_Reference22Ideal (hReference22Ideal := hReference22Ideal)
    ∧ quiescent_Reference22Ideal_pre_conv_finite (hReference22Ideal := hReference22Ideal) (hPre_conv_finite := hPre_conv_finite)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_conv_finite (hKernel22Ideal := hKernel22Ideal) (hReference22Ideal := hReference22Ideal) (hPre_conv_finite := hPre_conv_finite)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_conv_finite.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S_ : Shape := ⟨0, ![]⟩

class Facts : Prop where
  bitsLt_bf16_f32 : FTy.bits .bf16 < FTy.bits .f32
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_v15 : IVec S_ 1) (main_v16 : FVec F S1x11264 .f32) (main_cst_4 : FVec F S_ .f32) : IVec S_ 1 :=
  let main_v17 : FVec F S1x11264 .f32 := broadcastInDim S1x11264 ![] bcast_S_S1x11264 main_cst_4
  let main_v18 : IVec S1x11264 1 := cmpf .olt main_v16 main_v17
  let main_c_5 : IVec S_ 1 := constantI S_ 1 1#1
  let main_v19 : IVec S_ 1 := (fun x v => Host.reduce IntOp.andi x v reducesTo_S1x11264_S_d0_1 h_S_) main_v18 main_c_5
  let main_v20 : IVec S_ 1 := andi main_v15 main_v19
  main_v20

def fn {F : FTy → Type} [FloatOps F] (main_arg0 : FVec F S4096x11264 .bf16) (main_arg1 : FVec F S4096x5632 .bf16) (main_arg2 : FVec F S3x11264 .f32) (main_arg3 : FVec F S1x11264 .f32) : IVec S_ 1 :=
  let main_v0 : FVec F S4096x11264 .f32 := (extf .f32 · bitsLt_bf16_f32) main_arg0
  let main_v1 : FVec F S4096x11264 .f32 := Host.absf main_v0
  let main_cst : FVec F S_ .f32 := constant S_ .f32 0x7F800000#32
  let main_v2 : FVec F S4096x11264 .f32 := broadcastInDim S4096x11264 ![] bcast_S_S4096x11264 main_cst
  let main_v3 : IVec S4096x11264 1 := cmpf .olt main_v1 main_v2
  let main_c : IVec S_ 1 := constantI S_ 1 1#1
  let main_v4 : IVec S_ 1 := (fun x v => Host.reduce IntOp.andi x v reducesTo_S4096x11264_S_d0_1 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : IVec S_ 1 := andi main_v4 main_v9
  let main_v11 : FVec F S3x11264 .f32 := Host.absf main_arg2
  let main_cst_2 : FVec F S_ .f32 := constant S_ .f32 0x7F800000#32
  let main_v12 : FVec F S3x11264 .f32 := broadcastInDim S3x11264 ![] bcast_S_S3x11264 main_cst_2
  let main_v13 : IVec S3x11264 1 := cmpf .olt main_v11 main_v12
  let main_c_3 : IVec S_ 1 := constantI S_ 1 1#1
  let main_v14 : IVec S_ 1 := (fun x v => Host.reduce IntOp.andi x v reducesTo_S3x11264_S_d0_1 h_S_) main_v13 main_c_3
  let main_v15 : IVec S_ 1 := andi main_v10 main_v14
  let main_v16 : FVec F S1x11264 .f32 := Host.absf main_arg3
  let main_cst_4 : FVec F S_ .f32 := constant S_ .f32 0x7F800000#32
  fn_part1 (F := F) main_v15 main_v16 main_cst_4
-- ==== Pre_finite.lean ====
abbrev S4096x8192 : Shape := ⟨2, ![4096, 8192]⟩
abbrev S128x256x32 : Shape := ⟨3, ![128, 256, 32]⟩
abbrev S1x32 : Shape := ⟨2, ![1, 32]⟩
abbrev S4096x2048 : Shape := ⟨2, ![4096, 2048]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S128x256x32 : S_.BroadcastsInDim S128x256x32 (![] : Fin 0 → Fin S128x256x32.rank)
  reducesTo_S128x256x32_S_d0_1_2 : S128x256x32.ReducesTo [0, 1, 2] S_
  bcast_S_S1x32 : S_.BroadcastsInDim S1x32 (![] : Fin 0 → Fin S1x32.rank)
  reducesTo_S1x32_S_d0_1 : S1x32.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v14 : IVec S_ 1) (main_v16 : FVec F S4096x2048 .f32) (main_cst_4 : FVec F S_ .f32) : IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : IVec S_ 1 := andi main_v14 main_v19
  main_v20

def fn {F : FTy → Type} [FloatOps F] (main_arg0 : FVec F S4096x8192 .bf16) (main_arg1 : FVec F S128x256x32 .f32) (main_arg2 : FVec F S1x32 .f32) (main_arg3 : FVec F S4096x2048 .bf16) : IVec S_ 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_c : IVec S_ 1 := constantI S_ 1 1#1
  let main_v4 : IVec S_ 1 := (fun x v => Host.reduce IntOp.andi x v reducesTo_S4096x8192_S_d0_1 h_S_) main_v3 main_c
  let main_v5 : FVec F S128x256x32 .f32 := Host.absf main_arg1
  let main_cst_0 : FVec F S_ .f32 := constant S_ .f32 0x7F800000#32
  let main_v6 : FVec F S128x256x32 .f32 := broadcastInDim S128x256x32 ![] bcast_S_S128x256x32 main_cst_0
  let main_v7 : IVec S128x256x32 1 := cmpf .olt main_v5 main_v6
  let main_c_1 : IVec S_ 1 := constantI S_ 1 1#1
  let main_v8 : IVec S_ 1 := (fun x v => Host.reduce IntOp.andi x v reducesTo_S128x256x32_S_d0_1_2 h_S_) main_v7 main_c_1
  let main_v9 : IVec S_ 1 := andi main_v4 main_v8
  let main_v10 : FVec F S1x32 .f32 := Host.absf main_arg2
  let main_cst_2 : FVec F S_ .f32 := constant S_ .f32 0x7F800000#32
  let main_v11 : FVec F S1x32 .f32 := broadcastInDim S1x32 ![] bcast_S_S1x32 main_cst_2
  let main_v12 : IVec S1x32 1 := cmpf .olt main_v10 main_v11
  let main_c_3 : IVec S_ 1 := constantI S_ 1 1#1
  let main_v13 : IVec S_ 1 := (fun x v => Host.reduce IntOp.andi x v reducesTo_S1x32_S_d0_1 h_S_) main_v12 main_c_3
  let main_v14 : IVec S_ 1 := andi main_v9 main_v13
  let main_v15 : FVec F S4096x2048 .f32 := (extf .f32 · bitsLt_bf16_f32) main_arg3
  let main_v16 : FVec F S4096x2048 .f32 := Host.absf main_v15
  let main_cst_4 : FVec F S_ .f32 := constant S_ .f32 0x7F800000#32
  fn_part1 (F := F) main_v14 main_v16 main_cst_4
-- ==== Kernel.lean ====
abbrev S4096x8192 : Shape := ⟨2, ![4096, 8192]⟩
abbrev S128x256x32 : Shape := ⟨3, ![128, 256, 32]⟩
abbrev S1x32 : Shape := ⟨2, ![1, 32]⟩
abbrev S4096x2048 : Shape := ⟨2, ![4096, 2048]⟩
abbrev S128x256 : Shape := ⟨2, ![128, 256]⟩
abbrev S_ : Shape := ⟨0, ![]⟩
abbrev S32x128x256 : Shape := ⟨3, ![32, 128, 256]⟩
abbrev S1x128x256 : Shape := ⟨3, ![1, 128, 256]⟩
abbrev S4x8x128x256 : Shape := ⟨4, ![4, 8, 128, 256]⟩
abbrev S4x256x8x128 : Shape := ⟨4, ![4, 256, 8, 128]⟩
abbrev S4x256x1024 : Shape := ⟨3, ![4, 256, 1024]⟩
abbrev S4x8x1 : Shape := ⟨3, ![4, 8, 1]⟩
abbrev S4x8x128 : Shape := ⟨3, ![4, 8, 128]⟩
abbrev S4x1x1024 : Shape := ⟨3, ![4, 1, 1024]⟩
abbrev S4096x256 : Shape := ⟨2, ![4096, 256]⟩
abbrev S4096x4x64 : Shape := ⟨3, ![4096, 4, 64]⟩
abbrev S4x4096x64 : Shape := ⟨3, ![4, 4096, 64]⟩
abbrev S128x512 : Shape := ⟨2, ![128, 512]⟩
abbrev S1x128x64 : Shape := ⟨3, ![1, 128, 64]⟩
abbrev S1x256x1024 : Shape := ⟨3, ![1, 256, 1024]⟩
abbrev S1x1x1024 : Shape := ⟨3, ![1, 1, 1024]⟩
abbrev S128x64 : Shape := ⟨2, ![128, 64]⟩
abbrev S1024x64 : Shape := ⟨2, ![1024, 64]⟩
abbrev S256x64 : Shape := ⟨2, ![256, 64]⟩
abbrev S256x1024 : Shape := ⟨2, ![256, 1024]⟩
abbrev S1x1024 : Shape := ⟨2, ![1, 1024]⟩
abbrev S1024 : Shape := ⟨1, ![1024]⟩

abbrev nBuf : Space → Nat
  | .hbm => 41
  | .vmem => 28
  | .smem => 0
  | _ => 0

abbrev bufTy : (tb : Table) → Fin (tcTables nBuf tb) → BufTy
  | .hbm, ⟨0, _⟩ => ⟨S4096x8192, .bf16⟩
  | .hbm, ⟨1, _⟩ => ⟨S128x256x32, .f32⟩
  | .hbm, ⟨2, _⟩ => ⟨S1x32, .f32⟩
  | .hbm, ⟨3, _⟩ => ⟨S4096x2048, .bf16⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256, .i32⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S128x256, .i1⟩
  | .hbm, ⟨17, _⟩ => ⟨S32x128x256, .f32⟩
  | .hbm, ⟨18, _⟩ => ⟨S1x128x256, .i1⟩
  | .hbm, ⟨19, _⟩ => ⟨S_, .f32⟩
  | .hbm, ⟨20, _⟩ => ⟨S_, .f32⟩
  | .hbm, ⟨21, _⟩ => ⟨S32x128x256, .i1⟩
  | .hbm, ⟨22, _⟩ => ⟨S32x128x256, .f32⟩
  | .hbm, ⟨23, _⟩ => ⟨S32x128x256, .f32⟩
  | .hbm, ⟨24, _⟩ => ⟨S4x8x128x256, .f32⟩
  | .hbm, ⟨25, _⟩ => ⟨S4x256x8x128, .f32⟩
  | .hbm, ⟨26, _⟩ => ⟨S4x256x1024, .f32⟩
  | .hbm, ⟨27, _⟩ => ⟨S4x8x1, .f32⟩
  | .hbm, ⟨28, _⟩ => ⟨S4x8x128, .f32⟩
  | .hbm, ⟨29, _⟩ => ⟨S4x1x1024, .f32⟩
  | .hbm, ⟨30, _⟩ => ⟨S4096x256, .bf16⟩
  | .hbm, ⟨31, _⟩ => ⟨S4096x4x64, .bf16⟩
  | .hbm, ⟨32, _⟩ => ⟨S4x4096x64, .bf16⟩
  | .hbm, ⟨33, _⟩ => ⟨S4096x256, .bf16⟩
  | .hbm, ⟨34, _⟩ => ⟨S4096x4x64, .bf16⟩
  | .hbm, ⟨35, _⟩ => ⟨S4x4096x64, .bf16⟩
  | .hbm, ⟨36, _⟩ => ⟨S4096x2048, .bf16⟩
  | .hbm, ⟨37, _⟩ => ⟨S4x4096x64, .bf16⟩
  | .hbm, ⟨38, _⟩ => ⟨S4x4096x64, .bf16⟩
  | .hbm, ⟨39, _⟩ => ⟨S4x256x1024, .f32⟩
  | .hbm, ⟨40, _⟩ => ⟨S4x1x1024, .f32⟩
  | .local _ .vmem, ⟨0, _⟩ => ⟨S128x512, .bf16⟩
  | .local _ .vmem, ⟨1, _⟩ => ⟨S128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S1x128x64, .bf16⟩
  | .local _ .vmem, ⟨19, _⟩ => ⟨S1x128x64, .bf16⟩
  | .local _ .vmem, ⟨20, _⟩ => ⟨S1x128x64, .bf16⟩
  | .local _ .vmem, ⟨21, _⟩ => ⟨S1x128x64, .bf16⟩
  | .local _ .vmem, ⟨22, _⟩ => ⟨S1x256x1024, .f32⟩
  | .local _ .vmem, ⟨23, _⟩ => ⟨S1x256x1024, .f32⟩
  | .local _ .vmem, ⟨24, _⟩ => ⟨S1x1x1024, .f32⟩
  | .local _ .vmem, ⟨25, _⟩ => ⟨S1x1x1024, .f32⟩
  | .local _ .vmem, ⟨26, _⟩ => ⟨S128x64, .f32⟩
  | .local _ .vmem, ⟨27, _⟩ => ⟨S128x64, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .eq arg1 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c8_i32 : BitVec 32 := 8#32
  let v1 : BitVec 32 := Scalar.addi c8_i32 arg0
  let c0_i32 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x8192 : Shape := ⟨2, ![4096, 8192]⟩
abbrev S128x256x32 : Shape := ⟨3, ![128, 256, 32]⟩
abbrev S1x32 : Shape := ⟨2, ![1, 32]⟩
abbrev S4096x2048 : Shape := ⟨2, ![4096, 2048]⟩
abbrev S4096x256 : Shape := ⟨2, ![4096, 256]⟩
abbrev S4x8x1x1x1 : Shape := ⟨5, ![4, 8, 1, 1, 1]⟩
abbrev S4x8x1x128x1 : Shape := ⟨5, ![4, 8, 1, 128, 1]⟩
abbrev S32x128x4x8x64 : Shape := ⟨5, ![32, 128, 4, 8, 64]⟩
abbrev S4096x4x64 : Shape := ⟨3, ![4096, 4, 64]⟩
abbrev S_ : Shape := ⟨0, ![]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S4x32x256x128x8 : Shape := ⟨5, ![4, 32, 256, 128, 8]⟩
abbrev S4x8x32x128x256 : Shape := ⟨5, ![4, 8, 32, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32x128x256 : Shape := ⟨3, ![32, 128, 256]⟩
abbrev S4x8x1x128x256 : Shape := ⟨5, ![4, 8, 1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x32x128 : Shape := ⟨4, ![4, 8, 32, 128]⟩
abbrev S4x8x32x128x1 : Shape := ⟨5, ![4, 8, 32, 128, 1]⟩
abbrev S32x4x64x8x128 : Shape := ⟨5, ![32, 4, 64, 8, 128]⟩
abbrev S32x4x8x128x256 : Shape := ⟨5, ![32, 4, 8, 128, 256]⟩
abbrev S32x4x64x256 : Shape := ⟨4, ![32, 4, 64, 256]⟩
abbrev S4x8x128x1 : Shape := ⟨4, ![4, 8, 128, 1]⟩
abbrev S4x8x128x256 : Shape := ⟨4, ![4, 8, 128, 256]⟩
abbrev S4x32x128x8x64 : Shape := ⟨5, ![4, 32, 128, 8, 64]⟩
abbrev S4x32x256x64 : Shape := ⟨4, ![4, 32, 256, 64]⟩
abbrev S4x4096x64 : Shape := ⟨3, ![4, 4096, 64]⟩
abbrev S128x256x4x8 : Shape := ⟨4, ![128, 256, 4, 8]⟩
abbrev S4x256x8x128 : Shape := ⟨4, ![4, 256, 8, 128]⟩
abbrev S4x256x1024 : Shape := ⟨3, ![4, 256, 1024]⟩
abbrev S4x1x1024 : Shape := ⟨3, ![4, 1, 1024]⟩

abbrev nBuf : Space → Nat
  | .hbm => 231
  | .vmem => 0
  | .smem => 0
  | _ => 0

abbrev hbmTy0_0 (i : Nat) : BufTy := match i % 128 with
  | 0 => ⟨S4096x8192, .bf16⟩
  | 1 => ⟨S128x256x32, .f32⟩
  | 2 => ⟨S1x32, .f32⟩
  | 3 => ⟨S4096x2048, .bf16⟩
  | 4 => ⟨S4096x8192, .f32⟩
  | 5 => ⟨S4096x2048, .f32⟩
  | 6 => ⟨S4096x256, .f32⟩
  | 7 => ⟨S4096x256, .f32⟩
  | 8 => ⟨S4x8x1x1x1, .f32⟩
  | 9 => ⟨S4x8x1x128x1, .f32⟩
  | 10 => ⟨S32x128x4x8x64, .f32⟩
  | 11 => ⟨S4096x4x64, .f32⟩
  | 12 => ⟨S_, .f32⟩
  | 13 => ⟨S128x4x64, .f32⟩
  | 14 => ⟨S4224x4x64, .f32⟩
  | 15 => ⟨S_, .f32⟩
  | 16 => ⟨S128x4x64, .f32⟩
  | 17 => ⟨S33x128x4x64, .f32⟩
  | 18 => ⟨S32x128x4x64, .f32⟩
  | 19 => ⟨S32x128x4x64, .f32⟩
  | 20 => ⟨S32x256x4x64, .f32⟩
  | 21 => ⟨S4096x4x64, .f32⟩
  | 22 => ⟨S_, .f32⟩
  | 23 => ⟨S128x4x64, .f32⟩
  | 24 => ⟨S4224x4x64, .f32⟩
  | 25 => ⟨S_, .f32⟩
  | 26 => ⟨S128x4x64, .f32⟩
  | 27 => ⟨S33x128x4x64, .f32⟩
  | 28 => ⟨S32x128x4x64, .f32⟩
  | 29 => ⟨S32x128x4x64, .f32⟩
  | 30 => ⟨S32x256x4x64, .f32⟩
  | 31 => ⟨S4x32x256x128x8, .f32⟩
  | 32 => ⟨S4x8x32x128x256, .f32⟩
  | 33 => ⟨S_, .f32⟩
  | 34 => ⟨S4x8x32x128x256, .f32⟩
  | 35 => ⟨S4x8x32x128x256, .f32⟩
  | 36 => ⟨S128, .i32⟩
  | 37 => ⟨S256, .i32⟩
  | 38 => ⟨S128x1, .i32⟩
  | 39 => ⟨S_, .i32⟩
  | 40 => ⟨S128x1, .i32⟩
  | 41 => ⟨S128x1, .i32⟩
  | 42 => ⟨S1x256, .i32⟩
  | 43 => ⟨S128x256, .i32⟩
  | 44 => ⟨S128x256, .i32⟩
  | 45 => ⟨S128x256, .i32⟩
  | 46 => ⟨S32x128x256, .f32⟩
  | 47 => ⟨S4x8x1x128x256, .f32⟩
  | 48 => ⟨S32, .i32⟩
  | 49 => ⟨S32x1x1, .i32⟩
  | 50 => ⟨S_, .i32⟩
  | 51 => ⟨S32x1x1, .i32⟩
  | 52 => ⟨S32x1x1, .i32⟩
  | 53 => ⟨S_, .i32⟩
  | 54 => ⟨S32x1x1, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S_, .i32⟩
  | 61 => ⟨S128x256, .i32⟩
  | 62 => ⟨S128x256, .i1⟩
  | 63 => ⟨S1x128x256, .i1⟩
  | 64 => ⟨S_, .i32⟩
  | 65 => ⟨S128x256, .i32⟩
  | 66 => ⟨S128x256, .i1⟩
  | 67 => ⟨S1x128x256, .i1⟩
  | 68 => ⟨S1x128x256, .i1⟩
  | 69 => ⟨S_, .i32⟩
  | 70 => ⟨S32x1x256, .i32⟩
  | 71 => ⟨S32x1x256, .i1⟩
  | 72 => ⟨S32x128x256, .i1⟩
  | 73 => ⟨S32x128x256, .i1⟩
  | 74 => ⟨S32x128x256, .i1⟩
  | 75 => ⟨S4x8x32x128x256, .f32⟩
  | 76 => ⟨S4x8x32x128x256, .f32⟩
  | 77 => ⟨S_, .f32⟩
  | 78 => ⟨S_, .f32⟩
  | 79 => ⟨S4x8x32x128x256, .i1⟩
  | 80 => ⟨S4x8x32x128x256, .f32⟩
  | 81 => ⟨S4x8x32x128x256, .f32⟩
  | 82 => ⟨S_, .f32⟩
  | 83 => ⟨S4x8x32x128x256, .f32⟩
  | 84 => ⟨S_, .f32⟩
  | 85 => ⟨S4x8x32x128, .f32⟩
  | 86 => ⟨S4x8x32x128x1, .f32⟩
  | 87 => ⟨S4x8x32x128x256, .f32⟩
  | 88 => ⟨S4x8x32x128x256, .i1⟩
  | 89 => ⟨S4x8x32x128x256, .f32⟩
  | 90 => ⟨S_, .f32⟩
  | 91 => ⟨S4x8x32x128, .f32⟩
  | 92 => ⟨S4x8x32x128x1, .f32⟩
  | 93 => ⟨S4x8x32x128x1, .f32⟩
  | 94 => ⟨S4x8x32x128x1, .f32⟩
  | 95 => ⟨S4x8x32x128x1, .f32⟩
  | 96 => ⟨S4x8x32x128x1, .i1⟩
  | 97 => ⟨S4x8x32x128x1, .f32⟩
  | 98 => ⟨S4x8x32x128x1, .i1⟩
  | 99 => ⟨S_, .f32⟩
  | 100 => ⟨S4x8x32x128x1, .f32⟩
  | 101 => ⟨S_, .f32⟩
  | 102 => ⟨S4x8x32x128x1, .f32⟩
  | 103 => ⟨S_, .f32⟩
  | 104 => ⟨S4x8x32x128x1, .f32⟩
  | 105 => ⟨S4x8x32x128x1, .f32⟩
  | 106 => ⟨S4x8x32x128x1, .f32⟩
  | 107 => ⟨S4x8x32x128x1, .f32⟩
  | 108 => ⟨S4x8x32x128x1, .i1⟩
  | 109 => ⟨S4x8x32x128x1, .f32⟩
  | 110 => ⟨S4x8x32x128x1, .i1⟩
  | 111 => ⟨S_, .f32⟩
  | 112 => ⟨S4x8x32x128x1, .f32⟩
  | 113 => ⟨S_, .f32⟩
  | 114 => ⟨S4x8x32x128x1, .f32⟩
  | 115 => ⟨S_, .f32⟩
  | 116 => ⟨S4x8x32x128x1, .f32⟩
  | 117 => ⟨S4x8x32x128x1, .f32⟩
  | 118 => ⟨S4x8x32x128x1, .f32⟩
  | 119 => ⟨S4x8x32x128x256, .f32⟩
  | 120 => ⟨S4x8x32x128x256, .f32⟩
  | 121 => ⟨S4x8x32x128x256, .f32⟩
  | 122 => ⟨S_, .f32⟩
  | 123 => ⟨S4x8x32x128, .f32⟩
  | 124 => ⟨S4x8x32x128x1, .f32⟩
  | 125 => ⟨S4x8x32x128x1, .f32⟩
  | 126 => ⟨S4x8x32x128x1, .f32⟩
  | 127 => ⟨S4x8x32x128x1, .f32⟩
  | _ => ⟨S4096x8192, .bf16⟩

abbrev hbmTy0_1 (i : Nat) : BufTy := match i % 128 with
  | 0 => ⟨S4x8x32x128x1, .f32⟩
  | 1 => ⟨S4x8x32x128x256, .f32⟩
  | 2 => ⟨S4x8x32x128x256, .f32⟩
  | 3 => ⟨S4x8x32x128x1, .f32⟩
  | 4 => ⟨S_, .f32⟩
  | 5 => ⟨S4x8x32x128x1, .f32⟩
  | 6 => ⟨S4x8x32x128x1, .f32⟩
  | 7 => ⟨S32x4x64x8x128, .f32⟩
  | 8 => ⟨S32x128x4x8x64, .f32⟩
  | 9 => ⟨S4096x2048, .f32⟩
  | 10 => ⟨S4096x2048, .f32⟩
  | 11 => ⟨S32x128x4x8x64, .f32⟩
  | 12 => ⟨S32x4x64x8x128, .f32⟩
  | 13 => ⟨S32x4x8x128x256, .f32⟩
  | 14 => ⟨S4x8x32x128x256, .f32⟩
  | 15 => ⟨S32x4x64x256, .f32⟩
  | 16 => ⟨S32x256x4x64, .f32⟩
  | 17 => ⟨S4x8x32x128x256, .f32⟩
  | 18 => ⟨S4x8x32x128x256, .f32⟩
  | 19 => ⟨S4x8x32x128x256, .f32⟩
  | 20 => ⟨S_, .f32⟩
  | 21 => ⟨S4x8x32x128, .f32⟩
  | 22 => ⟨S4x8x32x128x1, .f32⟩
  | 23 => ⟨S4x8x32x128x1, .f32⟩
  | 24 => ⟨S4x8x32x128x256, .f32⟩
  | 25 => ⟨S4x8x32x128x256, .f32⟩
  | 26 => ⟨S4x8x32x128x1, .f32⟩
  | 27 => ⟨S_, .f32⟩
  | 28 => ⟨S4x8x128x1, .f32⟩
  | 29 => ⟨S4x8x1x128x1, .f32⟩
  | 30 => ⟨S4x8x32x128x1, .f32⟩
  | 31 => ⟨S_, .f32⟩
  | 32 => ⟨S4x8x32x128, .f32⟩
  | 33 => ⟨S4x8x32x128x256, .f32⟩
  | 34 => ⟨S4x8x32x128x256, .f32⟩
  | 35 => ⟨S4x8x32x128x256, .f32⟩
  | 36 => ⟨S4x8x32x128x256, .f32⟩
  | 37 => ⟨S_, .f32⟩
  | 38 => ⟨S4x8x32x128, .f32⟩
  | 39 => ⟨S4x8x32x128x1, .f32⟩
  | 40 => ⟨S4x8x32x128x1, .f32⟩
  | 41 => ⟨S4x8x32x128x1, .f32⟩
  | 42 => ⟨S_, .f32⟩
  | 43 => ⟨S4x8x128x1, .f32⟩
  | 44 => ⟨S4x8x1x128x1, .f32⟩
  | 45 => ⟨S4x8x1x128x1, .f32⟩
  | 46 => ⟨S4x8x32x128x1, .f32⟩
  | 47 => ⟨S_, .f32⟩
  | 48 => ⟨S4x8x32x128, .f32⟩
  | 49 => ⟨S4x8x32x128, .f32⟩
  | 50 => ⟨S4x8x32x128x256, .f32⟩
  | 51 => ⟨S4x8x32x128x256, .f32⟩
  | 52 => ⟨S4x8x32x128x256, .f32⟩
  | 53 => ⟨S_, .f32⟩
  | 54 => ⟨S4x8x32x128x256, .f32⟩
  | 55 => ⟨S4x8x32x128x256, .f32⟩
  | 56 => ⟨S_, .f32⟩
  | 57 => ⟨S4x8x128x256, .f32⟩
  | 58 => ⟨S4x8x1x128x256, .f32⟩
  | 59 => ⟨S32x128x256, .f32⟩
  | 60 => ⟨S128x256x32, .f32⟩
  | 61 => ⟨S_, .f32⟩
  | 62 => ⟨S4x8x32x128x256, .f32⟩
  | 63 => ⟨S4x8x32x128x256, .f32⟩
  | 64 => ⟨S4x32x256x128x8, .f32⟩
  | 65 => ⟨S4x32x128x8x64, .f32⟩
  | 66 => ⟨S32x128x4x8x64, .f32⟩
  | 67 => ⟨S4x32x256x64, .f32⟩
  | 68 => ⟨S32x256x4x64, .f32⟩
  | 69 => ⟨S32x128x4x64, .f32⟩
  | 70 => ⟨S32x128x4x64, .f32⟩
  | 71 => ⟨S_, .f32⟩
  | 72 => ⟨S33x128x4x64, .f32⟩
  | 73 => ⟨S_, .f32⟩
  | 74 => ⟨S33x128x4x64, .f32⟩
  | 75 => ⟨S33x128x4x64, .f32⟩
  | 76 => ⟨S4224x4x64, .f32⟩
  | 77 => ⟨S128x4x64, .f32⟩
  | 78 => ⟨S4096x4x64, .f32⟩
  | 79 => ⟨S4096x256, .f32⟩
  | 80 => ⟨S32x128x4x64, .f32⟩
  | 81 => ⟨S32x128x4x64, .f32⟩
  | 82 => ⟨S_, .f32⟩
  | 83 => ⟨S33x128x4x64, .f32⟩
  | 84 => ⟨S_, .f32⟩
  | 85 => ⟨S33x128x4x64, .f32⟩
  | 86 => ⟨S33x128x4x64, .f32⟩
  | 87 => ⟨S4224x4x64, .f32⟩
  | 88 => ⟨S128x4x64, .f32⟩
  | 89 => ⟨S4096x4x64, .f32⟩
  | 90 => ⟨S4096x256, .f32⟩
  | 91 => ⟨S4096x2048, .f32⟩
  | 92 => ⟨S4096x4x64, .f32⟩
  | 93 => ⟨S4x4096x64, .f32⟩
  | 94 => ⟨S4096x4x64, .f32⟩
  | 95 => ⟨S4x4096x64, .f32⟩
  | 96 => ⟨S128x256x4x8, .f32⟩
  | 97 => ⟨S4x256x8x128, .f32⟩
  | 98 => ⟨S4x256x1024, .f32⟩
  | 99 => ⟨S4096x2048, .bf16⟩
  | 100 => ⟨S4x4096x64, .bf16⟩
  | 101 => ⟨S4x4096x64, .bf16⟩
  | 102 => ⟨S4x1x1024, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_call0_v0 : Ref sig .tc := ⟨.hbm, 78, rfl⟩
abbrev main_v62_1 : Ref sig .tc := ⟨.hbm, 79, rfl⟩
abbrev main_call0_v2 : Ref sig .tc := ⟨.hbm, 80, rfl⟩
abbrev main_v62_0 : Ref sig .tc := ⟨.hbm, 81, rfl⟩
abbrev main_call0_cst : Ref sig .tc := ⟨.hbm, 82, rfl⟩
abbrev main_v62_2 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_21 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_22 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_23 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_24 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_25 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_call1_cst : Ref sig .tc := ⟨.hbm, 181, rfl⟩
abbrev main_call1_v0 : Ref sig .tc := ⟨.hbm, 182, rfl⟩
abbrev main_v144 : Ref sig .tc := ⟨.hbm, 183, rfl⟩
abbrev main_cst_26 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_27 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_28 : Ref sig .tc := ⟨.hbm, 199, rfl⟩
abbrev main_v158 : Ref sig .tc := ⟨.hbm, 200, rfl⟩
abbrev main_cst_29 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_30 : Ref sig .tc := ⟨.hbm, 210, rfl⟩
abbrev main_v167 : Ref sig .tc := ⟨.hbm, 211, rfl⟩
abbrev main_cst_31 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩

abbrev nD : Nat := 1
abbrev τ : Topo := Topo.v7x

variable {F : FTy → Type} [FloatOps F]

def κ : String → Option EReal := fun
  | "mask" => some ⊥
  | _ => none
-- ==== Kernel2.lean ====
abbrev S4096x2048 : Shape := ⟨2, ![4096, 2048]⟩
abbrev S4096x8192 : Shape := ⟨2, ![4096, 8192]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4096x2048 : Shape := ⟨2, ![4096, 2048]⟩
abbrev S4096x8192 : Shape := ⟨2, ![4096, 8192]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .bf16⟩
  | .hbm, ⟨3, _⟩ => ⟨S4096x2048, .bf16⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | .hbm, ⟨44, _⟩ => ⟨S4096x2048, .bf16⟩
  | .hbm, ⟨45, _⟩ => ⟨S4096x2048, .bf16⟩
  | .hbm, ⟨46, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | .hbm, ⟨10, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | .hbm, ⟨15, _⟩ => ⟨S2048x8x1408, .f32⟩
  | .hbm, ⟨16, _⟩ => ⟨S8x2048x1408, .f32⟩
  | .hbm, ⟨17, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x5632 : Shape := ⟨3, ![2, 4096, 5632]⟩
abbrev S2048x11264 : Shape := ⟨2, ![2048, 11264]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S_, .f32⟩
  | .hbm, ⟨8, _⟩ => ⟨S4096x2048, .f32⟩
  | .hbm, ⟨9, _⟩ => ⟨S2048x11264, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x768 : Shape := ⟨2, ![4096, 768]⟩
abbrev S4096x4096 : Shape := ⟨2, ![4096, 4096]⟩
abbrev S768x4096 : Shape := ⟨2, ![768, 4096]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x4096, .bf16⟩
  | .hbm, ⟨2, _⟩ => ⟨S768x4096, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x768 : Shape := ⟨2, ![4096, 768]⟩
abbrev S4096x4096 : Shape := ⟨2, ![4096, 4096]⟩
abbrev S_ : Shape := ⟨0, ![]⟩
abbrev S768x4096 : Shape := ⟨2, ![768, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x4096, .bf16⟩
  | .hbm, ⟨2, _⟩ => ⟨S_, .f32⟩
  | .hbm, ⟨3, _⟩ => ⟨S768x4096, .f32⟩
  | .hbm, ⟨4, _⟩ => ⟨S4096x768, .f32⟩
  | .hbm, ⟨5, _⟩ => ⟨S4096x4096, .f32⟩
  | .hbm, ⟨6, _⟩ => ⟨S4096x4096, .f32⟩
  | .hbm, ⟨7, _⟩ => ⟨S4096x768, .f32⟩
  | .hbm, ⟨8, _⟩ => ⟨S768x4096, .f32⟩
  | .hbm, ⟨9, _⟩ => ⟨S4096x768, .f32⟩
  | .hbm, ⟨10, _⟩ => ⟨S768x4096, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x4096 : Shape := ⟨2, ![4096, 4096]⟩
abbrev S768x4096 : Shape := ⟨2, ![768, 4096]⟩
abbrev S4096x768 : Shape := ⟨2, ![4096, 768]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S768x4096, .bf16⟩
  | .hbm, ⟨2, _⟩ => ⟨S4096x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S768x4096 : Shape := ⟨2, ![768, 4096]⟩
abbrev S_ : Shape := ⟨0, ![]⟩
abbrev S4096x768 : Shape := ⟨2, ![4096, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S768x4096, .bf16⟩
  | .hbm, ⟨2, _⟩ => ⟨S_, .f32⟩
  | .hbm, ⟨3, _⟩ => ⟨S4096x768, .f32⟩
  | .hbm, ⟨4, _⟩ => ⟨S768x4096, .f32⟩
  | .hbm, ⟨5, _⟩ => ⟨S4096x4096, .f32⟩
  | .hbm, ⟨6, _⟩ => ⟨S4096x4096, .f32⟩
  | .hbm, ⟨7, _⟩ => ⟨S4096x768, .f32⟩
  | .hbm, ⟨8, _⟩ => ⟨S768x4096, .f32⟩
  | .hbm, ⟨9, _⟩ => ⟨S4096x768, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x512 : Shape := ⟨2, ![4096, 512]⟩
abbrev S4096x4096 : Shape := ⟨2, ![4096, 4096]⟩
abbrev S8x512x512 : Shape := ⟨3, ![8, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S8x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩
abbrev S512x8x512 : Shape := ⟨3, ![512, 8, 512]⟩
abbrev S8x512x512 : Shape := ⟨3, ![8, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S4096x512, .f32⟩
  | .hbm, ⟨10, _⟩ => ⟨S512x8x512, .f32⟩
  | .hbm, ⟨11, _⟩ => ⟨S8x512x512, .f32⟩
  | .hbm, ⟨12, _⟩ => ⟨S8x512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S4096x4096 : Shape := ⟨2, ![4096, 4096]⟩
abbrev S512x4096 : Shape := ⟨2, ![512, 4096]⟩
abbrev S4096x512 : Shape := ⟨2, ![4096, 512]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S_, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S4096x8192 : Shape := ⟨2, ![4096, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S1024x8192, .f32⟩
  | .hbm, ⟨11, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S4096x2048 : Shape := ⟨2, ![4096, 2048]⟩
abbrev S4096x8192 : Shape := ⟨2, ![4096, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S1024x8192, .f32⟩
  | .hbm, ⟨11, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x768 : Shape := ⟨2, ![4096, 768]⟩
abbrev S768x4096 : Shape := ⟨2, ![768, 4096]⟩
abbrev S4096x4096 : Shape := ⟨2, ![4096, 4096]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x4096, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x768 : Shape := ⟨2, ![4096, 768]⟩
abbrev S768x4096 : Shape := ⟨2, ![768, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x4096, .bf16⟩
  | .hbm, ⟨2, _⟩ => ⟨S4096x768, .f32⟩
  | .hbm, ⟨3, _⟩ => ⟨S768x4096, .f32⟩
  | .hbm, ⟨4, _⟩ => ⟨S4096x4096, .f32⟩
  | .hbm, ⟨5, _⟩ => ⟨S4096x4096, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S256x256 : Shape := ⟨2, ![256, 256]⟩
abbrev S_ : Shape := ⟨0, ![]⟩
abbrev S2x4096x5632 : Shape := ⟨3, ![2, 4096, 5632]⟩
abbrev S2x3x5632 : Shape := ⟨3, ![2, 3, 5632]⟩
abbrev S2x1x5632 : Shape := ⟨3, ![2, 1, 5632]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S2x256x1408 : Shape := ⟨3, ![2, 256, 1408]⟩
abbrev S2x3x1408 : Shape := ⟨3, ![2, 3, 1408]⟩
abbrev S2x1x1408 : Shape := ⟨3, ![2, 1, 1408]⟩
abbrev S2x8x1408 : Shape := ⟨3, ![2, 8, 1408]⟩
abbrev S8x1408 : Shape := ⟨2, ![8, 1408]⟩
abbrev S248x1408 : Shape := ⟨2, ![248, 1408]⟩
abbrev S1x8x1408 : Shape := ⟨3, ![1, 8, 1408]⟩
abbrev S1x256x1408 : Shape := ⟨3, ![1, 256, 1408]⟩
abbrev S1x1x1408 : Shape := ⟨3, ![1, 1, 1408]⟩
abbrev S1408 : Shape := ⟨1, ![1408]⟩

abbrev nBuf : Space → Nat
  | .hbm => 49
  | .vmem => 29
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S3x11264, .f32⟩
  | .hbm, ⟨3, _⟩ => ⟨S1x11264, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x256, .bf16⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S_, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S_, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S2x4096x5632, .bf16⟩
  | .hbm, ⟨47, _⟩ => ⟨S2x3x5632, .f32⟩
  | .hbm, ⟨48, _⟩ => ⟨S2x1x5632, .f32⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S256x1408, .bf16⟩
  | .local _ .vmem, ⟨9, _⟩ => ⟨S256x1408, .bf16⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S2x256x1408, .bf16⟩
  | .local _ .vmem, ⟨23, _⟩ => ⟨S2x256x1408, .bf16⟩
  | .local _ .vmem, ⟨24, _⟩ => ⟨S2x3x1408, .f32⟩
  | .local _ .vmem, ⟨25, _⟩ => ⟨S2x3x1408, .f32⟩
  | .local _ .vmem, ⟨26, _⟩ => ⟨S2x1x1408, .f32⟩
  | .local _ .vmem, ⟨27, _⟩ => ⟨S2x1x1408, .f32⟩
  | .local _ .vmem, ⟨28, _⟩ => ⟨S2x8x1408, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_cst_6 : Ref sig .tc := ⟨.hbm, 31, rfl⟩
abbrev main_call2_v0 : Ref sig .tc := ⟨.hbm, 32, rfl⟩
abbrev main_call2_v1 : Ref sig .tc := ⟨.hbm, 33, rfl⟩
abbrev main_v15 : Ref sig .tc := ⟨.hbm, 34, rfl⟩
abbrev main_v16 : Ref sig .tc := ⟨.hbm, 35, rfl⟩
abbrev main_c_7 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_8 : Ref sig .tc := ⟨.hbm, 40, rfl⟩
abbrev main_cst_9 : Ref sig .tc := ⟨.hbm, 41, rfl⟩
abbrev main_call3_v0 : Ref sig .tc := ⟨.hbm, 42, rfl⟩
abbrev main_call3_v1 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let v4 : BitVec 32 := Scalar.addi arg0 c0_i32_0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi arg0 c4_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let v4 : BitVec 32 := Scalar.addi arg0 c4_i32
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi arg0 c0_i32
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2x256x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x3x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference22Ideal.lean ====
abbrev S4096x11264 : Shape := ⟨2, ![4096, 11264]⟩
abbrev S4096x5632 : Shape := ⟨2, ![4096, 5632]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S1x4096x5632 : Shape := ⟨3, ![1, 4096, 5632]⟩
abbrev S2x4096x5632 : Shape := ⟨3, ![2, 4096, 5632]⟩
abbrev S3x5632 : Shape := ⟨2, ![3, 5632]⟩
abbrev S1x3x5632 : Shape := ⟨3, ![1, 3, 5632]⟩
abbrev S2x3x5632 : Shape := ⟨3, ![2, 3, 5632]⟩
abbrev S1x5632 : Shape := ⟨2, ![1, 5632]⟩
abbrev S1x1x5632 : Shape := ⟨3, ![1, 1, 5632]⟩
abbrev S2x1x5632 : Shape := ⟨3, ![2, 1, 5632]⟩

abbrev nBuf : Space → Nat
  | .hbm => 124
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .hbm, ⟨2, _⟩ => ⟨S3x11264, .f32⟩
  | .hbm, ⟨3, _⟩ => ⟨S1x11264, .f32⟩
  | .hbm, ⟨4, _⟩ => ⟨S4096x11264, .f32⟩
  | .hbm, ⟨5, _⟩ => ⟨S_, .f32⟩
  | .hbm, ⟨6, _⟩ => ⟨S2x11264, .f32⟩
  | .hbm, ⟨7, _⟩ => ⟨S4098x11264, .f32⟩
  | .hbm, ⟨8, _⟩ => ⟨S_, .f32⟩
  | .hbm, ⟨9, _⟩ => ⟨S2x11264, .f32⟩
  | .hbm, ⟨10, _⟩ => ⟨S1x11264, .f32⟩
  | .hbm, ⟨11, _⟩ => ⟨S11264, .f32⟩
  | .hbm, ⟨12, _⟩ => ⟨S4096x11264, .f32⟩
  | .hbm, ⟨13, _⟩ => ⟨S1x11264, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S1x11264, .f32⟩
  | .hbm, ⟨19, _⟩ => ⟨S11264, .f32⟩
  | .hbm, ⟨20, _⟩ => ⟨S4096x11264, .f32⟩
  | .hbm, ⟨21, _⟩ => ⟨S1x11264, .f32⟩
  | .hbm, ⟨22, _⟩ => ⟨S4096x11264, .f32⟩
  | .hbm, ⟨23, _⟩ => ⟨S4096x11264, .f32⟩
  | .hbm, ⟨24, _⟩ => ⟨S4096x11264, .f32⟩
  | .hbm, ⟨25, _⟩ => ⟨S1x11264, .f32⟩
  | .hbm, ⟨26, _⟩ => ⟨S11264, .f32⟩
  | .hbm, ⟨27, _⟩ => ⟨S4096x11264, .f32⟩
  | .hbm, ⟨28, _⟩ => ⟨S1x11264, .f32⟩
  | .hbm, ⟨29, _⟩ => ⟨S4096x11264, .f32⟩
  | .hbm, ⟨30, _⟩ => ⟨S4096x11264, .f32⟩
  | .hbm, ⟨31, _⟩ => ⟨S4096x11264, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4096x5632, .f32⟩
  | .hbm, ⟨40, _⟩ => ⟨S4096x5632, .f32⟩
  | .hbm, ⟨41, _⟩ => ⟨S_, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S4096x5632, .f32⟩
  | .hbm, ⟨50, _⟩ => ⟨S4096x5632, .f32⟩
  | .hbm, ⟨51, _⟩ => ⟨S_, .f32⟩
  | .hbm, ⟨52, _⟩ => ⟨S4096x11264, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S_, .f32⟩
  | .hbm, ⟨58, _⟩ => ⟨S4096x11264, .f32⟩
  | .hbm, ⟨59, _⟩ => ⟨S4096x11264, .f32⟩
  | .hbm, ⟨60, _⟩ => ⟨S4096x11264, .f32⟩
  | .hbm, ⟨61, _⟩ => ⟨S4096x11264, .f32⟩
  | .hbm, ⟨62, _⟩ => ⟨S4096x11264, .f32⟩
  | .hbm, ⟨63, _⟩ => ⟨S_, .f32⟩
  | .hbm, ⟨64, _⟩ => ⟨S11264, .f32⟩
  | .hbm, ⟨65, _⟩ => ⟨S1x11264, .f32⟩
  | .hbm, ⟨66, _⟩ => ⟨S_, .f32⟩
  | .hbm, ⟨67, _⟩ => ⟨S11264, .f32⟩
  | .hbm, ⟨68, _⟩ => ⟨S_, .f32⟩
  | .hbm, ⟨69, _⟩ => ⟨S4098x11264, .f32⟩
  | .hbm, ⟨70, _⟩ => ⟨S1x11264, .f32⟩
  | .hbm, ⟨71, _⟩ => ⟨S_, .f32⟩
  | .hbm, ⟨72, _⟩ => ⟨S3x11264, .f32⟩
  | .hbm, ⟨73, _⟩ => ⟨S4096x11264, .f32⟩
  | .hbm, ⟨74, _⟩ => ⟨S4096x11264, .f32⟩
  | .hbm, ⟨75, _⟩ => ⟨S4096x11264, .f32⟩
  | .hbm, ⟨76, _⟩ => ⟨S_, .f32⟩
  | .hbm, ⟨77, _⟩ => ⟨S11264, .f32⟩
  | .hbm, ⟨78, _⟩ => ⟨S1x11264, .f32⟩
  | .hbm, ⟨79, _⟩ => ⟨S_, .f32⟩
  | .hbm, ⟨80, _⟩ => ⟨S11264, .f32⟩
  | .hbm, ⟨81, _⟩ => ⟨S_, .f32⟩
  | .hbm, ⟨82, _⟩ => ⟨S4098x11264, .f32⟩
  | .hbm, ⟨83, _⟩ => ⟨S4098x11264, .f32⟩
  | .hbm, ⟨84, _⟩ => ⟨S1x11264, .f32⟩
  | .hbm, ⟨85, _⟩ => ⟨S_, .f32⟩
  | .hbm, ⟨86, _⟩ => ⟨S3x11264, .f32⟩
  | .hbm, ⟨87, _⟩ => ⟨S3x11264, .f32⟩
  | .hbm, ⟨88, _⟩ => ⟨S_, .f32⟩
  | .hbm, ⟨89, _⟩ => ⟨S11264, .f32⟩
  | .hbm, ⟨90, _⟩ => ⟨S1x11264, .f32⟩
  | .hbm, ⟨91, _⟩ => ⟨S4096x11264, .f32⟩
  | .hbm, ⟨92, _⟩ => ⟨S4096x11264, .f32⟩
  | .hbm, ⟨93, _⟩ => ⟨S4096x11264, .f32⟩
  | .hbm, ⟨94, _⟩ => ⟨S_, .f32⟩
  | .hbm, ⟨95, _⟩ => ⟨S11264, .f32⟩
  | .hbm, ⟨96, _⟩ => ⟨S1x11264, .f32⟩
  | .hbm, ⟨97, _⟩ => ⟨S_, .f32⟩
  | .hbm, ⟨98, _⟩ => ⟨S11264, .f32⟩
  | .hbm, ⟨99, _⟩ => ⟨S_, .f32⟩
  | .hbm, ⟨100, _⟩ => ⟨S4098x11264, .f32⟩
  | .hbm, ⟨101, _⟩ => ⟨S4098x11264, .f32⟩
  | .hbm, ⟨102, _⟩ => ⟨S1x11264, .f32⟩
  | .hbm, ⟨103, _⟩ => ⟨S_, .f32⟩
  | .hbm, ⟨104, _⟩ => ⟨S3x11264, .f32⟩
  | .hbm, ⟨105, _⟩ => ⟨S3x11264, .f32⟩
  | .hbm, ⟨106, _⟩ => ⟨S2x11264, .f32⟩
  | .hbm, ⟨107, _⟩ => ⟨S4096x11264, .f32⟩
  | .hbm, ⟨108, _⟩ => ⟨S4096x5632, .f32⟩
  | .hbm, ⟨109, _⟩ => ⟨S4096x5632, .f32⟩
  | .hbm, ⟨110, _⟩ => ⟨S1x4096x5632, .f32⟩
  | .hbm, ⟨111, _⟩ => ⟨S1x4096x5632, .f32⟩
  | .hbm, ⟨112, _⟩ => ⟨S2x4096x5632, .f32⟩
  | .hbm, ⟨113, _⟩ => ⟨S3x5632, .f32⟩
  | .hbm, ⟨114, _⟩ => ⟨S3x5632, .f32⟩
  | .hbm, ⟨115, _⟩ => ⟨S1x3x5632, .f32⟩
  | .hbm, ⟨116, _⟩ => ⟨S1x3x5632, .f32⟩
  | .hbm, ⟨117, _⟩ => ⟨S2x3x5632, .f32⟩
  | .hbm, ⟨118, _⟩ => ⟨S1x5632, .f32⟩
  | .hbm, ⟨119, _⟩ => ⟨S1x5632, .f32⟩
  | .hbm, ⟨120, _⟩ => ⟨S1x1x5632, .f32⟩
  | .hbm, ⟨121, _⟩ => ⟨S1x1x5632, .f32⟩
  | .hbm, ⟨122, _⟩ => ⟨S2x1x5632, .f32⟩
  | .hbm, ⟨123, _⟩ => ⟨S2x4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== Kernel23.lean ====
abbrev S4096x11264 : Shape := ⟨2, ![4096, 11264]⟩
abbrev S3x11264 : Shape := ⟨2, ![3, 11264]⟩
abbrev S1x11264 : Shape := ⟨2, ![1, 11264]⟩
abbrev S256x256 : Shape := ⟨2, ![256, 256]⟩
abbrev S_ : Shape := ⟨0, ![]⟩
abbrev S4096x5632 : Shape := ⟨2, ![4096, 5632]⟩
abbrev S256x1408 : Shape := ⟨2, ![256, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S248x1408 : Shape := ⟨2, ![248, 1408]⟩

abbrev nBuf : Space → Nat
  | .hbm => 46
  | .vmem => 20
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .bf16⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S_, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S256x256, .bf16⟩
  | .hbm, ⟨45, _⟩ => ⟨S4096x5632, .bf16⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x256, .bf16⟩
  | .local _ .vmem, ⟨17, _⟩ => ⟨S256x256, .bf16⟩
  | .local _ .vmem, ⟨18, _⟩ => ⟨S256x1408, .bf16⟩
  | .local _ .vmem, ⟨19, _⟩ => ⟨S256x1408, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_cst_6 : Ref sig .tc := ⟨.hbm, 30, rfl⟩
abbrev main_call2_v0 : Ref sig .tc := ⟨.hbm, 31, rfl⟩
abbrev main_call2_v1 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_8 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg1 c4_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference23Ideal.lean ====
abbrev S4096x11264 : Shape := ⟨2, ![4096, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S4098x11264 : Shape := ⟨2, ![4098, 11264]⟩
abbrev S11264 : Shape := ⟨1, ![11264]⟩
abbrev S4096x5632 : Shape := ⟨2, ![4096, 5632]⟩

abbrev nBuf : Space → Nat
  | .hbm => 42
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S1x11264, .f32⟩
  | .hbm, ⟨3, _⟩ => ⟨S4096x11264, .f32⟩
  | .hbm, ⟨4, _⟩ => ⟨S_, .f32⟩
  | .hbm, ⟨5, _⟩ => ⟨S2x11264, .f32⟩
  | .hbm, ⟨6, _⟩ => ⟨S4098x11264, .f32⟩
  | .hbm, ⟨7, _⟩ => ⟨S1x11264, .f32⟩
  | .hbm, ⟨8, _⟩ => ⟨S11264, .f32⟩
  | .hbm, ⟨9, _⟩ => ⟨S4096x11264, .f32⟩
  | .hbm, ⟨10, _⟩ => ⟨S1x11264, .f32⟩
  | .hbm, ⟨11, _⟩ => ⟨S4096x11264, .f32⟩
  | .hbm, ⟨12, _⟩ => ⟨S4096x11264, .f32⟩
  | .hbm, ⟨13, _⟩ => ⟨S4096x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S4096x11264, .f32⟩
  | .hbm, ⟨18, _⟩ => ⟨S1x11264, .f32⟩
  | .hbm, ⟨19, _⟩ => ⟨S4096x11264, .f32⟩
  | .hbm, ⟨20, _⟩ => ⟨S4096x11264, .f32⟩
  | .hbm, ⟨21, _⟩ => ⟨S4096x11264, .f32⟩
  | .hbm, ⟨22, _⟩ => ⟨S1x11264, .f32⟩
  | .hbm, ⟨23, _⟩ => ⟨S11264, .f32⟩
  | .hbm, ⟨24, _⟩ => ⟨S4096x11264, .f32⟩
  | .hbm, ⟨25, _⟩ => ⟨S1x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S_, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel24.lean ====
abbrev S4096x8192 : Shape := ⟨2, ![4096, 8192]⟩
abbrev S4096x2048 : Shape := ⟨2, ![4096, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x8192 : Shape := ⟨2, ![4096, 8192]⟩
abbrev S4096x2048 : Shape := ⟨2, ![4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x2048, .bf16⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.SwaStep.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the kernel keeps between grid points: the staged results (the query rows' gradient, the key and value rows'
    gradients, the bias block's and the sinks' running sums) and the two carried halves (keys, values). -/
structure St (F : FTy → Type) [FloatOps F] where
  dq : Vec F S128x512 .bf16
  dk : Vec F S1x128x64 .bf16
  dv : Vec F S1x128x64 .bf16
  db : Vec F S1x256x1024 .f32
  ds : Vec F S1x1x1024 .f32
  ck : Vec F S128x64 .f32
  cv : Vec F S128x64 .f32

/-- The blocks a point reads: queries, this and the previous block of keys and of values, bias, sinks, the cotangent. -/
structure In (F : FTy → Type) [FloatOps F] where
  q : Vec F S128x512 .bf16
  kc : Vec F S1x128x64 .bf16
  kp : Vec F S1x128x64 .bf16
  vc : Vec F S1x128x64 .bf16
  vp : Vec F S1x128x64 .bf16
  bias : Vec F S1x256x1024 .f32
  sink : Vec F S1x1x1024 .f32
  g : Vec F S128x512 .bf16

/-- The exponentials of the shifted scores, keys by rows. -/
abbrev In.e (x : In F) (b : BitVec 32) : FVec F S256x1024 .f32 := k0_pay19 b x.q x.kp x.kc x.bias x.sink
/-- The exponentials of the shifted sinks. -/
abbrev In.es (x : In F) (b : BitVec 32) : FVec F S1x1024 .f32 := k0_pay20 b x.q x.kp x.kc x.bias x.sink
/-- The attention weights. -/
abbrev In.p (x : In F) (b : BitVec 32) : FVec F S256x1024 .f32 := k0_pay22 (x.e b) (x.es b)
/-- The row sums `delta`. -/
abbrev In.delta (x : In F) (b : BitVec 32) : FVec F S1x1024 .f32 := k0_pay26 (x.e b) (x.es b) x.vp x.vc x.g
/-- The scores' gradient. -/
abbrev In.dst (x : In F) (b : BitVec 32) : FVec F S256x1024 .f32 := k0_pay27 (x.e b) (x.es b) x.vp x.vc x.g

/-- The eight column stores of the query gradient's block, last first. -/
abbrev dqPieces (v23 : FVec F S256x64 .bf16) (v77 : FVec F S256x1024 .f32) : List (View.Piece (Elt F) S128x512 .bf16) :=
  [⟨Rect.unit (s := S128x512) ![0, 448] S128x64.size inb_S128x512_S128x64_0_448, k0_pay5 (k0_pay40 v23 v77)⟩,
   ⟨Rect.unit (s := S128x512) ![0, 384] S128x64.size inb_S128x512_S128x64_0_384, k0_pay39 v23 v77⟩,
   ⟨Rect.unit (s := S128x512) ![0, 320] S128x64.size inb_S128x512_S128x64_0_320, k0_pay38 v23 v77⟩,
   ⟨Rect.unit (s := S128x512) ![0, 256] S128x64.size inb_S128x512_S128x64_0_256, k0_pay37 v23 v77⟩,
   ⟨Rect.unit (s := S128x512) ![0, 192] S128x64.size inb_S128x512_S128x64_0_192, k0_pay36 v23 v77⟩,
   ⟨Rect.unit (s := S128x512) ![0, 128] S128x64.size inb_S128x512_S128x64_0_128, k0_pay35 v23 v77⟩,
   ⟨Rect.unit (s := S128x512) ![0, 64] S128x64.size inb_S128x512_S128x64_0_64, k0_pay34 v23 v77⟩,
   ⟨Rect.unit (s := S128x512) ![0, 0] S128x64.size inb_S128x512_S128x64_0_0, k0_pay33 v23 v77⟩]

/-- They tile the block. -/
theorem dq_cover (v23 : FVec F S256x64 .bf16) (v77 : FVec F S256x1024 .f32) (y : S128x512.Idx) :
    ∃ pc ∈ dqPieces v23 v77, y ∈ pc.1.set :=
  View.cover_of_tiledL (dqPieces v23 v77) S128x64.size (by sl_kernel_rfl) y

/-- A point with a query block: what it leaves. -/
def stepB (b : BitVec 32) (x : In F) (db : Vec F S1x256x1024 .f32) (ds : Vec F S1x1x1024 .f32) (ck cv : Vec F S128x64 .f32) : St F where
  dq := View.canon (dqPieces (k0_pay15 x.kp x.kc) (x.dst b))
  dk := k0_pay8 (k0_pay14 x.q) (k0_pay31 (x.dst b)) ck
  dv := k0_pay9 (x.p b) (k0_pay24 x.g) cv
  db := k0_pay28 (x.e b) (x.es b) x.vp x.vc x.g db
  ds := k0_pay30 (k0_pay23 (x.e b) (x.es b)) (x.delta b) (k0_pay29 ds) (Scalar.ofBits .f32 0x00000000#32)
  ck := k0_pay10 (k0_pay14 x.q) (k0_pay31 (x.dst b))
  cv := k0_pay11 (x.p b) (k0_pay24 x.g)

/-- The first point of a head: the same from zeros. -/
def stepA (b : BitVec 32) (x : In F) : St F := stepB b x (k0_pay1 (F := F)) (k0_pay2 (F := F)) (k0_pay3 (F := F)) (k0_pay4 (F := F))

/-- The last point of a head: the carried halves are written out, everything else stays. -/
def stepC (s : St F) : St F := { s with dk := k0_pay12 s.ck, dv := k0_pay13 s.cv }

set_option maxHeartbeats 4000000 in
/-- The body's triple in case A: the first point of a head. -/
theorem runA (c : Dev nD) (i : grid0.Coords) (arg2 : Memref sig .tc .vmem S128x512 .bf16) (harg2 : arg2.IsWhole) (arg3 : Memref sig .tc .vmem S1x128x64 .bf16) (harg3 : arg3.IsWhole) (arg4 : Memref sig .tc .vmem S1x128x64 .bf16) (harg4 : arg4.IsWhole) (arg5 : Memref sig .tc .vmem S1x128x64 .bf16) (harg5 : arg5.IsWhole) (arg6 : Memref sig .tc .vmem S1x128x64 .bf16) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x128x64 .bf16) (harg11 : arg11.IsWhole) (arg12 : Memref sig .tc .vmem S1x128x64 .bf16) (harg12 : arg12.IsWhole) (arg13 : Memref sig .tc .vmem S1x256x1024 .f32) (harg13 : arg13.IsWhole) (arg14 : Memref sig .tc .vmem S1x1x1024 .f32) (harg14 : arg14.IsWhole) (arg15 : Memref sig .tc .vmem S128x64 .f32) (harg15 : arg15.IsWhole) (arg16 : Memref sig .tc .vmem S128x64 .f32) (harg16 : arg16.IsWhole) (hc0 : (k0_cond1 i = 1#1)) (hc1 : (k0_cond2 i = 1#1)) (hc2 : ¬(k0_cond3 i = 1#1))
    (x : In F) (E : Set ℕ) (K : PUnit → sProp 𝕄) :
    iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ owns (c : Thread nD τ) arg10 fullShare (stepA (BitVec.ofNat 32 (i 1).val) x).dq ∗ owns (c : Thread nD τ) arg11 fullShare (stepA (BitVec.ofNat 32 (i 1).val) x).dk ∗ owns (c : Thread nD τ) arg12 fullShare (stepA (BitVec.ofNat 32 (i 1).val) x).dv ∗ owns (c : Thread nD τ) arg13 fullShare (stepA (BitVec.ofNat 32 (i 1).val) x).db ∗ owns (c : Thread nD τ) arg14 fullShare (stepA (BitVec.ofNat 32 (i 1).val) x).ds ∗ owns (c : Thread nD τ) arg15 fullShare (stepA (BitVec.ofNat 32 (i 1).val) x).ck ∗ owns (c : Thread nD τ) arg16 fullShare (stepA (BitVec.ofNat 32 (i 1).val) x).cv) -∗ K ⟨⟩))
      ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_swa_bwd_eq_skeleton]; unfold cc0_swa_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap
    · iexact H10
    ipureintro
    refine (View.read_writes_eq_canon _ _ _ (fun y => dq_cover _ _ y)).trans ?_
    frame_out
    all_goals rfl
  isplitl [H11]
  · iexists _; isplitr; swap
    · iexact H11
    ipureintro
    refine (View.read_writes_full _ _ _ _ _).trans ?_
    frame_out
    all_goals rfl
  isplitl [H12]
  · iexists _; isplitr; swap
    · iexact H12
    ipureintro
    refine (View.read_writes_full _ _ _ _ _).trans ?_
    frame_out
    all_goals rfl
  isplitl [H13]
  · iexists _; isplitr; swap
    · iexact H13
    ipureintro
    refine (View.read_writes_full _ _ _ _ _).trans ?_
    frame_out
    all_goals rfl
  isplitl [H14]
  · iexists _; isplitr; swap
    · iexact H14
    ipureintro
    refine (View.read_writes_full _ _ _ _ _).trans ?_
    frame_out
    all_goals rfl
  isplitl [H15]
  · iexists _; isplitr; swap
    · iexact H15
    ipureintro
    refine (View.read_writes_full _ _ _ _ _).trans ?_
    frame_out
    all_goals rfl
  iexists _; isplitr; swap
  · iexact H16
  ipureintro
  refine (View.read_writes_full _ _ _ _ _).trans ?_
  frame_out
  all_goals rfl

set_option maxHeartbeats 4000000 in
/-- The body's triple in case B: a later point with a query block. -/
theorem runB (c : Dev nD) (i : grid0.Coords) (arg2 : Memref sig .tc .vmem S128x512 .bf16) (harg2 : arg2.IsWhole) (arg3 : Memref sig .tc .vmem S1x128x64 .bf16) (harg3 : arg3.IsWhole) (arg4 : Memref sig .tc .vmem S1x128x64 .bf16) (harg4 : arg4.IsWhole) (arg5 : Memref sig .tc .vmem S1x128x64 .bf16) (harg5 : arg5.IsWhole) (arg6 : Memref sig .tc .vmem S1x128x64 .bf16) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x128x64 .bf16) (harg11 : arg11.IsWhole) (arg12 : Memref sig .tc .vmem S1x128x64 .bf16) (harg12 : arg12.IsWhole) (arg13 : Memref sig .tc .vmem S1x256x1024 .f32) (harg13 : arg13.IsWhole) (arg14 : Memref sig .tc .vmem S1x1x1024 .f32) (harg14 : arg14.IsWhole) (arg15 : Memref sig .tc .vmem S128x64 .f32) (harg15 : arg15.IsWhole) (arg16 : Memref sig .tc .vmem S128x64 .f32) (harg16 : arg16.IsWhole) (hc0 : ¬(k0_cond1 i = 1#1)) (hc1 : (k0_cond2 i = 1#1)) (hc2 : ¬(k0_cond3 i = 1#1))
    (x : In F) (s : St F) (E : Set ℕ) (K : PUnit → sProp 𝕄) :
    iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.db ∗ owns (c : Thread nD τ) arg14 fullShare s.ds ∗ owns (c : Thread nD τ) arg15 fullShare s.ck ∗ owns (c : Thread nD τ) arg16 fullShare s.cv
        ∗ (iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ owns (c : Thread nD τ) arg10 fullShare (stepB (BitVec.ofNat 32 (i 1).val) x s.db s.ds s.ck s.cv).dq ∗ owns (c : Thread nD τ) arg11 fullShare (stepB (BitVec.ofNat 32 (i 1).val) x s.db s.ds s.ck s.cv).dk ∗ owns (c : Thread nD τ) arg12 fullShare (stepB (BitVec.ofNat 32 (i 1).val) x s.db s.ds s.ck s.cv).dv ∗ owns (c : Thread nD τ) arg13 fullShare (stepB (BitVec.ofNat 32 (i 1).val) x s.db s.ds s.ck s.cv).db ∗ owns (c : Thread nD τ) arg14 fullShare (stepB (BitVec.ofNat 32 (i 1).val) x s.db s.ds s.ck s.cv).ds ∗ owns (c : Thread nD τ) arg15 fullShare (stepB (BitVec.ofNat 32 (i 1).val) x s.db s.ds s.ck s.cv).ck ∗ owns (c : Thread nD τ) arg16 fullShare (stepB (BitVec.ofNat 32 (i 1).val) x s.db s.ds s.ck s.cv).cv) -∗ K ⟨⟩))
      ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_swa_bwd_eq_skeleton]; unfold cc0_swa_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap
    · iexact H10
    ipureintro
    refine (View.read_writes_eq_canon _ _ _ (fun y => dq_cover _ _ y)).trans ?_
    frame_out
    all_goals rfl
  isplitl [H11]
  · iexists _; isplitr; swap
    · iexact H11
    ipureintro
    refine (View.read_writes_full _ _ _ _ _).trans ?_
    frame_out
    all_goals rfl
  isplitl [H12]
  · iexists _; isplitr; swap
    · iexact H12
    ipureintro
    refine (View.read_writes_full _ _ _ _ _).trans ?_
    frame_out
    all_goals rfl
  isplitl [H13]
  · iexists _; isplitr; swap
    · iexact H13
    ipureintro
    refine (View.read_writes_full _ _ _ _ _).trans ?_
    frame_out
    all_goals rfl
  isplitl [H14]
  · iexists _; isplitr; swap
    · iexact H14
    ipureintro
    refine (View.read_writes_full _ _ _ _ _).trans ?_
    frame_out
    all_goals rfl
  isplitl [H15]
  · iexists _; isplitr; swap
    · iexact H15
    ipureintro
    refine (View.read_writes_full _ _ _ _ _).trans ?_
    frame_out
    all_goals rfl
  iexists _; isplitr; swap
  · iexact H16
  ipureintro
  refine (View.read_writes_full _ _ _ _ _).trans ?_
  frame_out
  all_goals rfl

set_option maxHeartbeats 4000000 in
/-- The body's triple in case C: the point behind the last query block. -/
theorem runC (c : Dev nD) (i : grid0.Coords) (arg2 : Memref sig .tc .vmem S128x512 .bf16) (harg2 : arg2.IsWhole) (arg3 : Memref sig .tc .vmem S1x128x64 .bf16) (harg3 : arg3.IsWhole) (arg4 : Memref sig .tc .vmem S1x128x64 .bf16) (harg4 : arg4.IsWhole) (arg5 : Memref sig .tc .vmem S1x128x64 .bf16) (harg5 : arg5.IsWhole) (arg6 : Memref sig .tc .vmem S1x128x64 .bf16) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S128x512 .bf16) (harg9 : arg9.IsWhole) (arg10 : Memref sig .tc .vmem S128x512 .bf16) (harg10 : arg10.IsWhole) (arg11 : Memref sig .tc .vmem S1x128x64 .bf16) (harg11 : arg11.IsWhole) (arg12 : Memref sig .tc .vmem S1x128x64 .bf16) (harg12 : arg12.IsWhole) (arg13 : Memref sig .tc .vmem S1x256x1024 .f32) (harg13 : arg13.IsWhole) (arg14 : Memref sig .tc .vmem S1x1x1024 .f32) (harg14 : arg14.IsWhole) (arg15 : Memref sig .tc .vmem S128x64 .f32) (harg15 : arg15.IsWhole) (arg16 : Memref sig .tc .vmem S128x64 .f32) (harg16 : arg16.IsWhole) (hc0 : ¬(k0_cond1 i = 1#1)) (hc1 : ¬(k0_cond2 i = 1#1)) (hc2 : (k0_cond3 i = 1#1))
    (x : In F) (s : St F) (E : Set ℕ) (K : PUnit → sProp 𝕄) :
    iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ owns (c : Thread nD τ) arg10 fullShare s.dq ∗ (∃ d, owns (c : Thread nD τ) arg11 fullShare d) ∗ (∃ d, owns (c : Thread nD τ) arg12 fullShare d) ∗ owns (c : Thread nD τ) arg13 fullShare s.db ∗ owns (c : Thread nD τ) arg14 fullShare s.ds ∗ owns (c : Thread nD τ) arg15 fullShare s.ck ∗ owns (c : Thread nD τ) arg16 fullShare s.cv
        ∗ (iprop(owns (c : Thread nD τ) arg2 fullShare x.q ∗ owns (c : Thread nD τ) arg3 fullShare x.kc ∗ owns (c : Thread nD τ) arg4 fullShare x.kp ∗ owns (c : Thread nD τ) arg5 fullShare x.vc ∗ owns (c : Thread nD τ) arg6 fullShare x.vp ∗ owns (c : Thread nD τ) arg7 fullShare x.bias ∗ owns (c : Thread nD τ) arg8 fullShare x.sink ∗ owns (c : Thread nD τ) arg9 fullShare x.g ∗ owns (c : Thread nD τ) arg10 fullShare (stepC s).dq ∗ owns (c : Thread nD τ) arg11 fullShare (stepC s).dk ∗ owns (c : Thread nD τ) arg12 fullShare (stepC s).dv ∗ owns (c : Thread nD τ) arg13 fullShare (stepC s).db ∗ owns (c : Thread nD τ) arg14 fullShare (stepC s).ds ∗ owns (c : Thread nD τ) arg15 fullShare (stepC s).ck ∗ owns (c : Thread nD τ) arg16 fullShare (stepC s).cv) -∗ K ⟨⟩))
      ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_swa_bwd_eq_skeleton]; unfold cc0_swa_bwd_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg15.eq_unread hf15; obtain rfl := harg16.eq_unread hf16
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap
    · iexact H11
    ipureintro
    refine (View.read_writes_full _ _ _ _ _).trans ?_
    frame_out
    all_goals rfl
  isplitl [H12]
  · iexists _; isplitr; swap
    · iexact H12
    ipureintro
    refine (View.read_writes_full _ _ _ _ _).trans ?_
    frame_out
    all_goals rfl
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; · ipureintro; exact harg16.read_unread _
  iexact H16

end Cert.KernelIdeal.Swa

end
-- ==== Proof.SwaRun.lean ====
module

public import proofs.«01_k».proof.Proof.SwaStep

@[expose] public section

set_option maxRecDepth 16384

noncomputable section

namespace Cert.KernelIdeal.Swa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem N_eq : cfg0.N = 132 := N_0

/-- The branch conditions in closed form over the points. -/
theorem cond1_iff : ∀ t : Fin cfg0.N, k0_cond1 (grid0.coords t) = 1#1 ↔ t.val % 33 = 0 :=
  (by decide +kernel : ∀ t : Fin grid0.N, k0_cond1 (grid0.coords t) = 1#1 ↔ t.val % 33 = 0)
theorem cond2_iff : ∀ t : Fin cfg0.N, k0_cond2 (grid0.coords t) = 1#1 ↔ t.val % 33 ≤ 31 :=
  (by decide +kernel : ∀ t : Fin grid0.N, k0_cond2 (grid0.coords t) = 1#1 ↔ t.val % 33 ≤ 31)
theorem cond3_iff : ∀ t : Fin cfg0.N, k0_cond3 (grid0.coords t) = 1#1 ↔ t.val % 33 = 32 :=
  (by decide +kernel : ∀ t : Fin grid0.N, k0_cond3 (grid0.coords t) = 1#1 ↔ t.val % 33 = 32)

/-- A window the body leaves alone at a point is at the last point of a head, where it is written back. -/
theorem idle_8 : ∀ t : Fin cfg0.N, cfg0.idle 8 (grid0.coords t) = true → t.val % 33 = 32 ∧ (cfg0.win 8).flush t = true :=
  (by decide +kernel : ∀ t : Fin grid0.N, cfg0.idle 8 (grid0.coords t) = true → t.val % 33 = 32 ∧ (cfg0.win 8).flush t = true)
theorem idle_11 : ∀ t : Fin cfg0.N, cfg0.idle 11 (grid0.coords t) = true → t.val % 33 = 32 ∧ (cfg0.win 11).flush t = true :=
  (by decide +kernel : ∀ t : Fin grid0.N, cfg0.idle 11 (grid0.coords t) = true → t.val % 33 = 32 ∧ (cfg0.win 11).flush t = true)
theorem idle_12 : ∀ t : Fin cfg0.N, cfg0.idle 12 (grid0.coords t) = true → t.val % 33 = 32 ∧ (cfg0.win 12).flush t = true :=
  (by decide +kernel : ∀ t : Fin grid0.N, cfg0.idle 12 (grid0.coords t) = true → t.val % 33 = 32 ∧ (cfg0.win 12).flush t = true)
theorem live_9 : ∀ t : Fin cfg0.N, cfg0.idle 9 (grid0.coords t) = false :=
  (by decide +kernel : ∀ t : Fin grid0.N, cfg0.idle 9 (grid0.coords t) = false)
theorem live_10 : ∀ t : Fin cfg0.N, cfg0.idle 10 (grid0.coords t) = false :=
  (by decide +kernel : ∀ t : Fin grid0.N, cfg0.idle 10 (grid0.coords t) = false)
/-- Where result window 8's buffer holds nothing yet. -/
def freshAt_8 (n : ℕ) : Bool := decide (n % 33 ≠ 32)
theorem fresh_8 (t : Fin cfg0.N) : cfg0.fresh 8 t.val = freshAt_8 t.val :=
  Pipeline.Cfg.fresh_tab cfg0 8 freshAt_8 rfl
    (by decide +kernel : ∀ t : Fin cfg0.N, freshAt_8 (t.val + 1) = ((cfg0.win 8).flush t || (cfg0.idle 8 (cfg0.grid.coords t) && freshAt_8 t.val)))
    t.val (Nat.le_of_lt t.isLt)
/-- Where result window 11's buffer holds nothing yet. -/
def freshAt_11 (n : ℕ) : Bool := decide (n % 33 = 0)
theorem fresh_11 (t : Fin cfg0.N) : cfg0.fresh 11 t.val = freshAt_11 t.val :=
  Pipeline.Cfg.fresh_tab cfg0 11 freshAt_11 rfl
    (by decide +kernel : ∀ t : Fin cfg0.N, freshAt_11 (t.val + 1) = ((cfg0.win 11).flush t || (cfg0.idle 11 (cfg0.grid.coords t) && freshAt_11 t.val)))
    t.val (Nat.le_of_lt t.isLt)
/-- Where result window 12's buffer holds nothing yet. -/
def freshAt_12 (n : ℕ) : Bool := decide (n % 33 = 0)
theorem fresh_12 (t : Fin cfg0.N) : cfg0.fresh 12 t.val = freshAt_12 t.val :=
  Pipeline.Cfg.fresh_tab cfg0 12 freshAt_12 rfl
    (by decide +kernel : ∀ t : Fin cfg0.N, freshAt_12 (t.val + 1) = ((cfg0.win 12).flush t || (cfg0.idle 12 (cfg0.grid.coords t) && freshAt_12 t.val)))
    t.val (Nat.le_of_lt t.isLt)

/-! ## What each point leaves -/

/-- The blocks point `t` reads. -/
def inAt (c : Dev nD) (t : Fin cfg0.N) : In F :=
  ⟨iblk m c 0 t, iblk m c 1 t, iblk m c 2 t, iblk m c 3 t, iblk m c 4 t, iblk m c 5 t, iblk m c 6 t, iblk m c 7 t⟩

/-- The number of the query block of point `t` within its head, as the kernel's word. -/
abbrev bw (t : Fin cfg0.N) : BitVec 32 := BitVec.ofNat 32 (grid0.coords t 1).val

/-- The kernel's state after point `n`. -/
def st (c : Dev nD) : (n : ℕ) → n < cfg0.N → St F
  | 0, h => stepA (bw ⟨0, h⟩) (inAt m c ⟨0, h⟩)
  | n + 1, h =>
    if (n + 1) % 33 = 0 then stepA (bw ⟨n + 1, h⟩) (inAt m c ⟨n + 1, h⟩)
    else if (n + 1) % 33 ≤ 31 then
      stepB (bw ⟨n + 1, h⟩) (inAt m c ⟨n + 1, h⟩) (st c n (Nat.lt_of_succ_lt h)).db (st c n (Nat.lt_of_succ_lt h)).ds
        (st c n (Nat.lt_of_succ_lt h)).ck (st c n (Nat.lt_of_succ_lt h)).cv
    else stepC (st c n (Nat.lt_of_succ_lt h))

/-- The state the point before `t` left. -/
abbrev pre (c : Dev nD) (t : Fin cfg0.N) : St F := st m c (t.val - 1) (Nat.lt_of_le_of_lt (Nat.sub_le _ _) t.isLt)

theorem st_A (c : Dev nD) (t : Fin cfg0.N) (h : t.val % 33 = 0) : st m c t.val t.isLt = stepA (bw t) (inAt m c t) := by
  obtain ⟨n, hn⟩ := t
  cases n with
  | zero => rfl
  | succ n => exact if_pos h
theorem st_B (c : Dev nD) (t : Fin cfg0.N) (h : ¬ t.val % 33 = 0) (h1 : t.val % 33 ≤ 31) :
    st m c t.val t.isLt = stepB (bw t) (inAt m c t) (pre m c t).db (pre m c t).ds (pre m c t).ck (pre m c t).cv := by
  obtain ⟨n, hn⟩ := t
  cases n with
  | zero => exact absurd rfl h
  | succ n => exact (if_neg h).trans (if_pos h1)
theorem st_C (c : Dev nD) (t : Fin cfg0.N) (h : t.val % 33 = 32) : st m c t.val t.isLt = stepC (pre m c t) := by
  obtain ⟨n, hn⟩ := t
  cases n with
  | zero => exact absurd (show 0 % 33 = 32 from h) (by decide)
  | succ n => exact (if_neg (by simp only at h; omega)).trans (if_neg (by simp only at h; omega))

/-! ## The proof data -/

/-- The two scratch buffers, whole. -/
abbrev scK : Memref sig .tc .vmem S128x64 .f32 := Memref.whole cc0_scratch0
abbrev scV : Memref sig .tc .vmem S128x64 .f32 := Memref.whole cc0_scratch1

/-- What the launch hands the region, the scratch as memrefs. -/
theorem launch_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- Between the points the scratch holds the carried halves. -/
def Phi (c : Dev nD) : (n : ℕ) → n ≤ cfg0.N → sProp 𝕄
  | 0, _ => Pipeline.ΦA spec0 c
  | n + 1, hn => iprop(iprop(owns (c : Thread nD τ) scK fullShare (st m c n hn).ck ∗ owns (c : Thread nD τ) scV fullShare (st m c n hn).cv) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop(owns (c : Thread nD τ) scK fullShare (st m c n hn).ck ∗ owns (c : Thread nD τ) scV fullShare (st m c n hn).cv) ∗ (∃ r, prngReg c r)) := rfl
theorem Phi_pos (c : Dev nD) (n : ℕ) (h : n ≤ cfg0.N) (hz : n ≠ 0) :
    Phi m c n h = iprop(iprop(owns (c : Thread nD τ) scK fullShare (st m c (n - 1) (by omega)).ck ∗ owns (c : Thread nD τ) scV fullShare (st m c (n - 1) (by omega)).cv) ∗ (∃ r, prngReg c r)) := by
  cases n with
  | zero => exact absurd rfl hz
  | succ n => rfl

/-- The pipeline's proof data: arrays as found, each input's buffer at its block, each result's at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).dq
    | ⟨9, _⟩ => (st m c t.val t.isLt).dk
    | ⟨10, _⟩ => (st m c t.val t.isLt).dv
    | ⟨11, _⟩ => (st m c t.val t.isLt).db
    | ⟨12, _⟩ => (st m c t.val t.isLt).ds
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = (st m c t.val t.isLt).dq := by dsimp only [dats]
theorem after_9 (c : Dev nD) (t : Fin cfg0.N) : (dats m 0 c).after 9 t = (st m c t.val t.isLt).dk := by dsimp only [dats]
theorem after_10 (c : Dev nD) (t : Fin cfg0.N) : (dats m 0 c).after 10 t = (st m c t.val t.isLt).dv := by dsimp only [dats]
theorem after_11 (c : Dev nD) (t : Fin cfg0.N) : (dats m 0 c).after 11 t = (st m c t.val t.isLt).db := by dsimp only [dats]
theorem after_12 (c : Dev nD) (t : Fin cfg0.N) : (dats m 0 c).after 12 t = (st m c t.val t.isLt).ds := by dsimp only [dats]

/-- A window the body leaves alone only where it is written back ends at its stated contents at every point. -/
theorem leaves_eq (c : Dev nD) (w : Fin cfg0.W) (t : Fin cfg0.N)
    (h : cfg0.idle w (grid0.coords t) = true → (cfg0.win w).flush t = true) :
    (dats m 0 c).leavesExact w t = owns (c : Thread nD τ) ((cfg0.win w).stage (cfg0.slots t w)) fullShare ((dats m 0 c).after w t) := by
  unfold Dat.leavesExact
  cases hi : cfg0.idle w (grid0.coords t) with
  | false => rfl
  | true => rw [h hi]
theorem before_8 (c : Dev nD) (t : Fin cfg0.N) (h : t.val % 33 = 32) (d) : (dats m 0 c).before 8 t d = (pre m c t).dq := by
  rw [Dat.before_out_traj _ 8 rfl (fun _ _ => rfl)
    (fun t _ hi _ => by rw [after_8, after_8, st_C m c t (idle_8 t hi).1]; rfl) t.val t rfl d,
    fresh_8 t, show freshAt_8 t.val = false from by unfold freshAt_8; simp [h], if_neg Bool.false_ne_true]
  dsimp only [dats]
theorem before_11 (c : Dev nD) (t : Fin cfg0.N) (h : ¬ t.val % 33 = 0) (d) : (dats m 0 c).before 11 t d = (pre m c t).db := by
  rw [Dat.before_out_traj _ 11 rfl (fun _ _ => rfl)
    (fun t _ hi _ => by rw [after_11, after_11, st_C m c t (idle_11 t hi).1]; rfl) t.val t rfl d,
    fresh_11 t, show freshAt_11 t.val = false from by unfold freshAt_11; simp [h], if_neg Bool.false_ne_true]
  dsimp only [dats]
theorem before_12 (c : Dev nD) (t : Fin cfg0.N) (h : ¬ t.val % 33 = 0) (d) : (dats m 0 c).before 12 t d = (pre m c t).ds := by
  rw [Dat.before_out_traj _ 12 rfl (fun _ _ => rfl)
    (fun t _ hi _ => by rw [after_12, after_12, st_C m c t (idle_12 t hi).1]; rfl) t.val t rfl d,
    fresh_12 t, show freshAt_12 t.val = false from by unfold freshAt_12; simp [h], if_neg Bool.false_ne_true]
  dsimp only [dats]

/-! ## The body at any point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the case's run applies, whose results are the state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Phi m c (t.val + 1) t.isLt from rfl, Phi_succ]
  have hN : t.val < 132 := lt_of_lt_of_eq t.isLt N_eq
  rw [leaves_eq m c 0 t (fun h => absurd h Bool.false_ne_true), after_0]
  rw [leaves_eq m c 1 t (fun h => absurd h Bool.false_ne_true), after_1]
  rw [leaves_eq m c 2 t (fun h => absurd h Bool.false_ne_true), after_2]
  rw [leaves_eq m c 3 t (fun h => absurd h Bool.false_ne_true), after_3]
  rw [leaves_eq m c 4 t (fun h => absurd h Bool.false_ne_true), after_4]
  rw [leaves_eq m c 5 t (fun h => absurd h Bool.false_ne_true), after_5]
  rw [leaves_eq m c 6 t (fun h => absurd h Bool.false_ne_true), after_6]
  rw [leaves_eq m c 7 t (fun h => absurd h Bool.false_ne_true), after_7]
  rw [leaves_eq m c 8 t (fun h => (idle_8 t h).2), after_8]
  rw [leaves_eq m c 9 t (fun h => absurd ((live_9 t).symm.trans h) Bool.false_ne_true), after_9]
  rw [leaves_eq m c 10 t (fun h => absurd ((live_10 t).symm.trans h) Bool.false_ne_true), after_10]
  rw [leaves_eq m c 11 t (fun h => (idle_11 t h).2), after_11]
  rw [leaves_eq m c 12 t (fun h => (idle_12 t h).2), after_12]
  by_cases h0 : t.val % 33 = 0
  · by_cases hz : t.val = 0
    · rw [Phi_castSucc m c t, Phi_zero m c _ _ hz, launch_eq]
      rw [st_A m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _ _ _ ((cond1_iff t).mpr h0) ((cond2_iff t).mpr (by omega)) (fun h => absurd ((cond3_iff t).mp h) (by omega)) (inAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Phi_castSucc m c t, Phi_pos m c _ _ hz]
      rw [st_A m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _ _ _ ((cond1_iff t).mpr h0) ((cond2_iff t).mpr (by omega)) (fun h => absurd ((cond3_iff t).mp h) (by omega)) (inAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      isplitl [HS1]; · iexists _; iexact HS1
      iintro ⟨H0, H1, H2, H3, H4, H5, H6, H7, H8, H9, H10, H11, H12, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · rw [Phi_castSucc m c t, Phi_pos m c _ _ (by omega)]
    by_cases h1 : t.val % 33 ≤ 31
    · rw [st_B m c t h0 h1]
      simp only [before_11 m c t h0, before_12 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runB c (grid0.coords t) _ _ _ _ _ _ _ _ _ _ _ _ _ _ _ _ _ _ _ _ _ _ _ _ _ _ _ _ _ _ (fun h => h0 ((cond1_iff t).mp h)) ((cond2_iff t).mpr h1) (fun h => absurd ((cond3_iff t).mp h) (by omega)) (inAt m c t) (pre m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [st_C m c t (by omega)]
      simp only [before_8 m c t (by omega), before_11 m c t h0, before_12 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runC c (grid0.coords t) _ _ _ _ _ _ _ _ _ _ _ _ _ _ _ _ _ _ _ _ _ _ _ _ _ _ _ _ _ _ (fun h => h0 ((cond1_iff t).mp h)) (fun h => h1 ((cond2_iff t).mp h)) ((cond3_iff t).mpr (by omega)) (inAt m c t) (pre m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c cfg0.N (le_refl _) from rfl,
    Phi_pos m c _ _ (by rw [N_eq]; decide), launch_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every fair execution ends, with the pipeline's arrays at what the proof data says and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: every fair execution ends, the argument arrays unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Swa

end
-- ==== Proof.SwaRow.lean ====
module

public import Idealize.ShloMosaic.PureOps.Ideal.Laws

@[expose] public section

noncomputable section

/-! One row of the attention's backward pass, over the extended reals: the row's 256 masked scores `s` (`⊥` where
    masked), the sink `σ`, and the cotangent of the weights `dp`. -/

namespace Cert.Swa

open Idealize.ShloMosaic

/-- The value is a real number. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem isR_zero : IsR 0 := ⟨0, rfl⟩
theorem IsR.sum {ι : Type*} (t : Finset ι) (f : ι → EReal) (h : ∀ i, IsR (f i)) : IsR (∑ i ∈ t, f i) := by
  classical
  induction t using Finset.induction_on with
  | empty => rw [Finset.sum_empty]; exact isR_zero
  | insert a t ha ih => rw [Finset.sum_insert ha]; exact (h a).add ih

/-- The coercion of a finite sum of reals. -/
theorem coe_sum {ι : Type*} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]

/-- The row's shift: the greatest of the scores and the sink. -/
def rowM (s : Fin 256 → EReal) (σ : EReal) : EReal := max (Finset.univ.fold max ⊥ s) σ
/-- The exponentials of the shifted scores. -/
def rowE (s : Fin 256 → EReal) (σ : EReal) (j : Fin 256) : EReal := Ideal.exp (s j - rowM s σ)
/-- The exponential of the shifted sink. -/
def rowEs (s : Fin 256 → EReal) (σ : EReal) : EReal := Ideal.exp (σ - rowM s σ)
/-- The row's normaliser. -/
def rowZ (s : Fin 256 → EReal) (σ : EReal) : EReal := (∑ j, rowE s σ j) + rowEs s σ
/-- The weights. -/
def rowP (s : Fin 256 → EReal) (σ : EReal) (j : Fin 256) : EReal := rowE s σ j * Ideal.div 1 (rowZ s σ)
/-- The weighted sum of the weights' cotangent. -/
def rowDelta (s : Fin 256 → EReal) (σ : EReal) (dp : Fin 256 → EReal) : EReal := ∑ j, dp j * rowP s σ j
/-- The scores' gradient. -/
def rowDS (s : Fin 256 → EReal) (σ : EReal) (dp : Fin 256 → EReal) (j : Fin 256) : EReal :=
  rowP s σ j * (dp j - rowDelta s σ dp)
/-- The sink's gradient. -/
def rowSink (s : Fin 256 → EReal) (σ : EReal) (dp : Fin 256 → EReal) : EReal :=
  (0 - rowEs s σ * Ideal.div 1 (rowZ s σ)) * rowDelta s σ dp

variable {s : Fin 256 → EReal} {σ : EReal} {dp : Fin 256 → EReal}

/-- A maximum of values that are each `⊥` or real is `⊥` or real. -/
theorem fold_max_cases (t : Finset (Fin 256)) (h : ∀ j, s j = ⊥ ∨ IsR (s j)) : t.fold max ⊥ s = ⊥ ∨ IsR (t.fold max ⊥ s) := by
  classical
  induction t using Finset.induction_on with
  | empty => exact Or.inl rfl
  | insert a t ha ih =>
    rw [Finset.fold_insert ha]
    rcases le_total (s a) (t.fold max ⊥ s) with hl | hl
    · rw [max_eq_right hl]; exact ih
    · rw [max_eq_left hl]; exact h a

theorem rowM_real (h : ∀ j, s j = ⊥ ∨ IsR (s j)) (hσ : IsR σ) : IsR (rowM s σ) := by
  unfold rowM
  rcases fold_max_cases Finset.univ h with h0 | h0
  · rw [h0, max_eq_right bot_le]; exact hσ
  · rcases le_total (Finset.univ.fold max ⊥ s) σ with hl | hl
    · rw [max_eq_right hl]; exact hσ
    · rw [max_eq_left hl]; exact h0

/-- The row's exponentials and normaliser are reals, the masked ones zero, the sink's and the normaliser positive. -/
theorem row_real (h : ∀ j, s j = ⊥ ∨ IsR (s j)) (hσ : IsR σ) :
    ∃ (e : Fin 256 → ℝ) (es z : ℝ), (∀ j, rowE s σ j = e j) ∧ rowEs s σ = es ∧ rowZ s σ = z ∧ z = ∑ j, e j + es ∧ 0 < z
      ∧ ∀ j, s j = ⊥ → e j = 0 := by
  obtain ⟨M, hM⟩ := rowM_real h hσ
  obtain ⟨t, rfl⟩ := hσ
  have hE : ∀ j, ∃ e : ℝ, rowE s t j = e ∧ 0 ≤ e ∧ (s j = ⊥ → e = 0) := fun j => by
    rcases h j with h0 | ⟨r, hr⟩
    · refine ⟨0, ?_, le_refl _, fun _ => rfl⟩
      unfold rowE; rw [h0, hM]; rfl
    · refine ⟨Real.exp (r - M), ?_, (Real.exp_pos _).le, fun h0 => ?_⟩
      · unfold rowE; rw [hr, hM, ← EReal.coe_sub]; rfl
      · rw [hr] at h0; exact absurd h0 (EReal.coe_ne_bot r)
  choose e he he0 hb using hE
  have hs : rowEs s t = (Real.exp (t - M) : ℝ) := by unfold rowEs; rw [hM, ← EReal.coe_sub]; rfl
  refine ⟨e, Real.exp (t - M), ∑ j, e j + Real.exp (t - M), he, hs, ?_, rfl, ?_, hb⟩
  · unfold rowZ; rw [hs, EReal.coe_add, coe_sum]; simp only [he]
  · exact add_pos_of_nonneg_of_pos (Finset.sum_nonneg fun j _ => he0 j) (Real.exp_pos _)

theorem div_real (x : ℝ) {z : ℝ} (hz : z ≠ 0) : Ideal.div (x : EReal) (z : EReal) = ((x / z : ℝ) : EReal) := by
  rw [Ideal.div_coe hz, ← EReal.coe_mul, mul_one_div]

theorem one_div_real {z : ℝ} (hz : z ≠ 0) : Ideal.div 1 (z : EReal) = ((1 / z : ℝ) : EReal) := by
  rw [show (1 : EReal) = ((1 : ℝ) : EReal) from rfl, div_real 1 hz]

/-- The weights are reals, zero where masked. -/
theorem rowP_real (h : ∀ j, s j = ⊥ ∨ IsR (s j)) (hσ : IsR σ) (j : Fin 256) : IsR (rowP s σ j) := by
  obtain ⟨e, es, z, he, hes, hz, -, hpos, -⟩ := row_real h hσ
  unfold rowP; rw [he, hz, one_div_real hpos.ne']; exact ⟨_, (EReal.coe_mul _ _).symm⟩
theorem rowP_masked (h : ∀ j, s j = ⊥ ∨ IsR (s j)) (hσ : IsR σ) (j : Fin 256) (hj : s j = ⊥) : rowP s σ j = 0 := by
  obtain ⟨e, es, z, he, hes, hz, -, hpos, hb⟩ := row_real h hσ
  unfold rowP; rw [he, hb j hj]; exact zero_mul _
/-- A weight is the quotient of the exponential by the normaliser. -/
theorem rowP_div (h : ∀ j, s j = ⊥ ∨ IsR (s j)) (hσ : IsR σ) (j : Fin 256) : Ideal.div (rowE s σ j) (rowZ s σ) = rowP s σ j := by
  obtain ⟨e, es, z, he, hes, hz, -, hpos, hb⟩ := row_real h hσ
  unfold rowP; rw [he, hz, one_div_real hpos.ne', div_real _ hpos.ne', ← EReal.coe_mul, mul_one_div]
theorem rowDS_masked (h : ∀ j, s j = ⊥ ∨ IsR (s j)) (hσ : IsR σ) (j : Fin 256) (hj : s j = ⊥) : rowDS s σ dp j = 0 := by
  unfold rowDS; rw [rowP_masked h hσ j hj]; exact zero_mul _

/-- Where a score is masked the weights' cotangent does not matter. -/
theorem rowDelta_congr (h : ∀ j, s j = ⊥ ∨ IsR (s j)) (hσ : IsR σ) {dp' : Fin 256 → EReal} (hd : ∀ j, s j ≠ ⊥ → dp j = dp' j) :
    rowDelta s σ dp = rowDelta s σ dp' :=
  Finset.sum_congr rfl fun j _ => by
    by_cases hj : s j = ⊥
    · rw [rowP_masked h hσ j hj, mul_zero, mul_zero]
    · rw [hd j hj]
theorem rowDS_congr (h : ∀ j, s j = ⊥ ∨ IsR (s j)) (hσ : IsR σ) {dp' : Fin 256 → EReal} (hd : ∀ j, s j ≠ ⊥ → dp j = dp' j) (j : Fin 256) :
    rowDS s σ dp j = rowDS s σ dp' j := by
  by_cases hj : s j = ⊥
  · rw [rowDS_masked h hσ j hj, rowDS_masked h hσ j hj]
  · unfold rowDS; rw [hd j hj, rowDelta_congr h hσ hd]
theorem rowSink_congr (h : ∀ j, s j = ⊥ ∨ IsR (s j)) (hσ : IsR σ) {dp' : Fin 256 → EReal} (hd : ∀ j, s j ≠ ⊥ → dp j = dp' j) :
    rowSink s σ dp = rowSink s σ dp' := by
  unfold rowSink; rw [rowDelta_congr h hσ hd]

/-- The chain rule's term through the normaliser. -/
def rowT (s : Fin 256 → EReal) (σ : EReal) (dp : Fin 256 → EReal) : EReal :=
  -(∑ j, dp j * Ideal.div 1 (rowZ s σ * rowZ s σ) * rowE s σ j)
/-- The chain rule's gradient of a shifted score. -/
def rowX (s : Fin 256 → EReal) (σ : EReal) (dp : Fin 256 → EReal) (j : Fin 256) : EReal :=
  (Ideal.div (dp j) (rowZ s σ) + rowT s σ dp) * rowE s σ j

/-- The chain rule, term by term, over real rows: the shifted scores' gradient is `rowDS`, the shifted sink's is
    `rowSink`, and what would go through the shift is zero. -/
theorem row_chain (h : ∀ j, s j = ⊥ ∨ IsR (s j)) (hσ : IsR σ) (hd : ∀ j, IsR (dp j)) :
    (∀ j, rowX s σ dp j = rowDS s σ dp j) ∧ rowT s σ dp * rowEs s σ = rowSink s σ dp
      ∧ -(rowT s σ dp * rowEs s σ) + ∑ j, -(rowX s σ dp j) = 0 := by
  obtain ⟨e, es, z, he, hes, hz, hzd, hpos, -⟩ := row_real h hσ
  choose d hdp using hd
  have hne : z ≠ 0 := hpos.ne'
  have hT : rowT s σ dp = ((-(∑ j, d j * (1 / (z * z)) * e j) : ℝ) : EReal) := by
    unfold rowT
    rw [EReal.coe_neg, coe_sum]
    congr 1
    refine Finset.sum_congr rfl fun j _ => ?_
    rw [hz, he, hdp, ← EReal.coe_mul, one_div_real (mul_ne_zero hne hne), ← EReal.coe_mul, ← EReal.coe_mul]
  have hX : ∀ j, rowX s σ dp j = (((d j / z + -(∑ j, d j * (1 / (z * z)) * e j)) * e j : ℝ) : EReal) := fun j => by
    unfold rowX
    rw [hT, hdp, hz, he, div_real _ hne, ← EReal.coe_add, ← EReal.coe_mul]
  have hP : ∀ j, rowP s σ j = ((e j * (1 / z) : ℝ) : EReal) := fun j => by
    unfold rowP; rw [he, hz, one_div_real hne, ← EReal.coe_mul]
  have hD : rowDelta s σ dp = ((∑ j, d j * (e j * (1 / z)) : ℝ) : EReal) := by
    unfold rowDelta; rw [coe_sum]
    refine Finset.sum_congr rfl fun j _ => ?_
    rw [hP, hdp, ← EReal.coe_mul]
  have hDz : ∑ j, d j * (1 / (z * z)) * e j = (∑ j, d j * (e j * (1 / z))) / z := by
    rw [Finset.sum_div]
    refine Finset.sum_congr rfl fun j _ => ?_
    field_simp
  have hsum : ∑ j, (d j / z + -(∑ j, d j * (1 / (z * z)) * e j)) * e j
      = (∑ j, d j * (e j * (1 / z))) + -((∑ j, d j * (e j * (1 / z))) / z) * (z - es) := by
    rw [hDz]
    simp only [add_mul]
    rw [Finset.sum_add_distrib, ← Finset.mul_sum, show z - es = ∑ j, e j by rw [hzd]; ring]
    congr 1
    refine Finset.sum_congr rfl fun j _ => ?_
    ring
  refine ⟨fun j => ?_, ?_, ?_⟩
  · unfold rowDS
    rw [hX, hP, hD, hdp, ← EReal.coe_sub, ← EReal.coe_mul, hDz]
    congr 1
    field_simp
    ring
  · unfold rowSink
    rw [hT, hes, hz, hD, one_div_real hne, show (0 : EReal) = ((0 : ℝ) : EReal) from rfl, ← EReal.coe_mul, ← EReal.coe_mul, ← EReal.coe_sub,
      ← EReal.coe_mul, hDz]
    congr 1
    field_simp
    ring
  · have : ∑ j, -(rowX s σ dp j) = ((-(∑ j, (d j / z + -(∑ j, d j * (1 / (z * z)) * e j)) * e j) : ℝ) : EReal) := by
      rw [← Finset.sum_neg_distrib, coe_sum]
      refine Finset.sum_congr rfl fun j _ => ?_
      rw [hX, EReal.coe_neg]
    rw [this, hT, hes, ← EReal.coe_mul, ← EReal.coe_neg, ← EReal.coe_add, hsum, hDz, show (0 : EReal) = ((0 : ℝ) : EReal) from rfl]
    congr 1
    field_simp
    ring

end Cert.Swa

end
-- ==== Proof.SwaSpec.lean ====
module

public import proofs.«01_k».proof.Proof.SwaRow
public import Idealize.ShloMosaic.Lib.Pipeline.ValueKit

@[expose] public section

noncomputable section

/-! The gradients of sliding-window attention in coordinates: query block `n` of 32, row `a` of 128 within it, key `j` of
    the 256 of the two-block band, key-value head `h` of 4, query head `g` of its group of 8, feature `d` of 64. -/

namespace Cert.Swa

open Idealize.ShloMosaic

/-- The projections, the bias table, the sinks, the cotangent of the attention's output. -/
abbrev AZ := (⟨2, ![4096, 8192]⟩ : Shape).Idx → EReal
abbrev AB := (⟨3, ![128, 256, 32]⟩ : Shape).Idx → EReal
abbrev AS := (⟨2, ![1, 32]⟩ : Shape).Idx → EReal
abbrev AG := (⟨2, ![4096, 2048]⟩ : Shape).Idx → EReal

/-- A query's feature. -/
abbrev qS (z : AZ) (n : Fin 32) (a : Fin 128) (h : Fin 4) (g : Fin 8) (d : Fin 64) : EReal :=
  z (ix2 ⟨n.val * 128 + a.val, by omega⟩ ⟨4096 + (h.val * 512 + g.val * 64 + d.val), by omega⟩)
/-- The cotangent at a query's feature. -/
abbrev gS (y : AG) (n : Fin 32) (a : Fin 128) (h : Fin 4) (g : Fin 8) (d : Fin 64) : EReal :=
  y (ix2 ⟨n.val * 128 + a.val, by omega⟩ ⟨h.val * 512 + g.val * 64 + d.val, by omega⟩)
/-- A key's feature, zero before the sequence's start. -/
def kS (z : AZ) (n : Fin 32) (j : Fin 256) (h : Fin 4) (d : Fin 64) : EReal :=
  if c : 128 ≤ n.val * 128 + j.val then z (ix2 ⟨n.val * 128 + j.val - 128, by omega⟩ ⟨6912 + (h.val * 64 + d.val), by omega⟩) else 0
/-- A value's feature, zero before the sequence's start. -/
def vS (z : AZ) (n : Fin 32) (j : Fin 256) (h : Fin 4) (d : Fin 64) : EReal :=
  if c : 128 ≤ n.val * 128 + j.val then z (ix2 ⟨n.val * 128 + j.val - 128, by omega⟩ ⟨7680 + (h.val * 64 + d.val), by omega⟩) else 0
/-- A bias. -/
abbrev bS (b : AB) (h : Fin 4) (g : Fin 8) (a : Fin 128) (j : Fin 256) : EReal :=
  b (ix3 a j ⟨h.val * 8 + g.val, by omega⟩)
/-- A sink. -/
abbrev sS (k : AS) (h : Fin 4) (g : Fin 8) : EReal := k (ix2 (0 : Fin 1) ⟨h.val * 8 + g.val, by omega⟩)

/-- The key lies in the row's window and in the sequence. -/
def seen (n : Fin 32) (a : Fin 128) (j : Fin 256) : Prop := j.val ≤ 128 + a.val ∧ a.val < j.val ∧ 128 ≤ n.val * 128 + j.val
instance (n : Fin 32) (a : Fin 128) (j : Fin 256) : Decidable (seen n a j) := inferInstanceAs (Decidable (_ ∧ _ ∧ _))

/-- The scale of the scores, 1/8. -/
abbrev c8 : EReal := Ideal.ofBits .f32 0x3E000000#32
theorem c8_real : IsR c8 := ⟨1 / 8, by simp [c8, Ideal.ofBits, Ideal.ieee, -EReal.coe_mul]; norm_num⟩

variable (z : AZ) (b : AB) (k : AS) (y : AG)

/-- The masked scores. -/
def scS (n : Fin 32) (h : Fin 4) (g : Fin 8) (a : Fin 128) (j : Fin 256) : EReal :=
  if seen n a j then (∑ d, kS z n j h d * qS z n a h g d) * c8 + bS b h g a j else ⊥
/-- The weights' cotangent. -/
def dpS (n : Fin 32) (h : Fin 4) (g : Fin 8) (a : Fin 128) (j : Fin 256) : EReal :=
  ∑ d, vS z n j h d * gS y n a h g d
/-- The weights. -/
def pS (n : Fin 32) (h : Fin 4) (g : Fin 8) (a : Fin 128) (j : Fin 256) : EReal := rowP (scS z b n h g a) (sS k h g) j
/-- The scores' gradient. -/
def dsS (n : Fin 32) (h : Fin 4) (g : Fin 8) (a : Fin 128) (j : Fin 256) : EReal :=
  rowDS (scS z b n h g a) (sS k h g) (dpS z y n h g a) j

/-- The queries' gradient. -/
def dqS (n : Fin 32) (a : Fin 128) (h : Fin 4) (g : Fin 8) (d : Fin 64) : EReal :=
  ∑ j, dsS z b k y n h g a j * c8 * kS z n j h d
/-- One band's part of the keys' gradient. -/
def dkbS (n : Fin 32) (j : Fin 256) (h : Fin 4) (d : Fin 64) : EReal :=
  ∑ g, ∑ a, dsS z b k y n h g a j * c8 * qS z n a h g d
/-- One band's part of the values' gradient. -/
def dvbS (n : Fin 32) (j : Fin 256) (h : Fin 4) (d : Fin 64) : EReal :=
  ∑ g, ∑ a, pS z b k n h g a j * gS y n a h g d
/-- The bias' gradient. -/
def dbS (h : Fin 4) (g : Fin 8) (a : Fin 128) (j : Fin 256) : EReal := ∑ n, dsS z b k y n h g a j
/-- The sinks' gradient, row by row of a block. -/
def dskS (h : Fin 4) (g : Fin 8) (a : Fin 128) : EReal :=
  ∑ n, rowSink (scS z b n h g a) (sS k h g) (dpS z y n h g a)
/-- A position's gradient: its block's band's second half, and the first half of the next block's. -/
def joinS (f : Fin 32 → Fin 256 → Fin 4 → Fin 64 → EReal) (n : Fin 32) (r : Fin 128) (h : Fin 4) (d : Fin 64) : EReal :=
  f n ⟨128 + r.val, by omega⟩ h d + if c : n.val + 1 < 32 then f ⟨n.val + 1, c⟩ ⟨r.val, by omega⟩ h d else 0

variable {z b k y}

section finite
variable (hz : ∀ i, IsR (z i)) (hb : ∀ i, IsR (b i)) (hk : ∀ i, IsR (k i)) (hy : ∀ i, IsR (y i))
include hz in
theorem kS_real (n : Fin 32) (j : Fin 256) (h : Fin 4) (d : Fin 64) : IsR (kS z n j h d) := by
  unfold kS; split
  · exact hz _
  · exact isR_zero
include hz in
theorem vS_real (n : Fin 32) (j : Fin 256) (h : Fin 4) (d : Fin 64) : IsR (vS z n j h d) := by
  unfold vS; split
  · exact hz _
  · exact isR_zero
include hz hb in
theorem scS_cases (n : Fin 32) (h : Fin 4) (g : Fin 8) (a : Fin 128) (j : Fin 256) : scS z b n h g a j = ⊥ ∨ IsR (scS z b n h g a j) := by
  unfold scS; split
  · exact Or.inr (((IsR.sum _ _ fun d => (kS_real hz n j h d).mul (hz _)).mul c8_real).add (hb _))
  · exact Or.inl rfl
include hz hy in
theorem dpS_real (n : Fin 32) (h : Fin 4) (g : Fin 8) (a : Fin 128) (j : Fin 256) : IsR (dpS z y n h g a j) :=
  IsR.sum _ _ fun d => (vS_real hz n j h d).mul (hy _)
end finite

theorem scS_unseen (n : Fin 32) (h : Fin 4) (g : Fin 8) (a : Fin 128) (j : Fin 256) (hj : ¬ seen n a j) : scS z b n h g a j = ⊥ := if_neg hj

end Cert.Swa

end
-- ==== Proof.SwaKer.lean ====
module

public import proofs.«01_k».proof.Proof.SwaStep
public import proofs.«01_k».proof.Proof.SwaSpec
public import Idealize.ShloMosaic.Lib.IdealHost

@[expose] public section

set_option maxRecDepth 16384

noncomputable section

/-! One grid point of the attention's backward kernel in coordinates. -/

namespace Cert.KernelIdeal.Swa

open Cert.KernelIdeal Cert.KernelIdeal.Gen Idealize.ShloMosaic Idealize.ShloMosaic.TcCoe Cert.Swa

/-- A row of a block: query head `g`, place `a`. -/
abbrev rowOf (g : Fin 8) (a : Fin 128) : Fin 1024 := ⟨g.val * 128 + a.val, by omega⟩
/-- A column of a block: query head `g`, feature `d`. -/
abbrev colOf (g : Fin 8) (d : Fin 64) : Fin 512 := ⟨g.val * 64 + d.val, by omega⟩

set_option maxHeartbeats 2000000 in
/-- The query rows: the block's column groups one below the other. -/
theorem k14 (q : Vec Ideal S128x512 .bf16) (g : Fin 8) (a : Fin 128) (d : Fin 64) :
    k0_pay14 (F := Ideal) q (ix2 (rowOf g a) d) = q (ix2 a (colOf g d)) := by
  pointwise [k0_pay14]
  have hg := g.isLt; have ha := a.isLt
  split_ifs <;> (congr 2 <;> (apply Fin.ext; dsimp only; omega))

set_option maxHeartbeats 2000000 in
theorem k24 (q : Vec Ideal S128x512 .bf16) (g : Fin 8) (a : Fin 128) (d : Fin 64) :
    k0_pay24 (F := Ideal) q (ix2 (rowOf g a) d) = q (ix2 a (colOf g d)) := k14 q g a d

/-- The band of keys: the previous block, then this one. -/
theorem k15 (kp kc : Vec Ideal S1x128x64 .bf16) (j : Fin 256) (d : Fin 64) :
    k0_pay15 (F := Ideal) kp kc (ix2 j d) = if h : j.val < 128 then kp (ix3 (0 : Fin 1) ⟨j.val, h⟩ d) else kc (ix3 (0 : Fin 1) ⟨j.val - 128, by omega⟩ d) := by
  pointwise [k0_pay15]

/-- A score: masked where the band's first half lies before the sequence. -/
theorem k16 (b : BitVec 32) (q : Vec Ideal S128x512 .bf16) (kp kc : Vec Ideal S1x128x64 .bf16) (bias : Vec Ideal S1x256x1024 .f32) (j : Fin 256) (g : Fin 8) (a : Fin 128) :
    k0_pay16 (F := Ideal) b q kp kc bias (ix2 j (rowOf g a))
      = Scalar.select (IntOp.ori (IntOp.cmpi .sge (BitVec.ofNat 32 j.val) 128#32) (IntOp.cmpi .sgt b 0#32))
          ((∑ d, k0_pay15 (F := Ideal) kp kc (ix2 j d) * q (ix2 a (colOf g d))) * c8 + bias (ix3 (0 : Fin 1) j (rowOf g a))) ⊥ := by
  pointwise [k0_pay16]
  simp only [k14]
  rfl

variable (b : BitVec 32) (q : Vec Ideal S128x512 .bf16) (kp kc : Vec Ideal S1x128x64 .bf16) (bias : Vec Ideal S1x256x1024 .f32) (sk : Vec Ideal S1x1x1024 .f32)

theorem k18 (r : Fin 1024) : k0_pay18 (F := Ideal) b q kp kc bias sk (ix2 (0 : Fin 1) r)
    = rowM (fun j => k0_pay16 (F := Ideal) b q kp kc bias (ix2 j r)) (sk (ix3 (0 : Fin 1) (0 : Fin 1) r)) := by
  pointwise [k0_pay18, k0_pay17]
  have e : Ideal.ofBits .f32 4286578688#32 = ⊥ := by simp [Ideal.ofBits, Ideal.ieee]
  rw [e]
  unfold rowM
  rfl
theorem k19 (j : Fin 256) (r : Fin 1024) : k0_pay19 (F := Ideal) b q kp kc bias sk (ix2 j r)
    = rowE (fun j => k0_pay16 (F := Ideal) b q kp kc bias (ix2 j r)) (sk (ix3 (0 : Fin 1) (0 : Fin 1) r)) j := by
  pointwise [k0_pay19, k18]
  rfl
theorem k20 (r : Fin 1024) : k0_pay20 (F := Ideal) b q kp kc bias sk (ix2 (0 : Fin 1) r)
    = rowEs (fun j => k0_pay16 (F := Ideal) b q kp kc bias (ix2 j r)) (sk (ix3 (0 : Fin 1) (0 : Fin 1) r)) := by
  pointwise [k0_pay20, k0_pay17, k18]
  rfl

section rows
variable (e : FVec Ideal S256x1024 .f32) (es : FVec Ideal S1x1024 .f32) (vp vc : Vec Ideal S1x128x64 .bf16) (go : Vec Ideal S128x512 .bf16)
theorem k21 (r : Fin 1024) : k0_pay21 (F := Ideal) e es (ix2 (0 : Fin 1) r) = Ideal.div 1 ((∑ j : Fin 256, e (ix2 j r)) + es (ix2 (0 : Fin 1) r)) := by
  pointwise [k0_pay21]
theorem k22 (j : Fin 256) (r : Fin 1024) : k0_pay22 (F := Ideal) e es (ix2 j r) = e (ix2 j r) * k0_pay21 (F := Ideal) e es (ix2 (0 : Fin 1) r) := by
  pointwise [k0_pay22]
theorem k23 (r : Fin 1024) : k0_pay23 (F := Ideal) e es (ix2 (0 : Fin 1) r) = es (ix2 (0 : Fin 1) r) * k0_pay21 (F := Ideal) e es (ix2 (0 : Fin 1) r) := by
  pointwise [k0_pay23]
theorem k25 (j : Fin 256) (g : Fin 8) (a : Fin 128) : k0_pay25 (F := Ideal) vp vc go (ix2 j (rowOf g a))
    = ∑ d, k0_pay15 (F := Ideal) vp vc (ix2 j d) * go (ix2 a (colOf g d)) := by
  have e15 : ∀ (j : Fin 256) (d : Fin 64), k0_pay15 (F := Ideal) vp vc (ix2 j d) = if h : j.val < 128 then vp (ix3 (0 : Fin 1) ⟨j.val, h⟩ d) else vc (ix3 (0 : Fin 1) ⟨j.val - 128, by omega⟩ d) := k15 vp vc
  simp only [e15]
  pointwise [k0_pay25]
  simp only [k24]
theorem k26 (r : Fin 1024) : k0_pay26 (F := Ideal) e es vp vc go (ix2 (0 : Fin 1) r)
    = ∑ j : Fin 256, k0_pay25 (F := Ideal) vp vc go (ix2 j r) * k0_pay22 (F := Ideal) e es (ix2 j r) := by
  pointwise [k0_pay26]
theorem k27 (j : Fin 256) (r : Fin 1024) : k0_pay27 (F := Ideal) e es vp vc go (ix2 j r)
    = k0_pay22 (F := Ideal) e es (ix2 j r) * (k0_pay25 (F := Ideal) vp vc go (ix2 j r) - k0_pay26 (F := Ideal) e es vp vc go (ix2 (0 : Fin 1) r)) := by
  pointwise [k0_pay27]
theorem k28 (db : Vec Ideal S1x256x1024 .f32) (j : Fin 256) (r : Fin 1024) : k0_pay28 (F := Ideal) e es vp vc go db (ix3 (0 : Fin 1) j r)
    = db (ix3 (0 : Fin 1) j r) + k0_pay27 (F := Ideal) e es vp vc go (ix2 j r) := by
  pointwise [k0_pay28]
theorem k30 (ps dl : FVec Ideal S1x1024 .f32) (ds : Vec Ideal S1x1x1024 .f32) (r : Fin 1024) : k0_pay30 (F := Ideal) ps dl (k0_pay29 (F := Ideal) ds) (Scalar.ofBits .f32 0x00000000#32) (ix3 (0 : Fin 1) (0 : Fin 1) r)
    = ds (ix3 (0 : Fin 1) (0 : Fin 1) r) + (0 - ps (ix2 (0 : Fin 1) r)) * dl (ix2 (0 : Fin 1) r) := by
  pointwise [k0_pay30, k0_pay29]
theorem k31 (t : FVec Ideal S256x1024 .f32) (j : Fin 256) (r : Fin 1024) : k0_pay31 (F := Ideal) t (ix2 j r) = t (ix2 j r) * c8 := by
  pointwise [k0_pay31]
theorem k32 (kk : FVec Ideal S256x64 .bf16) (t : FVec Ideal S256x1024 .f32) (r : Fin 1024) (d : Fin 64) : k0_pay32 (F := Ideal) kk t (ix2 r d) = ∑ j : Fin 256, t (ix2 j r) * c8 * kk (ix2 j d) := by
  pointwise [k0_pay32, k31]
end rows

section products
variable (u : FVec Ideal S1024x64 .bf16) (t : FVec Ideal S256x1024 .bf16) (p : FVec Ideal S256x1024 .f32) (cy : Vec Ideal S128x64 .f32)
theorem sumRows (f : Fin 1024 → EReal) : ∑ r, f r = ∑ g : Fin 8, ∑ a : Fin 128, f (rowOf g a) :=
  (Fin.sum_mul_add_fin 8 128 f).symm
theorem k8 (r : Fin 128) (d : Fin 64) : k0_pay8 (F := Ideal) u t cy (ix3 (0 : Fin 1) r d)
    = cy (ix2 r d) + ∑ g : Fin 8, ∑ a : Fin 128, t (ix2 (⟨r.val, by omega⟩ : Fin 256) (rowOf g a)) * u (ix2 (rowOf g a) d) := by
  rw [← sumRows fun x => t (ix2 (⟨r.val, by omega⟩ : Fin 256) x) * u (ix2 x d)]
  pointwise [k0_pay8, k0_pay6]
theorem k9 (r : Fin 128) (d : Fin 64) : k0_pay9 (F := Ideal) p u cy (ix3 (0 : Fin 1) r d)
    = cy (ix2 r d) + ∑ g : Fin 8, ∑ a : Fin 128, p (ix2 (⟨r.val, by omega⟩ : Fin 256) (rowOf g a)) * u (ix2 (rowOf g a) d) := by
  rw [← sumRows fun x => p (ix2 (⟨r.val, by omega⟩ : Fin 256) x) * u (ix2 x d)]
  pointwise [k0_pay9, k0_pay7]
theorem k10 (r : Fin 128) (d : Fin 64) : k0_pay10 (F := Ideal) u t (ix2 r d)
    = ∑ g : Fin 8, ∑ a : Fin 128, t (ix2 (⟨128 + r.val, by omega⟩ : Fin 256) (rowOf g a)) * u (ix2 (rowOf g a) d) := by
  rw [← sumRows fun x => t (ix2 (⟨128 + r.val, by omega⟩ : Fin 256) x) * u (ix2 x d)]
  pointwise [k0_pay10, k0_pay6]
theorem k11 (r : Fin 128) (d : Fin 64) : k0_pay11 (F := Ideal) p u (ix2 r d)
    = ∑ g : Fin 8, ∑ a : Fin 128, p (ix2 (⟨128 + r.val, by omega⟩ : Fin 256) (rowOf g a)) * u (ix2 (rowOf g a) d) := by
  rw [← sumRows fun x => p (ix2 (⟨128 + r.val, by omega⟩ : Fin 256) x) * u (ix2 x d)]
  pointwise [k0_pay11, k0_pay7]
theorem k12 (r : Fin 128) (d : Fin 64) : k0_pay12 (F := Ideal) cy (ix3 (0 : Fin 1) r d) = cy (ix2 r d) := by
  pointwise [k0_pay12]
theorem k13 (r : Fin 128) (d : Fin 64) : k0_pay13 (F := Ideal) cy (ix3 (0 : Fin 1) r d) = cy (ix2 r d) := by
  pointwise [k0_pay13]
end products

/-- The query gradient's block, from its eight column stores. -/
theorem kdq (kk : FVec Ideal S256x64 .bf16) (t : FVec Ideal S256x1024 .f32) (a : Fin 128) (g : Fin 8) (d : Fin 64) :
    View.canon (Val := Elt Ideal) (dqPieces kk t) (ix2 a (colOf g d)) = k0_pay32 (F := Ideal) kk t (ix2 (rowOf g a) d) := by
  canon_tiles x h
  all_goals change a.val = (x 0).val at h0; change g.val * 64 + d.val = _ at h1
  all_goals pointwise [k0_pay5, k0_pay33, k0_pay34, k0_pay35, k0_pay36, k0_pay37, k0_pay38, k0_pay39, k0_pay40]
  all_goals congr 2 <;> (apply Fin.ext; dsimp only; omega)

end Cert.KernelIdeal.Swa
-- ==== Proof.SwaBlk.lean ====
module

public import proofs.«01_k».proof.Proof.SwaRun
public import proofs.«01_k».proof.Proof.SwaKer
public import Idealize.ShloMosaic.Lib.StableHlo.ReadAt

@[expose] public section

set_option maxRecDepth 16384

noncomputable section

/-! The blocks a grid point reads, in coordinates of the arguments. -/

namespace Cert.KernelIdeal.Swa

open Cert.KernelIdeal Cert.KernelIdeal.Gen Idealize.ShloMosaic Idealize.ShloMosaic.TcCoe Cert.Swa

/-- Where each window's block lies at each point. -/
theorem idx : ∀ t : Fin cfg0.N, win0_0.index t = ![min (t.val % 33) 31, 8 + t.val / 33] ∧ win0_1.index t = ![t.val / 33, min (t.val % 33) 31, 0]
    ∧ win0_2.index t = ![t.val / 33, min (t.val % 33) 31 - 1, 0] ∧ win0_3.index t = ![t.val / 33, min (t.val % 33) 31, 0]
    ∧ win0_4.index t = ![t.val / 33, min (t.val % 33) 31 - 1, 0] ∧ win0_5.index t = ![t.val / 33, 0, 0] ∧ win0_6.index t = ![t.val / 33, 0, 0]
    ∧ win0_7.index t = ![min (t.val % 33) 31, t.val / 33] ∧ win0_8.index t = ![min (t.val % 33) 31, t.val / 33]
    ∧ win0_9.index t = ![t.val / 33, t.val % 33 - 1, 0] ∧ win0_10.index t = ![t.val / 33, t.val % 33 - 1, 0]
    ∧ win0_11.index t = ![t.val / 33, 0, 0] ∧ win0_12.index t = ![t.val / 33, 0, 0] :=
  by decide +kernel

/-- A point's second coordinate. -/
theorem coord1 : ∀ t : Fin cfg0.N, (grid0.coords t 1).val = t.val % 33 := by decide +kernel

/-- The point of head `h` and query block `n`. -/
abbrev pt (h : Fin 4) (n : ℕ) (hn : n < 33) : Fin cfg0.N := ⟨h.val * 33 + n, by have e : cfg0.N = 132 := N_eq; omega⟩

variable (m : (ℓ : Loc nD τ sig) → Buf (Elt Ideal) ℓ)

/-- The keys' array. -/
theorem V21 (c : Dev nD) (h : Fin 4) (r : Fin 4096) (d : Fin 64) : V (F := Ideal) m c main_v21 (ix3 h r d) = m ((c : Thread nD τ).loc main_arg0) (ix2 r ⟨6912 + (h.val*64+d.val), by omega⟩) := by
  unfold V
  after_reads_at
/-- The values' array. -/
theorem V24 (c : Dev nD) (h : Fin 4) (r : Fin 4096) (d : Fin 64) : V (F := Ideal) m c main_v24 (ix3 h r d) = m ((c : Thread nD τ).loc main_arg0) (ix2 r ⟨7680 + (h.val*64+d.val), by omega⟩) := by
  unfold V
  after_reads_at
theorem V15w (c : Dev nD) (h : Fin 4) (j : Fin 256) (g : Fin 8) (a : Fin 128) : V (F := Ideal) m c main_v15 (ix3 h j ⟨g.val * 128 + a.val, by omega⟩)
    = Scalar.select
      (IntOp.andi
        (IntOp.cmpi CmpIPredicate.sge (IntOp.subi (IntOp.addi (128#32) (BitVec.ofNat 32 a.val)) (BitVec.ofNat 32 j.val)) 0#32)
        (IntOp.cmpi CmpIPredicate.slt (IntOp.subi (IntOp.addi (128#32) (BitVec.ofNat 32 a.val)) (BitVec.ofNat 32 j.val)) 128#32))
      (m ((c : Thread nD τ).loc main_arg1) (ix3 a j ⟨h.val*8+g.val, by omega⟩)) (Ideal.ofBits .f32 0xFF800000#32) := by
  unfold V
  after_reads_at
  rfl
theorem i35 (a : Fin 128) (j : Fin 256) : (IntOp.subi (IntOp.addi 128#32 (BitVec.ofNat 32 a.val)) (BitVec.ofNat 32 j.val)).toInt = 128 + (a.val : ℤ) - j.val := by
  have ha := a.isLt; have hj := j.isLt
  simp only [IntOp.subi, IntOp.addi, BitVec.toInt_sub, BitVec.toInt_add, BitVec.toInt_ofNat']
  simp only [Int.bmod_def]
  split_ifs <;> omega
/-- The bias table: −∞ outside the window. -/
theorem V15 (c : Dev nD) (h : Fin 4) (j : Fin 256) (g : Fin 8) (a : Fin 128) : V (F := Ideal) m c main_v15 (ix3 h j (rowOf g a))
    = if j.val ≤ 128 + a.val ∧ a.val < j.val then bS (m ((c : Thread nD τ).loc main_arg1)) h g a j else ⊥ := by
  refine (V15w m c h j g a).trans ?_
  unfold Scalar.select
  have e : Ideal.ofBits .f32 0xFF800000#32 = ⊥ := by simp [Ideal.ofBits, Ideal.ieee]
  rw [e]
  refine if_congr ?_ rfl rfl
  refine Iff.trans IntOp.andi_eq_one ?_
  rw [IntOp.cmpi_sge, IntOp.cmpi_slt, i35]
  have h0 : (0#32).toInt = 0 := rfl
  have h1 : (128#32).toInt = 128 := rfl
  rw [h0, h1]
  omega
theorem V18w (c : Dev nD) (h : Fin 4) (g : Fin 8) (a : Fin 128) : V (F := Ideal) m c main_v18 (ix3 h (0 : Fin 1) ⟨g.val * 128 + a.val, by omega⟩) = m ((c : Thread nD τ).loc main_arg2) (ix2 (0 : Fin 1) ⟨h.val * 8 + g.val, by omega⟩) := by
  unfold V
  after_reads_at
/-- The sinks' rows. -/
theorem V18 (c : Dev nD) (h : Fin 4) (g : Fin 8) (a : Fin 128) : V (F := Ideal) m c main_v18 (ix3 h (0 : Fin 1) (rowOf g a)) = sS (m ((c : Thread nD τ).loc main_arg2)) h g :=
  V18w m c h g a

section blocks
variable (c : Dev nD) (h : Fin 4) (n : Fin 32)

theorem blk0 (a : Fin 128) (g : Fin 8) (d : Fin 64) : iblk (F := Ideal) m c 0 (pt h n.val (by omega)) (ix2 a (colOf g d)) = qS (m ((c : Thread nD τ).loc main_arg0)) n a h g d := by
  have hi := (idx (pt h n.val (by omega))).1
  blk_point [iblk, V, hi]
theorem blk7 (a : Fin 128) (g : Fin 8) (d : Fin 64) : iblk (F := Ideal) m c 7 (pt h n.val (by omega)) (ix2 a (colOf g d)) = gS (m ((c : Thread nD τ).loc main_arg3)) n a h g d := by
  have hi := (idx (pt h n.val (by omega))).2.2.2.2.2.2.2.1
  blk_point [iblk, V, hi]
theorem blk1 (r : Fin 128) (d : Fin 64) : iblk (F := Ideal) m c 1 (pt h n.val (by omega)) (ix3 (0 : Fin 1) r d) = V (F := Ideal) m c main_v21 (ix3 h ⟨n.val * 128 + r.val, by omega⟩ d) := by
  have hi := (idx (pt h n.val (by omega))).2.1
  blk_point [iblk, hi]
theorem blk2 (hn : 1 ≤ n.val) (r : Fin 128) (d : Fin 64) : iblk (F := Ideal) m c 2 (pt h n.val (by omega)) (ix3 (0 : Fin 1) r d) = V (F := Ideal) m c main_v21 (ix3 h ⟨(n.val - 1) * 128 + r.val, by omega⟩ d) := by
  have hi := (idx (pt h n.val (by omega))).2.2.1
  blk_point [iblk, hi]
theorem blk3 (r : Fin 128) (d : Fin 64) : iblk (F := Ideal) m c 3 (pt h n.val (by omega)) (ix3 (0 : Fin 1) r d) = V (F := Ideal) m c main_v24 (ix3 h ⟨n.val * 128 + r.val, by omega⟩ d) := by
  have hi := (idx (pt h n.val (by omega))).2.2.2.1
  blk_point [iblk, hi]
theorem blk4 (hn : 1 ≤ n.val) (r : Fin 128) (d : Fin 64) : iblk (F := Ideal) m c 4 (pt h n.val (by omega)) (ix3 (0 : Fin 1) r d) = V (F := Ideal) m c main_v24 (ix3 h ⟨(n.val - 1) * 128 + r.val, by omega⟩ d) := by
  have hi := (idx (pt h n.val (by omega))).2.2.2.2.1
  blk_point [iblk, hi]
theorem blk5 (j : Fin 256) (r : Fin 1024) : iblk (F := Ideal) m c 5 (pt h n.val (by omega)) (ix3 (0 : Fin 1) j r) = V (F := Ideal) m c main_v15 (ix3 h j r) := by
  have hi := (idx (pt h n.val (by omega))).2.2.2.2.2.1
  blk_point [iblk, hi]
theorem blk6 (r : Fin 1024) : iblk (F := Ideal) m c 6 (pt h n.val (by omega)) (ix3 (0 : Fin 1) (0 : Fin 1) r) = V (F := Ideal) m c main_v18 (ix3 h (0 : Fin 1) r) := by
  have hi := (idx (pt h n.val (by omega))).2.2.2.2.2.2.1
  blk_point [iblk, hi]
end blocks

end Cert.KernelIdeal.Swa
-- ==== Proof.SwaPt.lean ====
module

public import proofs.«01_k».proof.Proof.SwaBlk

@[expose] public section

set_option maxRecDepth 16384

noncomputable section

/-! What the kernel's state holds after each grid point, over finite arguments. -/

namespace Cert.KernelIdeal.Swa

open Cert.KernelIdeal Cert.KernelIdeal.Gen Idealize.ShloMosaic Idealize.ShloMosaic.TcCoe Cert.Swa

variable (m : (ℓ : Loc nD τ sig) → Buf (Elt Ideal) ℓ) (c : Dev nD)

/-- The arguments. -/
abbrev zA : AZ := m ((c : Thread nD τ).loc main_arg0)
abbrev bA : AB := m ((c : Thread nD τ).loc main_arg1)
abbrev kA : AS := m ((c : Thread nD τ).loc main_arg2)
abbrev yA : AG := m ((c : Thread nD τ).loc main_arg3)

/-- The point of head `h` and query block `n`, below the head's last point. -/
abbrev tp (h : Fin 4) (n : Fin 32) : Fin cfg0.N := pt h n.val (by omega)

theorem bw_toInt (h : Fin 4) (n : Fin 32) : (bw (tp h n)).toInt = n.val := by
  have e : (grid0.coords (tp h n) 1).val = n.val := by rw [coord1]; show (h.val * 33 + n.val) % 33 = n.val; omega
  unfold bw
  rw [e, BitVec.toInt_ofNat']
  have := n.isLt
  simp only [Int.bmod_def]
  split_ifs <;> omega

section point
variable (h : Fin 4) (n : Fin 32)

/-- The blocks at the point. -/
abbrev xI : In Ideal := inAt m c (tp h n)

theorem q_eq (a : Fin 128) (g : Fin 8) (d : Fin 64) : (xI m c h n).q (ix2 a (colOf g d)) = qS (zA m c) n a h g d := blk0 m c h n a g d
theorem g_eq (a : Fin 128) (g : Fin 8) (d : Fin 64) : (xI m c h n).g (ix2 a (colOf g d)) = gS (yA m c) n a h g d := blk7 m c h n a g d
theorem sink_eq (g : Fin 8) (a : Fin 128) : (xI m c h n).sink (ix3 (0 : Fin 1) (0 : Fin 1) (rowOf g a)) = sS (kA m c) h g :=
  (blk6 m c h n _).trans (V18 m c h g a)
theorem bias_eq (j : Fin 256) (g : Fin 8) (a : Fin 128) : (xI m c h n).bias (ix3 (0 : Fin 1) j (rowOf g a))
    = if j.val ≤ 128 + a.val ∧ a.val < j.val then bS (bA m c) h g a j else ⊥ :=
  (blk5 m c h n j _).trans (V15 m c h j g a)

theorem kc_eq (r : Fin 128) (d : Fin 64) : (xI m c h n).kc (ix3 (0 : Fin 1) r d) = zA m c (ix2 ⟨n.val * 128 + r.val, by omega⟩ ⟨6912 + (h.val * 64 + d.val), by omega⟩) :=
  (blk1 m c h n r d).trans (V21 m c h _ d)
theorem kp_eq (hn : 1 ≤ n.val) (r : Fin 128) (d : Fin 64) : (xI m c h n).kp (ix3 (0 : Fin 1) r d) = zA m c (ix2 ⟨(n.val - 1) * 128 + r.val, by omega⟩ ⟨6912 + (h.val * 64 + d.val), by omega⟩) :=
  (blk2 m c h n hn r d).trans (V21 m c h _ d)
/-- The band, where it lies in the sequence. -/
theorem kk_eq (j : Fin 256) (d : Fin 64) (hj : 128 ≤ n.val * 128 + j.val) :
    k0_pay15 (F := Ideal) (xI m c h n).kp (xI m c h n).kc (ix2 j d) = kS (zA m c) n j h d := by
  have e : kS (zA m c) n j h d = zA m c (ix2 ⟨n.val * 128 + j.val - 128, by omega⟩ ⟨6912 + (h.val * 64 + d.val), by omega⟩) := dif_pos hj
  refine (k15 _ _ j d).trans (Eq.trans ?_ e.symm)
  by_cases hlt : j.val < 128
  · refine (dif_pos hlt).trans ((kp_eq m c h n (by omega) ⟨j.val, hlt⟩ d).trans ?_)
    have e1 : (n.val - 1) * 128 + j.val = n.val * 128 + j.val - 128 := by omega
    simp only [e1]
  · refine (dif_neg hlt).trans ((kc_eq m c h n ⟨j.val - 128, by omega⟩ d).trans ?_)
    have e1 : n.val * 128 + (j.val - 128) = n.val * 128 + j.val - 128 := by omega
    simp only [e1]
theorem vc_eq (r : Fin 128) (d : Fin 64) : (xI m c h n).vc (ix3 (0 : Fin 1) r d) = zA m c (ix2 ⟨n.val * 128 + r.val, by omega⟩ ⟨7680 + (h.val * 64 + d.val), by omega⟩) :=
  (blk3 m c h n r d).trans (V24 m c h _ d)
theorem vp_eq (hn : 1 ≤ n.val) (r : Fin 128) (d : Fin 64) : (xI m c h n).vp (ix3 (0 : Fin 1) r d) = zA m c (ix2 ⟨(n.val - 1) * 128 + r.val, by omega⟩ ⟨7680 + (h.val * 64 + d.val), by omega⟩) :=
  (blk4 m c h n hn r d).trans (V24 m c h _ d)
/-- The band, where it lies in the sequence. -/
theorem vv_eq (j : Fin 256) (d : Fin 64) (hj : 128 ≤ n.val * 128 + j.val) :
    k0_pay15 (F := Ideal) (xI m c h n).vp (xI m c h n).vc (ix2 j d) = vS (zA m c) n j h d := by
  have e : vS (zA m c) n j h d = zA m c (ix2 ⟨n.val * 128 + j.val - 128, by omega⟩ ⟨7680 + (h.val * 64 + d.val), by omega⟩) := dif_pos hj
  refine (k15 _ _ j d).trans (Eq.trans ?_ e.symm)
  by_cases hlt : j.val < 128
  · refine (dif_pos hlt).trans ((vp_eq m c h n (by omega) ⟨j.val, hlt⟩ d).trans ?_)
    have e1 : (n.val - 1) * 128 + j.val = n.val * 128 + j.val - 128 := by omega
    simp only [e1]
  · refine (dif_neg hlt).trans ((vc_eq m c h n ⟨j.val - 128, by omega⟩ d).trans ?_)
    have e1 : n.val * 128 + (j.val - 128) = n.val * 128 + j.val - 128 := by omega
    simp only [e1]

/-- A row's sink and scores, as the kernel masks them. -/
theorem sc_eq (g : Fin 8) (a : Fin 128) (j : Fin 256) :
    k0_pay16 (F := Ideal) (bw (tp h n)) (xI m c h n).q (xI m c h n).kp (xI m c h n).kc (xI m c h n).bias (ix2 j (rowOf g a))
      = scS (zA m c) (bA m c) n h g a j := by
  rw [k16, bias_eq]
  have hj := j.isLt
  have e1 : (BitVec.ofNat 32 j.val).toInt = j.val := by
    rw [BitVec.toInt_ofNat']; simp only [Int.bmod_def]; split_ifs <;> omega
  have hc : (IntOp.ori (IntOp.cmpi .sge (BitVec.ofNat 32 j.val) 128#32) (IntOp.cmpi .sgt (bw (tp h n)) 0#32)) = 1 ↔ 128 ≤ n.val * 128 + j.val := by
    refine Iff.trans IntOp.ori_eq_one ?_
    rw [IntOp.cmpi_sge, IntOp.cmpi_sgt, e1, bw_toInt]
    have h0 : (0#32).toInt = 0 := rfl
    have h1 : (128#32).toInt = 128 := rfl
    rw [h0, h1]
    omega
  unfold Scalar.select
  by_cases hs : 128 ≤ n.val * 128 + j.val
  · rw [if_pos (hc.2 hs)]
    unfold scS
    by_cases hw : j.val ≤ 128 + a.val ∧ a.val < j.val
    · have hn : seen n a j := ⟨hw.1, hw.2, hs⟩
      rw [if_pos hw, if_pos hn]
      refine congrArg (fun t : EReal => t * c8 + bS (bA m c) h g a j) (Finset.sum_congr rfl fun d _ => ?_)
      rw [kk_eq m c h n j d hs, q_eq]
    · have hn : ¬ seen n a j := fun t => hw ⟨t.1, t.2.1⟩
      rw [if_neg hw, if_neg hn]
      exact EReal.add_bot _
  · rw [if_neg fun t => hs (hc.1 t)]
    exact (scS_unseen n h g a j fun t => hs t.2.2).symm

theorem sc_fun (g : Fin 8) (a : Fin 128) :
    (fun j => k0_pay16 (F := Ideal) (bw (tp h n)) (xI m c h n).q (xI m c h n).kp (xI m c h n).kc (xI m c h n).bias (ix2 j (rowOf g a)))
      = scS (zA m c) (bA m c) n h g a := funext fun j => sc_eq m c h n g a j

theorem e_eq (g : Fin 8) (a : Fin 128) (j : Fin 256) : (xI m c h n).e (bw (tp h n)) (ix2 j (rowOf g a)) = rowE (scS (zA m c) (bA m c) n h g a) (sS (kA m c) h g) j := by
  refine (k19 _ _ _ _ _ _ _ _).trans ?_
  rw [sc_fun, sink_eq]
theorem es_eq (g : Fin 8) (a : Fin 128) : (xI m c h n).es (bw (tp h n)) (ix2 (0 : Fin 1) (rowOf g a)) = rowEs (scS (zA m c) (bA m c) n h g a) (sS (kA m c) h g) := by
  refine (k20 _ _ _ _ _ _ _).trans ?_
  rw [sc_fun, sink_eq]
theorem iz_eq (g : Fin 8) (a : Fin 128) : k0_pay21 (F := Ideal) ((xI m c h n).e (bw (tp h n))) ((xI m c h n).es (bw (tp h n))) (ix2 (0 : Fin 1) (rowOf g a))
    = Ideal.div 1 (rowZ (scS (zA m c) (bA m c) n h g a) (sS (kA m c) h g)) := by
  refine (k21 _ _ _).trans ?_
  unfold rowZ
  rw [es_eq, Finset.sum_congr rfl fun j _ => e_eq m c h n g a j]
/-- The weights. -/
theorem p_eq (g : Fin 8) (a : Fin 128) (j : Fin 256) : (xI m c h n).p (bw (tp h n)) (ix2 j (rowOf g a)) = pS (zA m c) (bA m c) (kA m c) n h g a j := by
  refine (k22 _ _ _ _).trans ?_
  rw [iz_eq, e_eq]
  rfl
theorem ps_eq (g : Fin 8) (a : Fin 128) : k0_pay23 (F := Ideal) ((xI m c h n).e (bw (tp h n))) ((xI m c h n).es (bw (tp h n))) (ix2 (0 : Fin 1) (rowOf g a))
    = rowEs (scS (zA m c) (bA m c) n h g a) (sS (kA m c) h g) * Ideal.div 1 (rowZ (scS (zA m c) (bA m c) n h g a) (sS (kA m c) h g)) := by
  refine (k23 _ _ _).trans ?_
  rw [iz_eq, es_eq]
/-- The kernel's row of the weights' cotangent. -/
abbrev dpK (g : Fin 8) (a : Fin 128) (j : Fin 256) : EReal := k0_pay25 (F := Ideal) (xI m c h n).vp (xI m c h n).vc (xI m c h n).g (ix2 j (rowOf g a))
theorem dp_eq (g : Fin 8) (a : Fin 128) (j : Fin 256) (hj : scS (zA m c) (bA m c) n h g a j ≠ ⊥) : dpK m c h n g a j = dpS (zA m c) (yA m c) n h g a j := by
  have hs : seen n a j := by
    by_contra hs; exact hj (scS_unseen n h g a j hs)
  refine (k25 _ _ _ j g a).trans ?_
  unfold dpS
  refine Finset.sum_congr rfl fun d _ => ?_
  rw [vv_eq m c h n j d hs.2.2, g_eq]
theorem delta_eq (g : Fin 8) (a : Fin 128) : (xI m c h n).delta (bw (tp h n)) (ix2 (0 : Fin 1) (rowOf g a))
    = rowDelta (scS (zA m c) (bA m c) n h g a) (sS (kA m c) h g) (dpK m c h n g a) := by
  refine (k26 _ _ _ _ _ _).trans ?_
  unfold rowDelta
  exact Finset.sum_congr rfl fun j _ => congrArg (fun t : EReal => dpK m c h n g a j * t) (p_eq m c h n g a j)

section finite
variable (hz : ∀ i, IsR (zA m c i)) (hb : ∀ i, IsR (bA m c i)) (hk : ∀ i, IsR (kA m c i))
include hz hb hk

/-- The scores' gradient. -/
theorem dst_eq (g : Fin 8) (a : Fin 128) (j : Fin 256) : (xI m c h n).dst (bw (tp h n)) (ix2 j (rowOf g a)) = dsS (zA m c) (bA m c) (kA m c) (yA m c) n h g a j := by
  refine (k27 _ _ _ _ _ _ _).trans ?_
  refine Eq.trans ?_ (rowDS_congr (scS_cases hz hb n h g a) (hk _) (dp_eq m c h n g a) j)
  unfold rowDS
  exact congrArg₂ (fun p t : EReal => p * (dpK m c h n g a j - t)) (p_eq m c h n g a j) (delta_eq m c h n g a)
theorem sk_eq (g : Fin 8) (a : Fin 128) :
    (0 - k0_pay23 (F := Ideal) ((xI m c h n).e (bw (tp h n))) ((xI m c h n).es (bw (tp h n))) (ix2 (0 : Fin 1) (rowOf g a))) * (xI m c h n).delta (bw (tp h n)) (ix2 (0 : Fin 1) (rowOf g a))
      = rowSink (scS (zA m c) (bA m c) n h g a) (sS (kA m c) h g) (dpS (zA m c) (yA m c) n h g a) := by
  rw [ps_eq, delta_eq]
  exact rowSink_congr (scS_cases hz hb n h g a) (hk _) (dp_eq m c h n g a)

variable (db : Vec Ideal S1x256x1024 .f32) (ds : Vec Ideal S1x1x1024 .f32) (ck cv : Vec Ideal S128x64 .f32)

/-- The queries' gradient at the point. -/
theorem step_dq (a : Fin 128) (g : Fin 8) (d : Fin 64) :
    (stepB (bw (tp h n)) (xI m c h n) db ds ck cv).dq (ix2 a (colOf g d)) = dqS (zA m c) (bA m c) (kA m c) (yA m c) n a h g d := by
  refine (kdq _ _ a g d).trans ((k32 _ _ _ _).trans ?_)
  unfold dqS
  refine Finset.sum_congr rfl fun j _ => ?_
  rw [dst_eq m c h n hz hb hk]
  by_cases hj : 128 ≤ n.val * 128 + j.val
  · rw [kk_eq m c h n j d hj]
  · have e : dsS (zA m c) (bA m c) (kA m c) (yA m c) n h g a j = 0 :=
      rowDS_masked (scS_cases hz hb n h g a) (hk _) j (scS_unseen n h g a j fun t => hj t.2.2)
    rw [e, zero_mul, zero_mul, zero_mul]
theorem step_dk (r : Fin 128) (d : Fin 64) :
    (stepB (bw (tp h n)) (xI m c h n) db ds ck cv).dk (ix3 (0 : Fin 1) r d) = ck (ix2 r d) + dkbS (zA m c) (bA m c) (kA m c) (yA m c) n ⟨r.val, by omega⟩ h d := by
  refine (k8 _ _ _ r d).trans ?_
  unfold dkbS
  refine congrArg (fun t : EReal => ck (ix2 r d) + t) (Finset.sum_congr rfl fun g _ => Finset.sum_congr rfl fun a _ => ?_)
  rw [k31, dst_eq m c h n hz hb hk, k14, q_eq]
theorem step_ck (r : Fin 128) (d : Fin 64) :
    (stepB (bw (tp h n)) (xI m c h n) db ds ck cv).ck (ix2 r d) = dkbS (zA m c) (bA m c) (kA m c) (yA m c) n ⟨128 + r.val, by omega⟩ h d := by
  refine (k10 _ _ r d).trans ?_
  unfold dkbS
  refine Finset.sum_congr rfl fun g _ => Finset.sum_congr rfl fun a _ => ?_
  rw [k31, dst_eq m c h n hz hb hk, k14, q_eq]
omit hz hb hk in
theorem step_dv (r : Fin 128) (d : Fin 64) :
    (stepB (bw (tp h n)) (xI m c h n) db ds ck cv).dv (ix3 (0 : Fin 1) r d) = cv (ix2 r d) + dvbS (zA m c) (bA m c) (kA m c) (yA m c) n ⟨r.val, by omega⟩ h d := by
  refine (k9 _ _ _ r d).trans ?_
  unfold dvbS
  refine congrArg (fun t : EReal => cv (ix2 r d) + t) (Finset.sum_congr rfl fun g _ => Finset.sum_congr rfl fun a _ => ?_)
  rw [p_eq, k24, g_eq]
omit hz hb hk in
theorem step_cv (r : Fin 128) (d : Fin 64) :
    (stepB (bw (tp h n)) (xI m c h n) db ds ck cv).cv (ix2 r d) = dvbS (zA m c) (bA m c) (kA m c) (yA m c) n ⟨128 + r.val, by omega⟩ h d := by
  refine (k11 _ _ r d).trans ?_
  unfold dvbS
  refine Finset.sum_congr rfl fun g _ => Finset.sum_congr rfl fun a _ => ?_
  rw [p_eq, k24, g_eq]
theorem step_db (j : Fin 256) (g : Fin 8) (a : Fin 128) :
    (stepB (bw (tp h n)) (xI m c h n) db ds ck cv).db (ix3 (0 : Fin 1) j (rowOf g a)) = db (ix3 (0 : Fin 1) j (rowOf g a)) + dsS (zA m c) (bA m c) (kA m c) (yA m c) n h g a j := by
  refine (k28 _ _ _ _ _ _ _ _).trans ?_
  exact congrArg (fun t : EReal => db (ix3 (0 : Fin 1) j (rowOf g a)) + t) (dst_eq m c h n hz hb hk g a j)
theorem step_ds (g : Fin 8) (a : Fin 128) :
    (stepB (bw (tp h n)) (xI m c h n) db ds ck cv).ds (ix3 (0 : Fin 1) (0 : Fin 1) (rowOf g a)) = ds (ix3 (0 : Fin 1) (0 : Fin 1) (rowOf g a))
      + rowSink (scS (zA m c) (bA m c) n h g a) (sS (kA m c) h g) (dpS (zA m c) (yA m c) n h g a) := by
  refine (k30 _ _ _ _).trans ?_
  exact congrArg (fun t : EReal => ds (ix3 (0 : Fin 1) (0 : Fin 1) (rowOf g a)) + t) (sk_eq m c h n hz hb hk g a)
end finite
end point

end Cert.KernelIdeal.Swa
-- ==== Proof.SwaRefA.lean ====
module

public import proofs.«01_k».proof.Proof.Gen.ReferenceIdeal.Read
public import proofs.«01_k».proof.Proof.SwaSpec
public import Idealize.ShloMosaic.Lib.Tactic.WordOmega
public import Idealize.ShloMosaic.Lib.IdealHost

@[expose] public section

set_option maxRecDepth 16384

noncomputable section

/-! The reference's attention gradients in coordinates, stage by stage. -/

namespace Cert.ReferenceIdeal.Swa

open Cert.ReferenceIdeal Cert.ReferenceIdeal.Gen Cert.ReferenceIdeal.Read Idealize.ShloMosaic Idealize.ShloMosaic.TcCoe Cert.Swa

variable (x0 : (⟨S4096x8192, .bf16⟩ : BufTy).Contents (Elt Ideal)) (x1 : (⟨S128x256x32, .f32⟩ : BufTy).Contents (Elt Ideal)) (x2 : (⟨S1x32, .f32⟩ : BufTy).Contents (Elt Ideal)) (x3 : (⟨S4096x2048, .bf16⟩ : BufTy).Contents (Elt Ideal))

/-- The f32 word of −∞. -/
theorem ninf_bits : Ideal.ofBits .f32 0xFF800000#32 = ⊥ := by simp [Ideal.ofBits, Ideal.ieee]

/-- The band of keys. -/
theorem r14 (n : Fin 32) (j : Fin 256) (h : Fin 4) (d : Fin 64) : val_main_v14 (F := Ideal) x0 (ix4 n j h d) = kS x0 n j h d := by
  pointwise [val_main_v14, val_main_v12, val_main_v13, val_main_v11, val_main_v9, val_main_v8, val_main_v7, val_main_v2, val_main_v0, val_main_cst]
  by_cases c : 128 ≤ n.val * 128 + j.val
  · have e : kS x0 n j h d = x0 (ix2 ⟨n.val * 128 + j.val - 128, by omega⟩ ⟨6912 + (h.val * 64 + d.val), by omega⟩) := dif_pos c
    refine Eq.trans ?_ e.symm
    split_ifs <;> first | omega | rfl | (congr 2; apply Fin.ext; dsimp only; omega)
  · have e : kS x0 n j h d = 0 := dif_neg c
    refine Eq.trans ?_ e.symm
    split_ifs <;> first | omega | rfl

/-- The band of values. -/
theorem r22 (n : Fin 32) (j : Fin 256) (h : Fin 4) (d : Fin 64) : val_main_v22 (F := Ideal) x0 (ix4 n j h d) = vS x0 n j h d := by
  pointwise [val_main_v22, val_main_v20, val_main_v21, val_main_v19, val_main_v17, val_main_v16, val_main_v15, val_main_v3, val_main_v0, val_main_cst_1]
  by_cases c : 128 ≤ n.val * 128 + j.val
  · have e : vS x0 n j h d = x0 (ix2 ⟨n.val * 128 + j.val - 128, by omega⟩ ⟨7680 + (h.val * 64 + d.val), by omega⟩) := dif_pos c
    refine Eq.trans ?_ e.symm
    split_ifs <;> first | omega | rfl | (congr 2; apply Fin.ext; dsimp only; omega)
  · have e : vS x0 n j h d = 0 := dif_neg c
    refine Eq.trans ?_ e.symm
    split_ifs <;> first | omega | rfl

/-- The queries. -/
theorem r6 (n : Fin 32) (a : Fin 128) (h : Fin 4) (g : Fin 8) (d : Fin 64) : val_main_v6 (F := Ideal) x0 (ix5 n a h g d) = qS x0 n a h g d := by
  pointwise [val_main_v6, val_main_v1, val_main_v0]

/-- The cotangent. -/
theorem r109 (n : Fin 32) (a : Fin 128) (h : Fin 4) (g : Fin 8) (d : Fin 64) : val_main_v109 (F := Ideal) x3 (ix5 n h d g a) = gS x3 n a h g d := by
  pointwise [val_main_v109, val_main_v108, val_main_v107]

/-- A row's place less a key's, as a word. -/
theorem r35 (a : Fin 128) (j : Fin 256) : val_main_v35 (F := Ideal) (ix2 a j) = IntOp.subi (IntOp.addi 128#32 (BitVec.ofNat 32 a.val)) (BitVec.ofNat 32 j.val) := by
  pointwise [val_main_v35, val_main_v34, val_main_v33, val_main_v32, val_main_v31, val_main_v30, val_main_v29, val_main_v28, val_main_v27, val_main_c]

/-- A key's place in the sequence, as a word. -/
theorem r47 (n : Fin 32) (j : Fin 256) : val_main_v47 (F := Ideal) (ix3 n (0 : Fin 1) j) = IntOp.addi (IntOp.subi (IntOp.muli (BitVec.ofNat 32 n.val) 128#32) 128#32) (BitVec.ofNat 32 j.val) := by
  pointwise [val_main_v47, val_main_v46, val_main_v45, val_main_v44, val_main_v43, val_main_v42, val_main_v41, val_main_v40, val_main_v39, val_main_v38, val_main_v28, val_main_c_4, val_main_c_5]

/-- The mask's words. -/
theorem r59w (n : Fin 32) (a : Fin 128) (j : Fin 256) : val_main_v59 (F := Ideal) (ix3 n a j)
    = IntOp.andi (IntOp.andi (IntOp.cmpi .sge (val_main_v35 (F := Ideal) (ix2 a j)) 0#32) (IntOp.cmpi .slt (val_main_v35 (F := Ideal) (ix2 a j)) 128#32))
        (IntOp.cmpi .sge (val_main_v47 (F := Ideal) (ix3 n (0 : Fin 1) j)) 0#32) := by
  pointwise [val_main_v59, val_main_v58, val_main_v57, val_main_v56, val_main_v55, val_main_v54, val_main_v53, val_main_v52, val_main_v51, val_main_v50, val_main_v49, val_main_v48, val_main_c_6, val_main_c_7, val_main_c_8]

theorem i35 (a : Fin 128) (j : Fin 256) : (IntOp.subi (IntOp.addi 128#32 (BitVec.ofNat 32 a.val)) (BitVec.ofNat 32 j.val)).toInt = 128 + (a.val : ℤ) - j.val := by
  have ha := a.isLt; have hj := j.isLt
  simp only [IntOp.subi, IntOp.addi, BitVec.toInt_sub, BitVec.toInt_add, BitVec.toInt_ofNat']
  simp only [Int.bmod_def]
  split_ifs <;> omega
theorem i47 (n : Fin 32) (j : Fin 256) : (IntOp.addi (IntOp.subi (IntOp.muli (BitVec.ofNat 32 n.val) 128#32) 128#32) (BitVec.ofNat 32 j.val)).toInt = (n.val : ℤ) * 128 - 128 + j.val := by
  have hn := n.isLt; have hj := j.isLt
  simp only [IntOp.subi, IntOp.addi, IntOp.muli, BitVec.toInt_sub, BitVec.toInt_add, BitVec.toInt_mul, BitVec.toInt_ofNat']
  simp only [Int.bmod_def]
  split_ifs <;> omega

/-- The mask's bit is set exactly at the keys the row sees. -/
theorem r59 (n : Fin 32) (a : Fin 128) (j : Fin 256) : val_main_v59 (F := Ideal) (ix3 n a j) = 1#1 ↔ seen n a j := by
  rw [r59w, r35, r47]
  simp only [IntOp.andi_eq_one, IntOp.cmpi_sge, IntOp.cmpi_slt, i35, i47]
  have h0 : (0#32).toInt = 0 := rfl
  have h1 : (128#32).toInt = 128 := rfl
  rw [h0, h1]
  unfold seen
  omega

/-- The unmasked scores. -/
theorem r61 (n : Fin 32) (a : Fin 128) (h : Fin 4) (g : Fin 8) (j : Fin 256) : val_main_v61 (F := Ideal) x0 x1 (ix5 h g n a j) = (∑ d, kS x0 n j h d * qS x0 n a h g d) * c8 + bS x1 h g a j := by
  pointwise [val_main_v61, val_main_v60, val_main_v37, val_main_v36, val_main_v26, val_main_v25, val_main_v24, val_main_v23, val_main_cst_3, r14, r6]

/-- The masked scores. -/
theorem r62 (n : Fin 32) (a : Fin 128) (h : Fin 4) (g : Fin 8) (j : Fin 256) : val_main_v62_0 (F := Ideal) x0 x1 (ix5 h g n a j) = scS x0 x1 n h g a j := by
  pointwise [val_main_v62_0, val_main_v62_1, val_main_call0_v2, val_main_call0_v0, val_main_cst_9, r61]
  unfold scS Scalar.select
  by_cases hs : seen n a j
  · have hm : val_main_v59 (F := Ideal) (ix3 n a j) = 1 := (r59 n a j).2 hs
    rw [if_pos hs, if_pos hm]
  · have hm : ¬ val_main_v59 (F := Ideal) (ix3 n a j) = 1 := fun h => hs ((r59 n a j).1 h)
    rw [if_neg hs, if_neg hm]
    exact ninf_bits

end Cert.ReferenceIdeal.Swa
-- ==== Proof.SwaRefB.lean ====
module

public import proofs.«01_k».proof.Proof.Gen.ReferenceIdeal.Read
public import proofs.«01_k».proof.Proof.SwaRefA
public import Idealize.ShloMosaic.Lib.Tactic.WordOmega
public import Idealize.ShloMosaic.Lib.IdealHost

@[expose] public section

set_option maxRecDepth 16384

noncomputable section

/-! The reference's attention gradients in coordinates, stage by stage. -/

namespace Cert.ReferenceIdeal.Swa

open Cert.ReferenceIdeal Cert.ReferenceIdeal.Gen Cert.ReferenceIdeal.Read Idealize.ShloMosaic Idealize.ShloMosaic.TcCoe Cert.Swa

variable (x0 : (⟨S4096x8192, .bf16⟩ : BufTy).Contents (Elt Ideal)) (x1 : (⟨S128x256x32, .f32⟩ : BufTy).Contents (Elt Ideal)) (x2 : (⟨S1x32, .f32⟩ : BufTy).Contents (Elt Ideal)) (x3 : (⟨S4096x2048, .bf16⟩ : BufTy).Contents (Elt Ideal))

/-- The greatest score. -/
theorem r63 (n : Fin 32) (a : Fin 128) (h : Fin 4) (g : Fin 8) : val_main_v63 (F := Ideal) x0 x1 (ix4 h g n a) = Finset.univ.fold max ⊥ (scS x0 x1 n h g a) := by
  pointwise [val_main_v63, val_main_cst_10, r62]
  exact congrArg (fun b => Finset.univ.fold max b (scS x0 x1 n h g a)) ninf_bits

theorem r5 (h : Fin 4) (g : Fin 8) (a : Fin 128) : val_main_v5 (F := Ideal) x2 (ix5 h g (0 : Fin 1) a (0 : Fin 1)) = sS x2 h g := by
  pointwise [val_main_v5, val_main_v4]

theorem mx (s t : EReal) : FloatOps.maximumf (F := Ideal) (φ := .f32) s t = max s t := rfl
theorem r69 (n : Fin 32) (a : Fin 128) (h : Fin 4) (g : Fin 8) : val_main_v69 (F := Ideal) x0 x1 (ix5 h g n a (0 : Fin 1)) = val_main_v63 (F := Ideal) x0 x1 (ix4 h g n a) := by
  pointwise [val_main_v69]
theorem r70 (n : Fin 32) (a : Fin 128) (h : Fin 4) (g : Fin 8) : val_main_v70 (F := Ideal) x2 (ix5 h g n a (0 : Fin 1)) = val_main_v5 (F := Ideal) x2 (ix5 h g (0 : Fin 1) a (0 : Fin 1)) := by
  pointwise [val_main_v70]

/-- The shift. -/
theorem r71 (n : Fin 32) (a : Fin 128) (h : Fin 4) (g : Fin 8) : val_main_v71 (F := Ideal) x0 x1 x2 (ix5 h g n a (0 : Fin 1)) = rowM (scS x0 x1 n h g a) (sS x2 h g) := by
  rw [val_main_v71_apply, r69, r70, r63, r5]
  unfold rowM
  exact mx _ _

/-- The exponentials. -/
theorem r92 (n : Fin 32) (a : Fin 128) (h : Fin 4) (g : Fin 8) (j : Fin 256) : val_main_v92 (F := Ideal) x0 x1 x2 (ix5 h g n a j) = rowE (scS x0 x1 n h g a) (sS x2 h g) j := by
  pointwise [val_main_v92, val_main_v91, val_main_v90, r71, r62]
  rfl

theorem r97 (n : Fin 32) (a : Fin 128) (h : Fin 4) (g : Fin 8) : val_main_v97 (F := Ideal) x0 x1 x2 (ix5 h g n a (0 : Fin 1)) = rowEs (scS x0 x1 n h g a) (sS x2 h g) := by
  pointwise [val_main_v97, val_main_v96, val_main_v95, r71, r5]
  rfl

/-- The normaliser. -/
theorem r98 (n : Fin 32) (a : Fin 128) (h : Fin 4) (g : Fin 8) : val_main_v98 (F := Ideal) x0 x1 x2 (ix5 h g n a (0 : Fin 1)) = rowZ (scS x0 x1 n h g a) (sS x2 h g) := by
  pointwise [val_main_v98, val_main_v94, val_main_v93, val_main_cst_18, r97, r92]
  unfold rowZ
  simp

theorem r100 (n : Fin 32) (a : Fin 128) (h : Fin 4) (g : Fin 8) (j : Fin 256) : val_main_v100 (F := Ideal) x0 x1 x2 (ix5 h g n a j) = Ideal.div (rowE (scS x0 x1 n h g a) (sS x2 h g) j) (rowZ (scS x0 x1 n h g a) (sS x2 h g)) := by
  pointwise [val_main_v100, val_main_v99, r98, r92]

theorem r103 (n : Fin 32) (a : Fin 128) (h : Fin 4) (g : Fin 8) : val_main_v103 (F := Ideal) x0 x1 x2 (ix5 h g n a (0 : Fin 1)) = Ideal.div 1 (rowZ (scS x0 x1 n h g a) (sS x2 h g) * rowZ (scS x0 x1 n h g a) (sS x2 h g)) := by
  pointwise [val_main_v103, val_main_v102, val_main_v101, val_main_cst_19, r98]

theorem r111 (n : Fin 32) (a : Fin 128) (h : Fin 4) (g : Fin 8) (j : Fin 256) : val_main_v111 (F := Ideal) x0 x3 (ix5 h g n a j) = dpS x0 x3 n h g a j := by
  pointwise [val_main_v111, val_main_v110, r109, r22]
  exact Finset.sum_congr rfl fun d _ => mul_comm _ _

theorem r119 (n : Fin 32) (a : Fin 128) (h : Fin 4) (g : Fin 8) : val_main_v119 (F := Ideal) x0 x1 x2 x3 (ix5 h g n a (0 : Fin 1)) = rowT (scS x0 x1 n h g a) (sS x2 h g) (dpS x0 x3 n h g a) := by
  pointwise [val_main_v119, val_main_v118, val_main_v117, val_main_v116, val_main_v115, val_main_v114, val_main_cst_20, r103, r111, r92]
  unfold rowT
  simp

theorem r129 (n : Fin 32) (a : Fin 128) (h : Fin 4) (g : Fin 8) (j : Fin 256) : val_main_v129 (F := Ideal) x0 x1 x2 x3 (ix5 h g n a j) = rowX (scS x0 x1 n h g a) (sS x2 h g) (dpS x0 x3 n h g a) j := by
  pointwise [val_main_v129, val_main_v128, val_main_v127, val_main_v126, val_main_v121, val_main_v120, val_main_cst_22, r119, r111, r98, r92]
  unfold rowX
  simp [r119]

theorem r133 (n : Fin 32) (a : Fin 128) (h : Fin 4) (g : Fin 8) : val_main_v133 (F := Ideal) x0 x1 x2 x3 (ix5 h g n a (0 : Fin 1))
    = -(rowT (scS x0 x1 n h g a) (sS x2 h g) (dpS x0 x3 n h g a) * rowEs (scS x0 x1 n h g a) (sS x2 h g)) + ∑ j, -(rowX (scS x0 x1 n h g a) (sS x2 h g) (dpS x0 x3 n h g a) j) := by
  pointwise [val_main_v133, val_main_v132, val_main_v131, val_main_v130, val_main_v125, val_main_v122, val_main_cst_23, r129, r119, r97]

end Cert.ReferenceIdeal.Swa
-- ==== Proof.SwaRefC.lean ====
module

public import proofs.«01_k».proof.Proof.Gen.ReferenceIdeal.Read
public import proofs.«01_k».proof.Proof.SwaRefB
public import Idealize.ShloMosaic.Lib.Tactic.WordOmega
public import Idealize.ShloMosaic.Lib.IdealHost

@[expose] public section

set_option maxRecDepth 16384

noncomputable section

/-! The reference's attention gradients in coordinates, stage by stage. -/

namespace Cert.ReferenceIdeal.Swa

open Cert.ReferenceIdeal Cert.ReferenceIdeal.Gen Cert.ReferenceIdeal.Read Idealize.ShloMosaic Idealize.ShloMosaic.TcCoe Cert.Swa

variable (x0 : (⟨S4096x8192, .bf16⟩ : BufTy).Contents (Elt Ideal)) (x1 : (⟨S128x256x32, .f32⟩ : BufTy).Contents (Elt Ideal)) (x2 : (⟨S1x32, .f32⟩ : BufTy).Contents (Elt Ideal)) (x3 : (⟨S4096x2048, .bf16⟩ : BufTy).Contents (Elt Ideal))

section finite
variable {x0 x1 x2 x3}
variable (hz : ∀ i, IsR (x0 i)) (hb : ∀ i, IsR (x1 i)) (hk : ∀ i, IsR (x2 i)) (hy : ∀ i, IsR (x3 i))
include hz hb hk hy

/-- The row of scores, its sink and its weights' cotangent are finite or masked: the chain rule's terms are `rowDS`, `rowSink` and 0. -/
theorem chain (n : Fin 32) (a : Fin 128) (h : Fin 4) (g : Fin 8) :
    (∀ j, rowX (scS x0 x1 n h g a) (sS x2 h g) (dpS x0 x3 n h g a) j = rowDS (scS x0 x1 n h g a) (sS x2 h g) (dpS x0 x3 n h g a) j)
      ∧ rowT (scS x0 x1 n h g a) (sS x2 h g) (dpS x0 x3 n h g a) * rowEs (scS x0 x1 n h g a) (sS x2 h g) = rowSink (scS x0 x1 n h g a) (sS x2 h g) (dpS x0 x3 n h g a)
      ∧ -(rowT (scS x0 x1 n h g a) (sS x2 h g) (dpS x0 x3 n h g a) * rowEs (scS x0 x1 n h g a) (sS x2 h g)) + ∑ j, -(rowX (scS x0 x1 n h g a) (sS x2 h g) (dpS x0 x3 n h g a) j) = 0 :=
  row_chain (s := scS x0 x1 n h g a) (σ := sS x2 h g) (dp := dpS x0 x3 n h g a) (scS_cases hz hb n h g a) (hk _) (dpS_real hz hy n h g a)

theorem z133 (n : Fin 32) (a : Fin 128) (h : Fin 4) (g : Fin 8) : val_main_v133 (F := Ideal) x0 x1 x2 x3 (ix5 h g n a (0 : Fin 1)) = 0 :=
  (r133 x0 x1 x2 x3 n a h g).trans (chain hz hb hk hy n a h g).2.2

omit hz hb hk hy in
theorem mz (t : EReal) : FloatOps.mulf (F := Ideal) (φ := .f32) (0 : EReal) t = 0 := zero_mul t
omit hz hb hk hy in
theorem r139 (n : Fin 32) (a : Fin 128) (h : Fin 4) (g : Fin 8) : val_main_v139 (F := Ideal) x0 x1 x2 x3 (ix4 h g n a) = val_main_v138 (F := Ideal) x0 x1 x2 x3 (ix5 h g n a (0 : Fin 1)) := by
  pointwise [val_main_v139, val_main_cst_25]
  simp
theorem z139 (n : Fin 32) (a : Fin 128) (h : Fin 4) (g : Fin 8) : val_main_v139 (F := Ideal) x0 x1 x2 x3 (ix4 h g n a) = 0 := by
  rw [r139, val_main_v138_apply, z133 hz hb hk hy]
  exact mz _

omit hz hb hk hy in
/-- Whether a score is its row's greatest, as a number. -/
theorem r67 (n : Fin 32) (a : Fin 128) (h : Fin 4) (g : Fin 8) (j : Fin 256) : 0 ≤ val_main_v67 (F := Ideal) x0 x1 (ix5 h g n a j) := by
  pointwise [val_main_v67]
  show (0 : EReal) ≤ (((val_main_v66 (F := Ideal) x0 x1 (ix5 h g n a j)).toNat : ℝ) : EReal)
  exact EReal.coe_nonneg.2 (Nat.cast_nonneg (α := ℝ) _)

omit hz hb hk hy in
theorem r68 (n : Fin 32) (a : Fin 128) (h : Fin 4) (g : Fin 8) : val_main_v68 (F := Ideal) x0 x1 (ix4 h g n a) = ∑ j, val_main_v67 (F := Ideal) x0 x1 (ix5 h g n a j) := by
  pointwise [val_main_v68, val_main_cst_11]

/-- The term through the greatest score vanishes. -/
theorem z142 (n : Fin 32) (a : Fin 128) (h : Fin 4) (g : Fin 8) (j : Fin 256) : val_main_v142 (F := Ideal) x0 x1 x2 x3 (ix5 h g n a j) = 0 := by
  have e := z139 hz hb hk hy n a h g
  have t : val_main_v142 (F := Ideal) x0 x1 x2 x3 (ix5 h g n a j) = Ideal.div 0 (val_main_v68 (F := Ideal) x0 x1 (ix4 h g n a)) * val_main_v67 (F := Ideal) x0 x1 (ix5 h g n a j) := by
    pointwise [val_main_v142, val_main_v141, val_main_v140, e]
  rw [t]
  by_cases hc : val_main_v68 (F := Ideal) x0 x1 (ix4 h g n a) = 0
  · rw [r68, Finset.sum_eq_zero_iff_of_nonneg fun j _ => r67 n a h g j] at hc
    rw [hc j (Finset.mem_univ _), mul_zero]
  · rw [Ideal.zero_div hc, zero_mul]

/-- The scores' gradient. -/
theorem r144 (n : Fin 32) (a : Fin 128) (h : Fin 4) (g : Fin 8) (j : Fin 256) : val_main_v144 (F := Ideal) x0 x1 x2 x3 (ix5 h g n a j) = dsS x0 x1 x2 x3 n h g a j := by
  have e := z142 hz hb hk hy n a h g j
  have c := (chain hz hb hk hy n a h g).1 j
  pointwise [val_main_v144, val_main_v62_1, val_main_v143, val_main_call1_v0, val_main_call1_cst, e, r129]
  unfold dsS Scalar.select
  by_cases hs : seen n a j
  · have hm : val_main_v59 (F := Ideal) (ix3 n a j) = 1 := (r59 n a j).2 hs
    rw [if_pos hm, c]
  · have hm : ¬ val_main_v59 (F := Ideal) (ix3 n a j) = 1 := fun h => hs ((r59 n a j).1 h)
    rw [if_neg hm, rowDS_masked (scS_cases hz hb n h g a) (hk _) j (scS_unseen n h g a j hs)]

/-- One band's part of the values' gradient. -/
theorem r113 (n : Fin 32) (j : Fin 256) (h : Fin 4) (d : Fin 64) : val_main_v113 (F := Ideal) x0 x1 x2 x3 (ix4 n j h d) = dvbS x0 x1 x2 x3 n j h d := by
  pointwise [val_main_v113, val_main_v112, r109, r100]
  unfold dvbS pS
  refine Finset.sum_congr rfl fun g _ => Finset.sum_congr rfl fun a _ => ?_
  rw [rowP_div (scS_cases hz hb n h g a) (hk _), mul_comm]

/-- One band's part of the keys' gradient. -/
theorem r155 (n : Fin 32) (j : Fin 256) (h : Fin 4) (d : Fin 64) : val_main_v155 (F := Ideal) x0 x1 x2 x3 (ix4 n j h d) = dkbS x0 x1 x2 x3 n j h d := by
  have e := r144 hz hb hk hy
  pointwise [val_main_v155, val_main_v154, val_main_v151, val_main_v150, val_main_v149, val_main_cst_27, e, r6]
  unfold dkbS
  exact Finset.sum_comm

/-- The queries' gradient. -/
theorem r182 (n : Fin 32) (a : Fin 128) (h : Fin 4) (g : Fin 8) (d : Fin 64) :
    val_main_v182 (F := Ideal) x0 x1 x2 x3 (ix2 ⟨n.val * 128 + a.val, by omega⟩ ⟨h.val * 512 + g.val * 64 + d.val, by omega⟩) = dqS x0 x1 x2 x3 n a h g d := by
  have e := r144 hz hb hk hy
  pointwise [val_main_v182, val_main_v174, val_main_v153, val_main_v152, val_main_v151, val_main_v150, val_main_v149, val_main_cst_27, e, r14]
  rfl

theorem r169 (n : Fin 32) (r : Fin 128) (h : Fin 4) (d : Fin 64) :
    val_main_v169 (F := Ideal) x0 x1 x2 x3 (ix4 ⟨n.val + 1, by omega⟩ r h d) = joinS (dkbS x0 x1 x2 x3) n r h d := by
  have e := r155 hz hb hk hy
  pointwise [val_main_v169, val_main_v167, val_main_v168, val_main_v166, val_main_v165, val_main_cst_30, val_main_cst_31, e]
  unfold joinS
  split_ifs <;> first | omega | rfl | skip

/-- The keys' gradient. -/
theorem r183 (n : Fin 32) (r : Fin 128) (h : Fin 4) (d : Fin 64) :
    val_main_v183 (F := Ideal) x0 x1 x2 x3 (ix3 h ⟨n.val * 128 + r.val, by omega⟩ d) = joinS (dkbS x0 x1 x2 x3) n r h d := by
  rw [← r169 hz hb hk hy]
  pointwise [val_main_v183, val_main_v176, val_main_v175, val_main_v173, val_main_v172, val_main_v170]
  congr 2; apply Fin.ext; dsimp only; omega

theorem r160 (n : Fin 32) (r : Fin 128) (h : Fin 4) (d : Fin 64) :
    val_main_v160 (F := Ideal) x0 x1 x2 x3 (ix4 ⟨n.val + 1, by omega⟩ r h d) = joinS (dvbS x0 x1 x2 x3) n r h d := by
  have e := r113 hz hb hk hy
  pointwise [val_main_v160, val_main_v158, val_main_v159, val_main_v156, val_main_v157, val_main_cst_28, val_main_cst_29, e]
  unfold joinS
  split_ifs <;> first | omega | rfl | skip

/-- The values' gradient. -/
theorem r184 (n : Fin 32) (r : Fin 128) (h : Fin 4) (d : Fin 64) :
    val_main_v184 (F := Ideal) x0 x1 x2 x3 (ix3 h ⟨n.val * 128 + r.val, by omega⟩ d) = joinS (dvbS x0 x1 x2 x3) n r h d := by
  rw [← r160 hz hb hk hy]
  pointwise [val_main_v184, val_main_v178, val_main_v177, val_main_v164, val_main_v163, val_main_v161]
  congr 2; apply Fin.ext; dsimp only; omega

/-- The biases' gradient. -/
theorem r181 (h : Fin 4) (g : Fin 8) (a : Fin 128) (j : Fin 256) :
    val_main_v181 (F := Ideal) x0 x1 x2 x3 (ix3 h j ⟨g.val * 128 + a.val, by omega⟩) = dbS x0 x1 x2 x3 h g a j := by
  have e := r144 hz hb hk hy
  pointwise [val_main_v181, val_main_v180, val_main_v179, val_main_v148, val_main_v147, val_main_v146, val_main_v145, val_main_cst_26, e]
  rfl

/-- The sinks' gradient. -/
theorem r185 (h : Fin 4) (g : Fin 8) (a : Fin 128) :
    val_main_v185 (F := Ideal) x0 x1 x2 x3 (ix3 h (0 : Fin 1) ⟨g.val * 128 + a.val, by omega⟩) = dskS x0 x1 x2 x3 h g a := by
  have e := z133 hz hb hk hy
  pointwise [val_main_v185, val_main_v137, val_main_v136, val_main_v135, val_main_v134, val_main_v124, val_main_v123, val_main_v122, val_main_cst_21, val_main_cst_24, e, r119, r97]
  unfold dskS
  simp only [zero_mul, Finset.sum_const_zero, add_zero, zero_add]
  exact Finset.sum_congr rfl fun n _ => (chain hz hb hk hy n a h g).2.1

end finite

end Cert.ReferenceIdeal.Swa
-- ==== Proof.SwaVal.lean ====
module

public import proofs.«01_k».proof.Proof.SwaPt
public import proofs.«01_k».proof.Proof.SwaRefC

@[expose] public section

set_option maxRecDepth 16384

noncomputable section

/-! What the kernel leaves in its five results: the reference's gradients. -/

namespace Cert.KernelIdeal.Swa

open Cert.KernelIdeal Cert.KernelIdeal.Gen Idealize.ShloMosaic Idealize.ShloMosaic.TcCoe Cert.Swa
open Cert.ReferenceIdeal.Read

variable (m : (ℓ : Loc nD τ sig) → Buf (Elt Ideal) ℓ) (c : Dev nD)

/-- The state after the point of head `h` and query block `k`. -/
abbrev stAt (h : Fin 4) (k : ℕ) (hk : k < 33) : St Ideal := st m c (pt h k hk).val (pt h k hk).isLt

theorem pre_eq (h : Fin 4) (k : ℕ) (hk : k + 1 < 33) : pre m c (pt h (k + 1) hk) = stAt m c h k (by omega) := rfl

theorem sA (h : Fin 4) : stAt m c h 0 (by omega) = stepB (bw (tp h 0)) (xI m c h 0) (k0_pay1 (F := Ideal)) (k0_pay2 (F := Ideal)) (k0_pay3 (F := Ideal)) (k0_pay4 (F := Ideal)) :=
  st_A m c (pt h 0 (by omega)) (by show (h.val * 33 + 0) % 33 = 0; omega)
theorem sB (h : Fin 4) (k : ℕ) (hk : k + 1 < 32) : stAt m c h (k + 1) (by omega)
    = stepB (bw (tp h ⟨k + 1, hk⟩)) (xI m c h ⟨k + 1, hk⟩) (stAt m c h k (by omega)).db (stAt m c h k (by omega)).ds
        (stAt m c h k (by omega)).ck (stAt m c h k (by omega)).cv :=
  st_B m c (pt h (k + 1) (by omega)) (by show ¬ (h.val * 33 + (k + 1)) % 33 = 0; omega) (by show (h.val * 33 + (k + 1)) % 33 ≤ 31; omega)
theorem sC (h : Fin 4) : stAt m c h 32 (by omega) = stepC (stAt m c h 31 (by omega)) :=
  st_C m c (pt h 32 (by omega)) (by show (h.val * 33 + 32) % 33 = 32; omega)
theorem s_step (h : Fin 4) (n : Fin 32) : ∃ db ds ck cv, stAt m c h n.val (by omega) = stepB (bw (tp h n)) (xI m c h n) db ds ck cv := by
  obtain ⟨k, hk⟩ := n
  cases k with
  | zero => exact ⟨_, _, _, _, sA m c h⟩
  | succ k => exact ⟨_, _, _, _, sB m c h k hk⟩

theorem pay1_zero (j : Fin 256) (r : Fin 1024) : k0_pay1 (F := Ideal) (ix3 (0 : Fin 1) j r) = 0 := by pointwise [k0_pay1]
theorem pay2_zero (r : Fin 1024) : k0_pay2 (F := Ideal) (ix3 (0 : Fin 1) (0 : Fin 1) r) = 0 := by pointwise [k0_pay2]
theorem pay3_zero (r : Fin 128) (d : Fin 64) : k0_pay3 (F := Ideal) (ix2 r d) = 0 := by pointwise [k0_pay3]
theorem pay4_zero (r : Fin 128) (d : Fin 64) : k0_pay4 (F := Ideal) (ix2 r d) = 0 := by pointwise [k0_pay4]

section finite
variable (hz : ∀ i, IsR (zA m c i)) (hb : ∀ i, IsR (bA m c i)) (hk : ∀ i, IsR (kA m c i))
include hz hb hk

theorem dq_at (h : Fin 4) (n : Fin 32) (a : Fin 128) (g : Fin 8) (d : Fin 64) :
    (stAt m c h n.val (by omega)).dq (ix2 a (colOf g d)) = dqS (zA m c) (bA m c) (kA m c) (yA m c) n a h g d := by
  obtain ⟨db, ds, ck, cv, e⟩ := s_step m c h n
  rw [e]; exact step_dq m c h n hz hb hk db ds ck cv a g d
theorem ck_at (h : Fin 4) (n : Fin 32) (r : Fin 128) (d : Fin 64) :
    (stAt m c h n.val (by omega)).ck (ix2 r d) = dkbS (zA m c) (bA m c) (kA m c) (yA m c) n ⟨128 + r.val, by omega⟩ h d := by
  obtain ⟨db, ds, ck, cv, e⟩ := s_step m c h n
  rw [e]; exact step_ck m c h n hz hb hk db ds ck cv r d
omit hz hb hk in
theorem cv_at (h : Fin 4) (n : Fin 32) (r : Fin 128) (d : Fin 64) :
    (stAt m c h n.val (by omega)).cv (ix2 r d) = dvbS (zA m c) (bA m c) (kA m c) (yA m c) n ⟨128 + r.val, by omega⟩ h d := by
  obtain ⟨db, ds, ck, cv, e⟩ := s_step m c h n
  rw [e]; exact step_cv m c h n db ds ck cv r d

/-- A block of the keys' gradient, complete one point after its own. -/
theorem dk_at (h : Fin 4) (n : Fin 32) (r : Fin 128) (d : Fin 64) :
    (stAt m c h (n.val + 1) (by omega)).dk (ix3 (0 : Fin 1) r d) = joinS (dkbS (zA m c) (bA m c) (kA m c) (yA m c)) n r h d := by
  unfold joinS
  by_cases hn : n.val + 1 < 32
  · rw [dif_pos hn, sB m c h n.val hn]
    refine (step_dk m c h ⟨n.val + 1, hn⟩ hz hb hk _ _ _ _ r d).trans ?_
    exact congrArg (fun t : EReal => t + dkbS (zA m c) (bA m c) (kA m c) (yA m c) ⟨n.val + 1, hn⟩ ⟨r.val, by omega⟩ h d) (ck_at m c hz hb hk h n r d)
  · obtain rfl : n = 31 := Fin.ext (by show n.val = 31; omega)
    rw [dif_neg hn, add_zero]
    refine (congrArg (fun s : St Ideal => s.dk (ix3 (0 : Fin 1) r d)) (sC m c h)).trans ?_
    exact (k12 _ r d).trans (ck_at m c hz hb hk h 31 r d)
omit hz hb hk in
/-- A block of the values' gradient, complete one point after its own. -/
theorem dv_at (h : Fin 4) (n : Fin 32) (r : Fin 128) (d : Fin 64) :
    (stAt m c h (n.val + 1) (by omega)).dv (ix3 (0 : Fin 1) r d) = joinS (dvbS (zA m c) (bA m c) (kA m c) (yA m c)) n r h d := by
  unfold joinS
  by_cases hn : n.val + 1 < 32
  · rw [dif_pos hn, sB m c h n.val hn]
    refine (step_dv m c h ⟨n.val + 1, hn⟩ _ _ _ _ r d).trans ?_
    exact congrArg (fun t : EReal => t + dvbS (zA m c) (bA m c) (kA m c) (yA m c) ⟨n.val + 1, hn⟩ ⟨r.val, by omega⟩ h d) (cv_at m c h n r d)
  · obtain rfl : n = 31 := Fin.ext (by show n.val = 31; omega)
    rw [dif_neg hn, add_zero]
    refine (congrArg (fun s : St Ideal => s.dv (ix3 (0 : Fin 1) r d)) (sC m c h)).trans ?_
    exact (k13 _ r d).trans (cv_at m c h 31 r d)

/-- The bias' gradient so far. -/
theorem db_at (h : Fin 4) (j : Fin 256) (g : Fin 8) (a : Fin 128) (k : ℕ) (hk' : k < 32) :
    (stAt m c h k (by omega)).db (ix3 (0 : Fin 1) j (rowOf g a))
      = ∑ i ∈ Finset.range (k + 1), if q : i < 32 then dsS (zA m c) (bA m c) (kA m c) (yA m c) ⟨i, q⟩ h g a j else 0 := by
  induction k with
  | zero =>
    rw [sA, Finset.sum_range_one, dif_pos (by omega)]
    refine (step_db m c h 0 hz hb hk _ _ _ _ j g a).trans ?_
    rw [pay1_zero, zero_add]; rfl
  | succ k ih =>
    rw [sB m c h k hk', Finset.sum_range_succ, dif_pos hk']
    refine (step_db m c h ⟨k + 1, hk'⟩ hz hb hk _ _ _ _ j g a).trans ?_
    exact congrArg (fun t : EReal => t + dsS (zA m c) (bA m c) (kA m c) (yA m c) ⟨k + 1, hk'⟩ h g a j) (ih (by omega))
/-- The sinks' gradient so far. -/
theorem ds_at (h : Fin 4) (g : Fin 8) (a : Fin 128) (k : ℕ) (hk' : k < 32) :
    (stAt m c h k (by omega)).ds (ix3 (0 : Fin 1) (0 : Fin 1) (rowOf g a))
      = ∑ i ∈ Finset.range (k + 1), if q : i < 32 then rowSink (scS (zA m c) (bA m c) ⟨i, q⟩ h g a) (sS (kA m c) h g) (dpS (zA m c) (yA m c) ⟨i, q⟩ h g a) else 0 := by
  induction k with
  | zero =>
    rw [sA, Finset.sum_range_one, dif_pos (by omega)]
    refine (step_ds m c h 0 hz hb hk _ _ _ _ g a).trans ?_
    rw [pay2_zero, zero_add]; rfl
  | succ k ih =>
    rw [sB m c h k hk', Finset.sum_range_succ, dif_pos hk']
    refine (step_ds m c h ⟨k + 1, hk'⟩ hz hb hk _ _ _ _ g a).trans ?_
    exact congrArg (fun t : EReal => t + rowSink (scS (zA m c) (bA m c) ⟨k + 1, hk'⟩ h g a) (sS (kA m c) h g) (dpS (zA m c) (yA m c) ⟨k + 1, hk'⟩ h g a)) (ih (by omega))
theorem db_end (h : Fin 4) (j : Fin 256) (g : Fin 8) (a : Fin 128) :
    (stAt m c h 32 (by omega)).db (ix3 (0 : Fin 1) j (rowOf g a)) = dbS (zA m c) (bA m c) (kA m c) (yA m c) h g a j := by
  refine (congrArg (fun s : St Ideal => s.db (ix3 (0 : Fin 1) j (rowOf g a))) (sC m c h)).trans ?_
  refine (db_at m c hz hb hk h j g a 31 (by omega)).trans ?_
  rw [Finset.sum_range]
  unfold dbS
  exact Finset.sum_congr rfl fun n _ => dif_pos n.isLt
theorem ds_end (h : Fin 4) (g : Fin 8) (a : Fin 128) :
    (stAt m c h 32 (by omega)).ds (ix3 (0 : Fin 1) (0 : Fin 1) (rowOf g a)) = dskS (zA m c) (bA m c) (kA m c) (yA m c) h g a := by
  refine (congrArg (fun s : St Ideal => s.ds (ix3 (0 : Fin 1) (0 : Fin 1) (rowOf g a))) (sC m c h)).trans ?_
  refine (ds_at m c hz hb hk h g a 31 (by omega)).trans ?_
  rw [Finset.sum_range]
  unfold dskS
  exact Finset.sum_congr rfl fun n _ => dif_pos n.isLt

variable (hy : ∀ i, IsR (yA m c i))
include hy

omit hz hb hk hy in
theorem col_split (y : Fin 512) : ∃ (g : Fin 8) (d : Fin 64), y = colOf g d :=
  ⟨⟨y.val / 64, by omega⟩, ⟨y.val % 64, by omega⟩, Fin.ext (by show y.val = y.val / 64 * 64 + y.val % 64; omega)⟩
omit hz hb hk hy in
theorem row_split (y : Fin 1024) : ∃ (g : Fin 8) (a : Fin 128), y = rowOf g a :=
  ⟨⟨y.val / 128, by omega⟩, ⟨y.val % 128, by omega⟩, Fin.ext (by show y.val = y.val / 128 * 128 + y.val % 128; omega)⟩
omit hz hb hk hy in
theorem pt_split (t : Fin cfg0.N) : ∃ (h : Fin 4) (k : ℕ) (q : k < 33), t = pt h k q := by
  have e : cfg0.N = 132 := N_eq
  have := t.isLt
  exact ⟨⟨t.val / 33, by omega⟩, t.val % 33, by omega, Fin.ext (by show t.val = t.val / 33 * 33 + t.val % 33; omega)⟩

theorem db_ref (h : Fin 4) (j : Fin 256) (r : Fin 1024) : (stAt m c h 32 (by omega)).db (ix3 (0 : Fin 1) j r)
    = val_main_v181 (F := Ideal) (zA m c) (bA m c) (kA m c) (yA m c) (ix3 h j r) := by
  obtain ⟨g, a, rfl⟩ := row_split r
  exact (db_end m c hz hb hk h j g a).trans (Cert.ReferenceIdeal.Swa.r181 hz hb hk hy h g a j).symm
theorem ds_ref (h : Fin 4) (r : Fin 1024) : (stAt m c h 32 (by omega)).ds (ix3 (0 : Fin 1) (0 : Fin 1) r)
    = val_main_v185 (F := Ideal) (zA m c) (bA m c) (kA m c) (yA m c) (ix3 h (0 : Fin 1) r) := by
  obtain ⟨g, a, rfl⟩ := row_split r
  exact (ds_end m c hz hb hk h g a).trans (Cert.ReferenceIdeal.Swa.r185 hz hb hk hy h g a).symm
omit hz hb hk hy in
theorem ixs128 (y : S1x128x64.Idx) : y = ix3 (0 : Fin 1) (y 1) (y 2) :=
  (ValueIdx.eq_ix3 (n0 := 1) (n1 := 128) (n2 := 64) y).trans (congrArg (fun o : Fin 1 => ix3 o (y 1) (y 2)) (Subsingleton.elim _ _))
omit hz hb hk hy in
theorem ixs256 (y : S1x256x1024.Idx) : y = ix3 (0 : Fin 1) (y 1) (y 2) :=
  (ValueIdx.eq_ix3 (n0 := 1) (n1 := 256) (n2 := 1024) y).trans (congrArg (fun o : Fin 1 => ix3 o (y 1) (y 2)) (Subsingleton.elim _ _))
omit hz hb hk hy in
theorem ixs1 (y : S1x1x1024.Idx) : y = ix3 (0 : Fin 1) (0 : Fin 1) (y 2) :=
  (ValueIdx.eq_ix3 (n0 := 1) (n1 := 1) (n2 := 1024) y).trans (congrArg₂ (fun o o' : Fin 1 => ix3 o o' (y 2)) (Subsingleton.elim _ _) (Subsingleton.elim _ _))

/-- The queries' gradient, block by block. -/
theorem dq_ref (h : Fin 4) (k : ℕ) (q : k < 33) (a : Fin 128) (y : Fin 512) : (stAt m c h k q).dq (ix2 a y)
    = val_main_v182 (F := Ideal) (zA m c) (bA m c) (kA m c) (yA m c) (ix2 ⟨min k 31 * 128 + a.val, by omega⟩ ⟨h.val * 512 + y.val, by omega⟩) := by
  obtain ⟨g, d, rfl⟩ := col_split y
  by_cases h32 : k < 32
  · refine (dq_at m c hz hb hk h ⟨k, h32⟩ a g d).trans ((Cert.ReferenceIdeal.Swa.r182 hz hb hk hy ⟨k, h32⟩ a h g d).symm.trans ?_)
    refine congrArg _ (congrArg₂ ix2 (Fin.ext ?_) (Fin.ext ?_)) <;> dsimp only <;> omega
  · obtain rfl : k = 32 := by omega
    refine (congrArg (fun s : St Ideal => s.dq (ix2 a (colOf g d))) (sC m c h)).trans ?_
    refine (dq_at m c hz hb hk h 31 a g d).trans ((Cert.ReferenceIdeal.Swa.r182 hz hb hk hy 31 a h g d).symm.trans ?_)
    refine congrArg _ (congrArg₂ ix2 (Fin.ext ?_) (Fin.ext ?_))
    · show 31 * 128 + a.val = min 32 31 * 128 + a.val
      omega
    · dsimp only; omega

/-- The queries' gradient. -/
theorem final8 : (dats m 0 c).arrAt 8 cfg0.N = val_main_v182 (F := Ideal) (zA m c) (bA m c) (kA m c) (yA m c) := by
  refine (dats m 0 c).arrAt_eq_of_covers 8 _ (by decide +kernel) fun t hf y => ?_
  obtain ⟨h, k, q, rfl⟩ := pt_split t
  have hi := (idx (pt h k q)).2.2.2.2.2.2.2.2.1
  blk_simp
  rw [after_8]
  refine (congrArg _ (ValueIdx.eq_ix2 (n0 := 128) (n1 := 512) y)).trans ((dq_ref m c hz hb hk hy h k q (y 0) (y 1)).trans (congrArg _ ?_))
  blk_ext [hi]

/-- The keys' gradient. -/
theorem final9 : (dats m 0 c).arrAt 9 cfg0.N = val_main_v183 (F := Ideal) (zA m c) (bA m c) (kA m c) (yA m c) := by
  refine (dats m 0 c).arrAt_eq_of_covers 9 _ (by decide +kernel) fun t hf y => ?_
  have hp : ¬ t.val % 33 = 0 := (by decide +kernel : ∀ t : Fin cfg0.N, (cfg0.win 9).flush t = true → ¬ t.val % 33 = 0) t hf
  obtain ⟨h, k, q, rfl⟩ := pt_split t
  have hk0 : k ≠ 0 := fun e => hp (by show (h.val * 33 + k) % 33 = 0; omega)
  obtain ⟨k, rfl⟩ : ∃ k', k = k' + 1 := ⟨k - 1, by omega⟩
  have hi := (idx (pt h (k + 1) q)).2.2.2.2.2.2.2.2.2.1
  blk_simp
  rw [after_9]
  refine (congrArg _ (ixs128 y)).trans (((dk_at m c hz hb hk h ⟨k, by omega⟩ (y 1) (y 2)).trans (Cert.ReferenceIdeal.Swa.r183 hz hb hk hy ⟨k, by omega⟩ (y 1) h (y 2)).symm).trans (congrArg _ ?_))
  have y0 : (y 0).val = 0 := by have := (y 0).isLt; exact Nat.lt_one_iff.1 this
  blk_ext [hi]

/-- The values' gradient. -/
theorem final10 : (dats m 0 c).arrAt 10 cfg0.N = val_main_v184 (F := Ideal) (zA m c) (bA m c) (kA m c) (yA m c) := by
  refine (dats m 0 c).arrAt_eq_of_covers 10 _ (by decide +kernel) fun t hf y => ?_
  have hp : ¬ t.val % 33 = 0 := (by decide +kernel : ∀ t : Fin cfg0.N, (cfg0.win 10).flush t = true → ¬ t.val % 33 = 0) t hf
  obtain ⟨h, k, q, rfl⟩ := pt_split t
  have hk0 : k ≠ 0 := fun e => hp (by show (h.val * 33 + k) % 33 = 0; omega)
  obtain ⟨k, rfl⟩ : ∃ k', k = k' + 1 := ⟨k - 1, by omega⟩
  have hi := (idx (pt h (k + 1) q)).2.2.2.2.2.2.2.2.2.2.1
  blk_simp
  rw [after_10]
  refine (congrArg _ (ixs128 y)).trans (((dv_at m c h ⟨k, by omega⟩ (y 1) (y 2)).trans (Cert.ReferenceIdeal.Swa.r184 hz hb hk hy ⟨k, by omega⟩ (y 1) h (y 2)).symm).trans (congrArg _ ?_))
  have y0 : (y 0).val = 0 := by have := (y 0).isLt; exact Nat.lt_one_iff.1 this
  blk_ext [hi]

/-- The bias' gradient. -/
theorem final11 : (dats m 0 c).arrAt 11 cfg0.N = val_main_v181 (F := Ideal) (zA m c) (bA m c) (kA m c) (yA m c) := by
  refine (dats m 0 c).arrAt_eq_of_covers 11 _ (by decide +kernel) fun t hf y => ?_
  have hp : t.val % 33 = 32 := (flush0_11 t).1 hf
  obtain ⟨h, k, q, rfl⟩ := pt_split t
  obtain rfl : k = 32 := by have e : (h.val * 33 + k) % 33 = 32 := hp; omega
  have hi := (idx (pt h 32 q)).2.2.2.2.2.2.2.2.2.2.2.1
  blk_simp
  rw [after_11]
  refine (congrArg _ (ixs256 y)).trans ((db_ref m c hz hb hk hy h (y 1) (y 2)).trans (congrArg _ ?_))
  have y0 : (y 0).val = 0 := by have := (y 0).isLt; exact Nat.lt_one_iff.1 this
  blk_ext [hi]

/-- The sinks' gradient. -/
theorem final12 : (dats m 0 c).arrAt 12 cfg0.N = val_main_v185 (F := Ideal) (zA m c) (bA m c) (kA m c) (yA m c) := by
  refine (dats m 0 c).arrAt_eq_of_covers 12 _ (by decide +kernel) fun t hf y => ?_
  have hp : t.val % 33 = 32 := (flush0_12 t).1 hf
  obtain ⟨h, k, q, rfl⟩ := pt_split t
  obtain rfl : k = 32 := by have e : (h.val * 33 + k) % 33 = 32 := hp; omega
  have hi := (idx (pt h 32 q)).2.2.2.2.2.2.2.2.2.2.2.2
  blk_simp
  rw [after_12]
  refine (congrArg _ (ixs1 y)).trans ((ds_ref m c hz hb hk hy h (y 2)).trans (congrArg _ ?_))
  have y0 : (y 0).val = 0 := by have := (y 0).isLt; exact Nat.lt_one_iff.1 this
  have y1 : (y 1).val = 0 := by have := (y 1).isLt; exact Nat.lt_one_iff.1 this
  blk_ext [hi]

end finite
end Cert.KernelIdeal.Swa
-- ==== Proof.SwaFin.lean ====
module

public import proofs.«01_k».proof.Defs
public import proofs.«01_k».proof.Proof.Gen.Pre_finite
public import proofs.«01_k».proof.Proof.SwaRow
public import Idealize.ShloMosaic.Lib.ReduceAll

@[expose] public section

noncomputable section

/-! What the precondition says: every element of the four arguments is a real number. -/

namespace Cert.Swa

open Idealize.ShloMosaic

/-- A magnitude below infinity is that of a real. -/
theorem isR_of_abs (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

instance : Subsingleton (Cert.Pre_finite.S_).Idx := ⟨fun _ _ => funext fun d => d.elim0⟩

/-- The precondition, read off the four conjuncts. -/
theorem of_pre (a0 : FVec Ideal Pre_finite.S4096x8192 .bf16) (a1 : FVec Ideal Pre_finite.S128x256x32 .f32)
    (a2 : FVec Ideal Pre_finite.S1x32 .f32) (a3 : FVec Ideal Pre_finite.S4096x2048 .bf16)
    (h : Pre_finite.fn (F := Ideal) a0 a1 a2 a3 = fun _ => 1#1) :
    (∀ i, IsR (a0 i)) ∧ (∀ i, IsR (a1 i)) ∧ (∀ i, IsR (a2 i)) ∧ ∀ i, IsR (a3 i) := by
  have h' := congrFun h (fun d => d.elim0)
  dsimp only [Pre_finite.fn, Pre_finite.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => isR_of_abs _ (Host.reduce_andi_all _ _ _ _ _ h0 i), fun i => isR_of_abs _ (Host.reduce_andi_all _ _ _ _ _ h1 i),
    fun i => isR_of_abs _ (Host.reduce_andi_all _ _ _ _ _ h2 i), fun i => isR_of_abs _ (Host.reduce_andi_all _ _ _ _ _ h3 i)⟩

end Cert.Swa

end
-- ==== Proof.Mm3.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

/-! The down projection's weight gradient: the array the pipelined product leaves is the reference's. -/

namespace Cert.Mm3

open Idealize.ShloMosaic Idealize.ShloMosaic.TcCoe
open Cert.Kernel3Ideal Cert.Kernel3Ideal.Gen

/-- The two operands, as a row and a column of the product see them. -/
abbrev aE (a : Vec Ideal S4096x5632 .bf16) (r : Fin 5632) (k : Fin 4096) : EReal := a (ix2 k r)
abbrev bE (b : Vec Ideal S4096x2048 .bf16) (k : Fin 4096) (s : Fin 2048) : EReal := b (ix2 k s)

/-- One entry of the product. -/
def prod (a : Vec Ideal S4096x5632 .bf16) (b : Vec Ideal S4096x2048 .bf16) (r : Fin 5632) (s : Fin 2048) : EReal :=
  ∑ k : Fin 4096, aE a r k * bE b k s

section ref
open Cert.Reference3Ideal.Read
/-- The reference's entry. -/
theorem ref (a : Vec Ideal S4096x5632 .bf16) (b : Vec Ideal S4096x2048 .bf16) (r : Fin 5632) (s : Fin 2048) : val_main_v7 (F := Ideal) a b (ix2 r s) = prod a b r s := by
  pointwise [val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x5632 .bf16 := m ((c : Thread nD τ).loc main_arg0)
abbrev bA : Vec Ideal S4096x2048 .bf16 := m ((c : Thread nD τ).loc main_arg1)
/-- The blocks a point reads. -/
abbrev aB (t : Fin cfg0.N) : Vec Ideal S2048x512 .bf16 := iblk (F := Ideal) m c 0 t
abbrev bB (t : Fin cfg0.N) : Vec Ideal S2048x1024 .bf16 := iblk (F := Ideal) m c 1 t

/-- A block's product, one entry. -/
theorem p1 (x : Vec Ideal S2048x512 .bf16) (y : Vec Ideal S2048x1024 .bf16) (r : Fin 512) (s : Fin 1024) :
    k0_pay1 (F := Ideal) x y (ix2 r s) = ∑ k : Fin 2048, x (ix2 k r) * y (ix2 k s) := by
  pointwise [k0_pay1]
theorem p2 (z : Vec Ideal S512x1024 .f32) (x : Vec Ideal S2048x512 .bf16) (y : Vec Ideal S2048x1024 .bf16) (r : Fin 512) (s : Fin 1024) :
    k0_pay2 (F := Ideal) z x y (ix2 r s) = z (ix2 r s) + ∑ k : Fin 2048, x (ix2 k r) * y (ix2 k s) := by
  pointwise [k0_pay2]
theorem p3 (z : Vec Ideal S512x1024 .f32) (r : Fin 512) (s : Fin 1024) :
    k0_pay3 (F := Ideal) z (ix2 r s) = z (ix2 r s) := by
  pointwise [k0_pay3]

/-- The point of block row `i`, block column `j` and step `k`. -/
abbrev pt (i : Fin 11) (j : Fin 2) (k : Fin 2) : Fin cfg0.N := ⟨(i.val * 2 + j.val) * 2 + k.val, by have e : cfg0.N = 44 := N_0; omega⟩

/-- Where each window's block lies at each point. -/
theorem ix : ∀ (i : Fin 11) (j : Fin 2) (k : Fin 2), win0_0.index (pt i j k) = ![k.val, i.val] ∧ win0_1.index (pt i j k) = ![k.val, j.val] ∧ win0_2.index (pt i j k) = ![i.val, j.val] := by
  decide +kernel

theorem pt_split (t : Fin cfg0.N) : ∃ (i : Fin 11) (j : Fin 2) (k : Fin 2), t = pt i j k := by
  have e : cfg0.N = 44 := N_0
  have ht := t.isLt
  exact ⟨⟨t.val / 4, by omega⟩, ⟨t.val / 2 % 2, by omega⟩, ⟨t.val % 2, by omega⟩, Fin.ext (by dsimp only; omega)⟩

section blocks
variable (i : Fin 11) (j : Fin 2) (k : Fin 2)
/-- The operands' blocks. -/
theorem blk0 (q : Fin 2048) (r : Fin 512) : iblk (F := Ideal) m c 0 (pt i j k) (ix2 q r) = aE (aA m c) ⟨i.val * 512 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 2) (r : Fin 5632) (s : Fin 2048) : EReal :=
  ∑ q : Fin 2048, aE (aA m c) r ⟨k.val * 2048 + q.val, by omega⟩ * bE (bA m c) ⟨k.val * 2048 + q.val, by omega⟩ s

theorem step_eq (i : Fin 11) (j : Fin 2) (k : Fin 2) (r : Fin 512) (s : Fin 1024) :
    (∑ q : Fin 2048, aB m c (pt i j k) (ix2 q r) * bB m c (pt i j k) (ix2 q s))
      = part m c k ⟨i.val * 512 + r.val, by omega⟩ ⟨j.val * 1024 + s.val, by omega⟩ :=
  Finset.sum_congr rfl fun q _ => congrArg₂ (· * ·) (blk0 m c i j k q r) (blk1 m c i j k q s)

theorem prod_eq (r : Fin 5632) (s : Fin 2048) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 11) (j : Fin 2) (r : Fin 512) (s : Fin 1024) : (outsAt0 m c (pt i j 0).val (pt i j 0).isLt).2 (ix2 r s) = part m c 0 ⟨i.val * 512 + r.val, by omega⟩ ⟨j.val * 1024 + s.val, by omega⟩ := by
  have h0 : (pt i j 0).val % 2 = 0 := by show ((i.val * 2 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 11) (j : Fin 2) (r : Fin 512) (s : Fin 1024) : (dats m 0 c).after 2 (pt i j 1) (ix2 r s) = prod (aA m c) (bA m c) ⟨i.val * 512 + r.val, by omega⟩ ⟨j.val * 1024 + s.val, by omega⟩ := by
  have h0 : (pt i j 1).val % 2 = 1 := by show ((i.val * 2 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 2 + j.val) * 2 + 1 - 1 = (i.val * 2 + j.val) * 2 + 0; omega))).trans (acc0 m c i j r s)

/-- The array after the run. -/
theorem final : (dats m 0 c).arrAt 2 cfg0.N = Cert.Reference3Ideal.Read.val_main_v7 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 2 + j.val) * 2 + k.val) % 2 = 1 := hk
    exact Fin.ext (show k.val = 1 by omega)
  have hi := (ix i j 1).2.2
  blk_simp
  refine (congrArg _ (ValueIdx.eq_ix2 (n0 := 512) (n1 := 1024) y)).trans ((out_at m c i j (y 0) (y 1)).trans ((ref (aA m c) (bA m c) _ _).symm.trans (congrArg _ ?_)))
  blk_ext [hi]

end Cert.Mm3
-- ==== Proof.Mm4.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

/-! The down projection's input gradient: the array the pipelined product leaves is the reference's. -/

namespace Cert.Mm4

open Idealize.ShloMosaic Idealize.ShloMosaic.TcCoe
open Cert.Kernel4Ideal Cert.Kernel4Ideal.Gen

/-- The two operands, as a row and a column of the product see them. -/
abbrev aE (a : Vec Ideal S4096x2048 .bf16) (r : Fin 4096) (k : Fin 2048) : EReal := a (ix2 r k)
abbrev bE (b : Vec Ideal S5632x2048 .bf16) (k : Fin 2048) (s : Fin 5632) : EReal := b (ix2 s k)

/-- One entry of the product. -/
def prod (a : Vec Ideal S4096x2048 .bf16) (b : Vec Ideal S5632x2048 .bf16) (r : Fin 4096) (s : Fin 5632) : EReal :=
  ∑ k : Fin 2048, aE a r k * bE b k s

section ref
open Cert.Reference4Ideal.Read
/-- The reference's entry. -/
theorem ref (a : Vec Ideal S4096x2048 .bf16) (b : Vec Ideal S5632x2048 .bf16) (r : Fin 4096) (s : Fin 5632) : val_main_v7 (F := Ideal) a b (ix2 r s) = prod a b r s := by
  pointwise [val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S5632x2048 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S512x2048 .bf16 := iblk (F := Ideal) m c 1 t

/-- A block's product, one entry. -/
theorem p1 (x : Vec Ideal S1024x2048 .bf16) (y : Vec Ideal S512x2048 .bf16) (r : Fin 1024) (s : Fin 512) :
    k0_pay1 (F := Ideal) x y (ix2 r s) = ∑ k : Fin 2048, x (ix2 r k) * y (ix2 s k) := by
  pointwise [k0_pay1]

/-- The point of block row `i`, block column `j` and step `k`. -/
abbrev pt (i : Fin 4) (j : Fin 11) (k : Fin 1) : Fin cfg0.N := ⟨(i.val * 11 + j.val) * 1 + k.val, by have e : cfg0.N = 44 := N_0; omega⟩

/-- Where each window's block lies at each point. -/
theorem ix : ∀ (i : Fin 4) (j : Fin 11) (k : Fin 1), win0_0.index (pt i j k) = ![i.val, k.val] ∧ win0_1.index (pt i j k) = ![j.val, k.val] ∧ win0_2.index (pt i j k) = ![i.val, j.val] := by
  decide +kernel

theorem pt_split (t : Fin cfg0.N) : ∃ (i : Fin 4) (j : Fin 11) (k : Fin 1), t = pt i j k := by
  have e : cfg0.N = 44 := N_0
  have ht := t.isLt
  exact ⟨⟨t.val / 11, by omega⟩, ⟨t.val / 1 % 11, by omega⟩, ⟨t.val % 1, by omega⟩, Fin.ext (by dsimp only; omega)⟩

section blocks
variable (i : Fin 4) (j : Fin 11) (k : Fin 1)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 512) : iblk (F := Ideal) m c 1 (pt i j k) (ix2 s q) = bE (bA m c) ⟨k.val * 2048 + q.val, by omega⟩ ⟨j.val * 512 + s.val, by omega⟩ := by
  have hi := (ix i j k).2.1
  unfold bE
  blk_point [iblk, V, hi]
end blocks

/-- Step `k`'s share of an entry. -/
def part (k : Fin 1) (r : Fin 4096) (s : Fin 5632) : EReal :=
  ∑ q : Fin 2048, aE (aA m c) r ⟨k.val * 2048 + q.val, by omega⟩ * bE (bA m c) ⟨k.val * 2048 + q.val, by omega⟩ s

theorem step_eq (i : Fin 4) (j : Fin 11) (k : Fin 1) (r : Fin 1024) (s : Fin 512) :
    (∑ q : Fin 2048, aB m c (pt i j k) (ix2 r q) * bB m c (pt i j k) (ix2 s q))
      = part m c k ⟨i.val * 1024 + r.val, by omega⟩ ⟨j.val * 512 + s.val, by omega⟩ :=
  Finset.sum_congr rfl fun q _ => congrArg₂ (· * ·) (blk0 m c i j k q r) (blk1 m c i j k q s)

theorem prod_eq (r : Fin 4096) (s : Fin 5632) : prod (aA m c) (bA m c) r s = part m c 0 r s :=
  (Fin.sum_mul_add_fin 1 2048 (fun k : Fin 2048 => aE (aA m c) r k * bE (bA m c) k s)).symm.trans (Fin.sum_univ_one (fun k => part m c k r s))

/-- What the point leaves in the result's block. -/
theorem out_at (i : Fin 4) (j : Fin 11) (r : Fin 1024) (s : Fin 512) : (dats m 0 c).after 2 (pt i j 0) (ix2 r s) = prod (aA m c) (bA m c) ⟨i.val * 1024 + r.val, by omega⟩ ⟨j.val * 512 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference4Ideal.Read.val_main_v7 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 512) y)).trans ((out_at m c i j (y 0) (y 1)).trans ((ref (aA m c) (bA m c) _ _).symm.trans (congrArg _ ?_)))
  blk_ext [hi]

end Cert.Mm4
-- ==== Proof.Mm5.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

/-! The up and gate projection's weight gradient: the array the pipelined product leaves is the reference's. -/

namespace Cert.Mm5

open Idealize.ShloMosaic Idealize.ShloMosaic.TcCoe
open Cert.Kernel5Ideal Cert.Kernel5Ideal.Gen

/-- The two operands, as a row and a column of the product see them. -/
abbrev aE (a : Vec Ideal S4096x2048 .bf16) (r : Fin 2048) (k : Fin 4096) : EReal := a (ix2 k r)
abbrev bE (b : Vec Ideal S2x4096x5632 .bf16) (k : Fin 4096) (s : Fin 11264) : EReal := b (ix3 ⟨s.val / 5632, by omega⟩ k ⟨s.val % 5632, by omega⟩)

/-- One entry of the product. -/
def prod (a : Vec Ideal S4096x2048 .bf16) (b : Vec Ideal S2x4096x5632 .bf16) (r : Fin 2048) (s : Fin 11264) : EReal :=
  ∑ k : Fin 4096, aE a r k * bE b k s

section ref
open Cert.Reference5Ideal.Read
/-- The two halves side by side. -/
theorem cat (b : Vec Ideal S2x4096x5632 .bf16) (k : Fin 4096) (s : Fin 11264) : val_main_v4 (F := Ideal) b (ix2 k s) = bE b k s := by
  pointwise [val_main_v4, val_main_v3, val_main_v2, val_main_v1, val_main_v0]
  unfold bE
  split
  · rename_i h
    have e1 : s.val / 5632 = 0 := by omega
    have e2 : s.val % 5632 = s.val := by omega
    simp only [e1, e2]
    rfl
  · rename_i h
    have e1 : s.val / 5632 = 1 := by omega
    have e2 : s.val % 5632 = s.val - 5632 := by omega
    simp only [e1, e2]
    rfl
/-- The reference's entry. -/
theorem ref (a : Vec Ideal S4096x2048 .bf16) (b : Vec Ideal S2x4096x5632 .bf16) (g : Fin 8) (r : Fin 2048) (s : Fin 1408) : val_main_v14 (F := Ideal) a b (ix3 g r s) = prod a b r ⟨g.val * 1408 + s.val, by omega⟩ := by
  pointwise [val_main_v14, val_main_v13, val_main_v12, val_main_v10, val_main_v9, val_main_v8, val_main_v6, cat]
  unfold prod
  refine Finset.sum_congr rfl fun k _ => ?_
  exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S2x4096x5632 .bf16 := m ((c : Thread nD τ).loc main_arg1)
/-- The blocks a point reads. -/
abbrev aB (t : Fin cfg0.N) : Vec Ideal S2048x1024 .bf16 := iblk (F := Ideal) m c 0 t
abbrev bB (t : Fin cfg0.N) : Vec Ideal S1x2048x1408 .bf16 := iblk (F := Ideal) m c 1 t

/-- A block's product, one entry. -/
theorem p1 (x : Vec Ideal S2048x1024 .bf16) (y : Vec Ideal S1x2048x1408 .bf16) (r : Fin 1024) (s : Fin 1408) :
    k0_pay1 (F := Ideal) x y (ix2 r s) = ∑ k : Fin 2048, x (ix2 k r) * y (ix3 (0 : Fin 1) k s) := by
  pointwise [k0_pay1]
theorem p2 (z : Vec Ideal S1024x1408 .f32) (x : Vec Ideal S2048x1024 .bf16) (y : Vec Ideal S1x2048x1408 .bf16) (r : Fin 1024) (s : Fin 1408) :
    k0_pay2 (F := Ideal) z x y (ix2 r s) = z (ix2 r s) + ∑ k : Fin 2048, x (ix2 k r) * y (ix3 (0 : Fin 1) k s) := by
  pointwise [k0_pay2]
theorem p3 (z : Vec Ideal S1024x1408 .f32) (r : Fin 1024) (s : Fin 1408) :
    k0_pay3 (F := Ideal) z (ix3 (0 : Fin 1) r s) = z (ix2 r s) := by
  pointwise [k0_pay3]

/-- The point of block row `i`, block column `j` and step `k`. -/
abbrev pt (i : Fin 2) (j : Fin 8) (k : Fin 2) : Fin cfg0.N := ⟨(i.val * 8 + j.val) * 2 + k.val, by have e : cfg0.N = 32 := N_0; omega⟩

/-- Where each window's block lies at each point. -/
theorem ix : ∀ (i : Fin 2) (j : Fin 8) (k : Fin 2), win0_0.index (pt i j k) = ![k.val, i.val] ∧ win0_1.index (pt i j k) = ![j.val / 4, k.val, j.val % 4] ∧ win0_2.index (pt i j k) = ![j.val, i.val, 0] := by
  decide +kernel

theorem pt_split (t : Fin cfg0.N) : ∃ (i : Fin 2) (j : Fin 8) (k : Fin 2), t = pt i j k := by
  have e : cfg0.N = 32 := N_0
  have ht := t.isLt
  exact ⟨⟨t.val / 16, by omega⟩, ⟨t.val / 2 % 8, by omega⟩, ⟨t.val % 2, by omega⟩, Fin.ext (by dsimp only; omega)⟩

section blocks
variable (i : Fin 2) (j : Fin 8) (k : Fin 2)
/-- The operands' blocks. -/
theorem blk0 (q : Fin 2048) (r : Fin 1024) : iblk (F := Ideal) m c 0 (pt i j k) (ix2 q r) = aE (aA m c) ⟨i.val * 1024 + r.val, by omega⟩ ⟨k.val * 2048 + q.val, by omega⟩ := by
  have hi := (ix i j k).1
  unfold aE
  blk_point [iblk, V, hi]
theorem blk1 (q : Fin 2048) (s : Fin 1408) : iblk (F := Ideal) m c 1 (pt i j k) (ix3 (0 : Fin 1) q s) = bE (bA m c) ⟨k.val * 2048 + q.val, by omega⟩ ⟨j.val * 1408 + s.val, by omega⟩ := by
  have hi := (ix i j k).2.1
  have e : iblk (F := Ideal) m c 1 (pt i j k) (ix3 (0 : Fin 1) q s) = bA m c (ix3 ⟨j.val / 4, by omega⟩ ⟨k.val * 2048 + q.val, by omega⟩ ⟨j.val % 4 * 1408 + s.val, by omega⟩) := by
    blk_point [iblk, V, hi]
  have e1 : (j.val * 1408 + s.val) / 5632 = j.val / 4 := by omega
  have e2 : (j.val * 1408 + s.val) % 5632 = j.val % 4 * 1408 + s.val := by omega
  rw [e]
  simp only [bE, e1, e2]
end blocks

/-- Step `k`'s share of an entry. -/
def part (k : Fin 2) (r : Fin 2048) (s : Fin 11264) : EReal :=
  ∑ q : Fin 2048, aE (aA m c) r ⟨k.val * 2048 + q.val, by omega⟩ * bE (bA m c) ⟨k.val * 2048 + q.val, by omega⟩ s

theorem step_eq (i : Fin 2) (j : Fin 8) (k : Fin 2) (r : Fin 1024) (s : Fin 1408) :
    (∑ q : Fin 2048, aB m c (pt i j k) (ix2 q r) * bB m c (pt i j k) (ix3 (0 : Fin 1) q s))
      = part m c k ⟨i.val * 1024 + r.val, by omega⟩ ⟨j.val * 1408 + s.val, by omega⟩ :=
  Finset.sum_congr rfl fun q _ => congrArg₂ (· * ·) (blk0 m c i j k q r) (blk1 m c i j k q s)

theorem prod_eq (r : Fin 2048) (s : Fin 11264) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 2) (j : Fin 8) (r : Fin 1024) (s : Fin 1408) : (outsAt0 m c (pt i j 0).val (pt i j 0).isLt).2 (ix2 r s) = part m c 0 ⟨i.val * 1024 + r.val, by omega⟩ ⟨j.val * 1408 + s.val, by omega⟩ := by
  have h0 : (pt i j 0).val % 2 = 0 := by show ((i.val * 8 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 2) (j : Fin 8) (r : Fin 1024) (s : Fin 1408) : (dats m 0 c).after 2 (pt i j 1) (ix3 (0 : Fin 1) r s) = prod (aA m c) (bA m c) ⟨i.val * 1024 + r.val, by omega⟩ ⟨j.val * 1408 + s.val, by omega⟩ := by
  have h0 : (pt i j 1).val % 2 = 1 := by show ((i.val * 8 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 8 + j.val) * 2 + 1 - 1 = (i.val * 8 + j.val) * 2 + 0; omega))).trans (acc0 m c i j r s)

/-- The array after the run. -/
theorem final : (dats m 0 c).arrAt 2 cfg0.N = Cert.Reference5Ideal.Read.val_main_v14 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 8 + j.val) * 2 + k.val) % 2 = 1 := hk
    exact Fin.ext (show k.val = 1 by omega)
  have hi := (ix i j 1).2.2
  blk_simp
  have y0 : (y 0).val = 0 := by have := (y 0).isLt; exact Nat.lt_one_iff.1 this
  have ey : y = ix3 (0 : Fin 1) (y 1) (y 2) := (ValueIdx.eq_ix3 (n0 := 1) (n1 := 1024) (n2 := 1408) y).trans (congrArg (fun z => ix3 z (y 1) (y 2)) (Subsingleton.elim (α := Fin 1) _ _))
  refine (congrArg _ ey).trans ((out_at m c i j (y 1) (y 2)).trans ((ref (aA m c) (bA m c) j ⟨i.val * 1024 + (y 1).val, by have h : (y 1).val < 1024 := (y 1).isLt; omega⟩ (y 2)).symm.trans (congrArg _ ?_)))
  blk_ext [hi]

end Cert.Mm5
-- ==== Proof.Mm6.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

/-! The up and gate projection's input gradient: the array the pipelined product leaves is the reference's. -/

namespace Cert.Mm6

open Idealize.ShloMosaic Idealize.ShloMosaic.TcCoe
open Cert.Kernel6Ideal Cert.Kernel6Ideal.Gen

/-- The two operands, as a row and a column of the product see them. -/
abbrev aE (a : Vec Ideal S2x4096x5632 .bf16) (r : Fin 4096) (k : Fin 11264) : EReal := a (ix3 ⟨k.val / 5632, by omega⟩ r ⟨k.val % 5632, by omega⟩)
abbrev bE (b : Vec Ideal S2048x11264 .bf16) (k : Fin 11264) (s : Fin 2048) : EReal := b (ix2 s k)

/-- One entry of the product. -/
def prod (a : Vec Ideal S2x4096x5632 .bf16) (b : Vec Ideal S2048x11264 .bf16) (r : Fin 4096) (s : Fin 2048) : EReal :=
  ∑ k : Fin 11264, aE a r k * bE b k s

section ref
open Cert.Reference6Ideal.Read
/-- The two halves side by side. -/
theorem cat (a : Vec Ideal S2x4096x5632 .bf16) (r : Fin 4096) (k : Fin 11264) : val_main_v4 (F := Ideal) a (ix2 r k) = aE a r k := by
  pointwise [val_main_v4, val_main_v3, val_main_v2, val_main_v1, val_main_v0]
  unfold aE
  split
  · rename_i h
    have e1 : k.val / 5632 = 0 := by omega
    have e2 : k.val % 5632 = k.val := by omega
    simp only [e1, e2]
    rfl
  · rename_i h
    have e1 : k.val / 5632 = 1 := by omega
    have e2 : k.val % 5632 = k.val - 5632 := by omega
    simp only [e1, e2]
    rfl
/-- The reference's entry. -/
theorem ref (a : Vec Ideal S2x4096x5632 .bf16) (b : Vec Ideal S2048x11264 .bf16) (r : Fin 4096) (s : Fin 2048) : val_main_v11 (F := Ideal) a b (ix2 r s) = prod a b r s := by
  pointwise [val_main_v11, val_main_v10, val_main_v9, val_main_v8, val_main_v7, val_main_v6, val_main_v5, cat]
  rfl
end ref

variable (m : (ℓ : Loc nD τ sig) → Buf (Elt Ideal) ℓ) (c : Dev nD)

/-- The operands in memory. -/
abbrev aA : Vec Ideal S2x4096x5632 .bf16 := m ((c : Thread nD τ).loc main_arg0)
abbrev bA : Vec Ideal S2048x11264 .bf16 := m ((c : Thread nD τ).loc main_arg1)
/-- The blocks a point reads. -/
abbrev aB (t : Fin cfg0.N) : Vec Ideal S1x1024x2816 .bf16 := iblk (F := Ideal) m c 0 t
abbrev bB (t : Fin cfg0.N) : Vec Ideal S1024x2816 .bf16 := iblk (F := Ideal) m c 1 t

/-- A block's product, one entry. -/
theorem p1 (x : Vec Ideal S1x1024x2816 .bf16) (y : Vec Ideal S1024x2816 .bf16) (r : Fin 1024) (s : Fin 1024) :
    k0_pay1 (F := Ideal) x y (ix2 r s) = ∑ k : Fin 2816, x (ix3 (0 : Fin 1) r k) * y (ix2 s k) := by
  pointwise [k0_pay1]
theorem p2 (z : Vec Ideal S1024x1024 .f32) (x : Vec Ideal S1x1024x2816 .bf16) (y : Vec Ideal S1024x2816 .bf16) (r : Fin 1024) (s : Fin 1024) :
    k0_pay2 (F := Ideal) z x y (ix2 r s) = z (ix2 r s) + ∑ k : Fin 2816, x (ix3 (0 : Fin 1) r k) * y (ix2 s k) := by
  pointwise [k0_pay2]

/-- The point of block row `i`, block column `j` and step `k`. -/
abbrev pt (i : Fin 4) (j : Fin 2) (k : Fin 4) : Fin cfg0.N := ⟨(i.val * 2 + j.val) * 4 + k.val, by have e : cfg0.N = 32 := N_0; omega⟩

/-- Where each window's block lies at each point. -/
theorem ix : ∀ (i : Fin 4) (j : Fin 2) (k : Fin 4), win0_0.index (pt i j k) = ![k.val / 2, i.val, k.val % 2] ∧ win0_1.index (pt i j k) = ![j.val, k.val] ∧ win0_2.index (pt i j k) = ![i.val, j.val] := by
  decide +kernel

theorem pt_split (t : Fin cfg0.N) : ∃ (i : Fin 4) (j : Fin 2) (k : Fin 4), t = pt i j k := by
  have e : cfg0.N = 32 := N_0
  have ht := t.isLt
  exact ⟨⟨t.val / 8, by omega⟩, ⟨t.val / 4 % 2, by omega⟩, ⟨t.val % 4, by omega⟩, Fin.ext (by dsimp only; omega)⟩

section blocks
variable (i : Fin 4) (j : Fin 2) (k : Fin 4)
/-- The operands' blocks. -/
theorem blk0 (q : Fin 2816) (r : Fin 1024) : iblk (F := Ideal) m c 0 (pt i j k) (ix3 (0 : Fin 1) r q) = aE (aA m c) ⟨i.val * 1024 + r.val, by omega⟩ ⟨k.val * 2816 + q.val, by omega⟩ := by
  have hi := (ix i j k).1
  have e : iblk (F := Ideal) m c 0 (pt i j k) (ix3 (0 : Fin 1) r q) = aA m c (ix3 ⟨k.val / 2, by omega⟩ ⟨i.val * 1024 + r.val, by omega⟩ ⟨k.val % 2 * 2816 + q.val, by omega⟩) := by
    blk_point [iblk, V, hi]
  have e1 : (k.val * 2816 + q.val) / 5632 = k.val / 2 := by omega
  have e2 : (k.val * 2816 + q.val) % 5632 = k.val % 2 * 2816 + q.val := by omega
  rw [e]
  simp only [aE, e1, e2]
theorem blk1 (q : Fin 2816) (s : Fin 1024) : iblk (F := Ideal) m c 1 (pt i j k) (ix2 s q) = bE (bA m c) ⟨k.val * 2816 + q.val, by omega⟩ ⟨j.val * 1024 + s.val, by omega⟩ := by
  have hi := (ix i j k).2.1
  unfold bE
  blk_point [iblk, V, hi]
end blocks

/-- Step `k`'s share of an entry. -/
def part (k : Fin 4) (r : Fin 4096) (s : Fin 2048) : EReal :=
  ∑ q : Fin 2816, aE (aA m c) r ⟨k.val * 2816 + q.val, by omega⟩ * bE (bA m c) ⟨k.val * 2816 + q.val, by omega⟩ s

theorem step_eq (i : Fin 4) (j : Fin 2) (k : Fin 4) (r : Fin 1024) (s : Fin 1024) :
    (∑ q : Fin 2816, aB m c (pt i j k) (ix3 (0 : Fin 1) r q) * bB m c (pt i j k) (ix2 s q))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 2048) : prod (aA m c) (bA m c) r s = part m c 0 r s + part m c 1 r s + part m c 2 r s + part m c 3 r s :=
  (Fin.sum_mul_add_fin 4 2816 (fun k : Fin 11264 => aE (aA m c) r k * bE (bA m c) k s)).symm.trans (Fin.sum_univ_four (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 4) (j : Fin 2) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 4 = 0 := by show ((i.val * 2 + j.val) * 4 + 0) % 4 = 0; omega
  rw [outsAt0_A m c (pt i j 0) h0 (by omega) (by omega)]
  frame_out
  exact (p1 _ _ r s).trans (step_eq m c i j 0 r s)
theorem acc1 (i : Fin 4) (j : Fin 2) (r : Fin 1024) (s : Fin 1024) : (outsAt0 m c (pt i j 1).val (pt i j 1).isLt).2 (ix2 r s) = part m c 0 ⟨i.val * 1024 + r.val, by omega⟩ ⟨j.val * 1024 + s.val, by omega⟩ + part m c 1 ⟨i.val * 1024 + r.val, by omega⟩ ⟨j.val * 1024 + s.val, by omega⟩ := by
  have h0 : (pt i j 1).val % 4 = 1 := by show ((i.val * 2 + j.val) * 4 + 1) % 4 = 1; omega
  rw [outsAt0_B m c (pt i j 1) (by omega) (by omega) (by omega)]
  frame_out
  simp only [read_unread_whole]
  refine (p2 _ _ _ r s).trans (congrArg₂ (· + ·) ?_ (step_eq m c i j 1 r s))
  exact (congrArg (fun z => z.2 (ix2 r s)) (same m c _ (pt i j 0).isLt (by show (i.val * 2 + j.val) * 4 + 1 - 1 = (i.val * 2 + j.val) * 4 + 0; omega))).trans (acc0 m c i j r s)
theorem acc2 (i : Fin 4) (j : Fin 2) (r : Fin 1024) (s : Fin 1024) : (outsAt0 m c (pt i j 2).val (pt i j 2).isLt).2 (ix2 r s) = part m c 0 ⟨i.val * 1024 + r.val, by omega⟩ ⟨j.val * 1024 + s.val, by omega⟩ + part m c 1 ⟨i.val * 1024 + r.val, by omega⟩ ⟨j.val * 1024 + s.val, by omega⟩ + part m c 2 ⟨i.val * 1024 + r.val, by omega⟩ ⟨j.val * 1024 + s.val, by omega⟩ := by
  have h0 : (pt i j 2).val % 4 = 2 := by show ((i.val * 2 + j.val) * 4 + 2) % 4 = 2; omega
  rw [outsAt0_B m c (pt i j 2) (by omega) (by omega) (by omega)]
  frame_out
  simp only [read_unread_whole]
  refine (p2 _ _ _ r s).trans (congrArg₂ (· + ·) ?_ (step_eq m c i j 2 r s))
  exact (congrArg (fun z => z.2 (ix2 r s)) (same m c _ (pt i j 1).isLt (by show (i.val * 2 + j.val) * 4 + 2 - 1 = (i.val * 2 + j.val) * 4 + 1; omega))).trans (acc1 m c i j r s)
/-- What a block's last step leaves in the result's block. -/
theorem out_at (i : Fin 4) (j : Fin 2) (r : Fin 1024) (s : Fin 1024) : (dats m 0 c).after 2 (pt i j 3) (ix2 r s) = prod (aA m c) (bA m c) ⟨i.val * 1024 + r.val, by omega⟩ ⟨j.val * 1024 + s.val, by omega⟩ := by
  have h0 : (pt i j 3).val % 4 = 3 := by show ((i.val * 2 + j.val) * 4 + 3) % 4 = 3; omega
  rw [after0_2, outsAt0_C m c (pt i j 3) (by omega) (by omega) (by omega)]
  frame_out
  simp only [read_unread_whole]
  refine (p2 _ _ _ r s).trans (Eq.trans (congrArg₂ (· + ·) ?_ (step_eq m c i j 3 r s)) (prod_eq m c _ _).symm)
  exact (congrArg (fun z => z.2 (ix2 r s)) (same m c _ (pt i j 2).isLt (by show (i.val * 2 + j.val) * 4 + 3 - 1 = (i.val * 2 + j.val) * 4 + 2; omega))).trans (acc2 m c i j r s)

/-- The array after the run. -/
theorem final : (dats m 0 c).arrAt 2 cfg0.N = Cert.Reference6Ideal.Read.val_main_v11 (F := Ideal) (aA m c) (bA m c) := by
  refine (dats m 0 c).arrAt_eq_of_covers 2 _ (by decide +kernel) fun t hf y => ?_
  have hk : t.val % 4 = 3 := (flush0_2 t).1 hf
  obtain ⟨i, j, k, rfl⟩ := pt_split t
  obtain rfl : k = 3 := by
    have e : ((i.val * 2 + j.val) * 4 + k.val) % 4 = 3 := hk
    exact Fin.ext (show k.val = 3 by omega)
  have hi := (ix i j 3).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm6
-- ==== Proof.Mm7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack

@[expose] public section

set_option maxRecDepth 16384

noncomputable section

/-! The output projection's weight gradient: the array the pipelined product leaves is the reference's. -/

namespace Cert.Mm7

open Idealize.ShloMosaic Idealize.ShloMosaic.TcCoe
open Cert.Kernel7Ideal Cert.Kernel7Ideal.Gen

/-- The two operands, as a row and a column of the product see them. -/
abbrev aE (a : Vec Ideal S4096x2048 .bf16) (r : Fin 2048) (k : Fin 4096) : EReal := a (ix2 k r)
abbrev bE (b : Vec Ideal S4096x2048 .bf16) (k : Fin 4096) (s : Fin 2048) : EReal := b (ix2 k s)

/-- One entry of the product. -/
def prod (a : Vec Ideal S4096x2048 .bf16) (b : Vec Ideal S4096x2048 .bf16) (r : Fin 2048) (s : Fin 2048) : EReal :=
  ∑ k : Fin 4096, aE a r k * bE b k s

section ref
open Cert.Reference7Ideal.Read
/-- The reference's entry. -/
theorem ref (a : Vec Ideal S4096x2048 .bf16) (b : Vec Ideal S4096x2048 .bf16) (r : Fin 2048) (s : Fin 2048) : val_main_v7 (F := Ideal) a b (ix2 r s) = prod a b r s := by
  pointwise [val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S4096x2048 .bf16 := m ((c : Thread nD τ).loc main_arg1)
/-- The blocks a point reads. -/
abbrev aB (t : Fin cfg0.N) : Vec Ideal S2048x1024 .bf16 := iblk (F := Ideal) m c 0 t
abbrev bB (t : Fin cfg0.N) : Vec Ideal S2048x1024 .bf16 := iblk (F := Ideal) m c 1 t

/-- A block's product, one entry. -/
theorem p1 (x : Vec Ideal S2048x1024 .bf16) (y : Vec Ideal S2048x1024 .bf16) (r : Fin 1024) (s : Fin 1024) :
    k0_pay1 (F := Ideal) x y (ix2 r s) = ∑ k : Fin 2048, x (ix2 k r) * y (ix2 k s) := by
  pointwise [k0_pay1]
theorem p2 (z : Vec Ideal S1024x1024 .f32) (x : Vec Ideal S2048x1024 .bf16) (y : Vec Ideal S2048x1024 .bf16) (r : Fin 1024) (s : Fin 1024) :
    k0_pay2 (F := Ideal) z x y (ix2 r s) = z (ix2 r s) + ∑ k : Fin 2048, x (ix2 k r) * y (ix2 k s) := by
  pointwise [k0_pay2]
theorem p3 (z : Vec Ideal S1024x1024 .f32) (r : Fin 1024) (s : Fin 1024) :
    k0_pay3 (F := Ideal) z (ix2 r s) = z (ix2 r s) := by
  pointwise [k0_pay3]

/-- The point of block row `i`, block column `j` and step `k`. -/
abbrev pt (i : Fin 2) (j : Fin 2) (k : Fin 2) : Fin cfg0.N := ⟨(i.val * 2 + j.val) * 2 + k.val, by have e : cfg0.N = 8 := N_0; omega⟩

/-- Where each window's block lies at each point. -/
theorem ix : ∀ (i : Fin 2) (j : Fin 2) (k : Fin 2), win0_0.index (pt i j k) = ![k.val, i.val] ∧ win0_1.index (pt i j k) = ![k.val, j.val] ∧ win0_2.index (pt i j k) = ![i.val, j.val] := by
  decide +kernel

theorem pt_split (t : Fin cfg0.N) : ∃ (i : Fin 2) (j : Fin 2) (k : Fin 2), t = pt i j k := by
  have e : cfg0.N = 8 := N_0
  have ht := t.isLt
  exact ⟨⟨t.val / 4, by omega⟩, ⟨t.val / 2 % 2, by omega⟩, ⟨t.val % 2, by omega⟩, Fin.ext (by dsimp only; omega)⟩

section blocks
variable (i : Fin 2) (j : Fin 2) (k : Fin 2)
/-- The operands' blocks. -/
theorem blk0 (q : Fin 2048) (r : Fin 1024) : iblk (F := Ideal) m c 0 (pt i j k) (ix2 q r) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 2) (r : Fin 2048) (s : Fin 2048) : EReal :=
  ∑ q : Fin 2048, aE (aA m c) r ⟨k.val * 2048 + q.val, by omega⟩ * bE (bA m c) ⟨k.val * 2048 + q.val, by omega⟩ s

theorem step_eq (i : Fin 2) (j : Fin 2) (k : Fin 2) (r : Fin 1024) (s : Fin 1024) :
    (∑ q : Fin 2048, aB m c (pt i j k) (ix2 q r) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 2048) (s : Fin 2048) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 2) (j : Fin 2) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 2 = 0 := by show ((i.val * 2 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 2) (j : Fin 2) (r : Fin 1024) (s : Fin 1024) : (dats m 0 c).after 2 (pt i j 1) (ix2 r s) = prod (aA m c) (bA m c) ⟨i.val * 1024 + r.val, by omega⟩ ⟨j.val * 1024 + s.val, by omega⟩ := by
  have h0 : (pt i j 1).val % 2 = 1 := by show ((i.val * 2 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 2 + j.val) * 2 + 1 - 1 = (i.val * 2 + j.val) * 2 + 0; omega))).trans (acc0 m c i j r s)

/-- The array after the run. -/
theorem final : (dats m 0 c).arrAt 2 cfg0.N = Cert.Reference7Ideal.Read.val_main_v7 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 2 + j.val) * 2 + k.val) % 2 = 1 := hk
    exact Fin.ext (show k.val = 1 by omega)
  have hi := (ix i j 1).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm7
-- ==== Proof.Mm8.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack

@[expose] public section

set_option maxRecDepth 16384

noncomputable section

/-! The output projection's input gradient: the array the pipelined product leaves is the reference's. -/

namespace Cert.Mm8

open Idealize.ShloMosaic Idealize.ShloMosaic.TcCoe
open Cert.Kernel8Ideal Cert.Kernel8Ideal.Gen

/-- The two operands, as a row and a column of the product see them. -/
abbrev aE (a : Vec Ideal S4096x2048 .bf16) (r : Fin 4096) (k : Fin 2048) : EReal := a (ix2 r k)
abbrev bE (b : Vec Ideal S2048x2048 .bf16) (k : Fin 2048) (s : Fin 2048) : EReal := b (ix2 s k)

/-- One entry of the product. -/
def prod (a : Vec Ideal S4096x2048 .bf16) (b : Vec Ideal S2048x2048 .bf16) (r : Fin 4096) (s : Fin 2048) : EReal :=
  ∑ k : Fin 2048, aE a r k * bE b k s

section ref
open Cert.Reference8Ideal.Read
/-- The reference's entry. -/
theorem ref (a : Vec Ideal S4096x2048 .bf16) (b : Vec Ideal S2048x2048 .bf16) (r : Fin 4096) (s : Fin 2048) : val_main_v7 (F := Ideal) a b (ix2 r s) = prod a b r s := by
  pointwise [val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S2048x2048 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S1024x2048 .bf16 := iblk (F := Ideal) m c 1 t

/-- A block's product, one entry. -/
theorem p1 (x : Vec Ideal S1024x2048 .bf16) (y : Vec Ideal S1024x2048 .bf16) (r : Fin 1024) (s : Fin 1024) :
    k0_pay1 (F := Ideal) x y (ix2 r s) = ∑ k : Fin 2048, x (ix2 r k) * y (ix2 s k) := by
  pointwise [k0_pay1]

/-- The point of block row `i`, block column `j` and step `k`. -/
abbrev pt (i : Fin 4) (j : Fin 2) (k : Fin 1) : Fin cfg0.N := ⟨(i.val * 2 + j.val) * 1 + k.val, by have e : cfg0.N = 8 := N_0; omega⟩

/-- Where each window's block lies at each point. -/
theorem ix : ∀ (i : Fin 4) (j : Fin 2) (k : Fin 1), win0_0.index (pt i j k) = ![i.val, k.val] ∧ win0_1.index (pt i j k) = ![j.val, k.val] ∧ win0_2.index (pt i j k) = ![i.val, j.val] := by
  decide +kernel

theorem pt_split (t : Fin cfg0.N) : ∃ (i : Fin 4) (j : Fin 2) (k : Fin 1), t = pt i j k := by
  have e : cfg0.N = 8 := N_0
  have ht := t.isLt
  exact ⟨⟨t.val / 2, by omega⟩, ⟨t.val / 1 % 2, by omega⟩, ⟨t.val % 1, by omega⟩, Fin.ext (by dsimp only; omega)⟩

section blocks
variable (i : Fin 4) (j : Fin 2) (k : Fin 1)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 s q) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 2048) : EReal :=
  ∑ q : Fin 2048, aE (aA m c) r ⟨k.val * 2048 + q.val, by omega⟩ * bE (bA m c) ⟨k.val * 2048 + q.val, by omega⟩ s

theorem step_eq (i : Fin 4) (j : Fin 2) (k : Fin 1) (r : Fin 1024) (s : Fin 1024) :
    (∑ q : Fin 2048, aB m c (pt i j k) (ix2 r q) * bB m c (pt i j k) (ix2 s q))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 2048) : prod (aA m c) (bA m c) r s = part m c 0 r s :=
  (Fin.sum_mul_add_fin 1 2048 (fun k : Fin 2048 => aE (aA m c) r k * bE (bA m c) k s)).symm.trans (Fin.sum_univ_one (fun k => part m c k r s))

/-- What the point leaves in the result's block. -/
theorem out_at (i : Fin 4) (j : Fin 2) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference8Ideal.Read.val_main_v7 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm8
-- ==== Proof.Mm9.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

/-! The query up-projection's weight gradient: the array the pipelined product leaves is the reference's. -/

namespace Cert.Mm9

open Idealize.ShloMosaic Idealize.ShloMosaic.TcCoe
open Cert.Kernel9Ideal Cert.Kernel9Ideal.Gen

/-- The two operands, as a row and a column of the product see them. -/
abbrev aE (a : Vec Ideal S4096x768 .bf16) (r : Fin 768) (k : Fin 4096) : EReal := a (ix2 k r)
abbrev bE (b : Vec Ideal S4096x4096 .bf16) (k : Fin 4096) (s : Fin 4096) : EReal := b (ix2 k s)

/-- One entry of the product. -/
def prod (a : Vec Ideal S4096x768 .bf16) (b : Vec Ideal S4096x4096 .bf16) (r : Fin 768) (s : Fin 4096) : EReal :=
  ∑ k : Fin 4096, aE a r k * bE b k s

section ref
open Cert.Reference9Ideal.Read
/-- The reference's entry. -/
theorem ref (a : Vec Ideal S4096x768 .bf16) (b : Vec Ideal S4096x4096 .bf16) (r : Fin 768) (s : Fin 4096) : val_main_v7 (F := Ideal) a b (ix2 r s) = prod a b r s := by
  pointwise [val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x768 .bf16 := m ((c : Thread nD τ).loc main_arg0)
abbrev bA : Vec Ideal S4096x4096 .bf16 := m ((c : Thread nD τ).loc main_arg1)
/-- The blocks a point reads. -/
abbrev aB (t : Fin cfg0.N) : Vec Ideal S2048x768 .bf16 := iblk (F := Ideal) m c 0 t
abbrev bB (t : Fin cfg0.N) : Vec Ideal S2048x1024 .bf16 := iblk (F := Ideal) m c 1 t

/-- A block's product, one entry. -/
theorem p1 (x : Vec Ideal S2048x768 .bf16) (y : Vec Ideal S2048x1024 .bf16) (r : Fin 768) (s : Fin 1024) :
    k0_pay1 (F := Ideal) x y (ix2 r s) = ∑ k : Fin 2048, x (ix2 k r) * y (ix2 k s) := by
  pointwise [k0_pay1]
theorem p2 (z : Vec Ideal S768x1024 .f32) (x : Vec Ideal S2048x768 .bf16) (y : Vec Ideal S2048x1024 .bf16) (r : Fin 768) (s : Fin 1024) :
    k0_pay2 (F := Ideal) z x y (ix2 r s) = z (ix2 r s) + ∑ k : Fin 2048, x (ix2 k r) * y (ix2 k s) := by
  pointwise [k0_pay2]
theorem p3 (z : Vec Ideal S768x1024 .f32) (r : Fin 768) (s : Fin 1024) :
    k0_pay3 (F := Ideal) z (ix2 r s) = z (ix2 r s) := by
  pointwise [k0_pay3]

/-- The point of block row `i`, block column `j` and step `k`. -/
abbrev pt (i : Fin 1) (j : Fin 4) (k : Fin 2) : Fin cfg0.N := ⟨(i.val * 4 + j.val) * 2 + k.val, by have e : cfg0.N = 8 := N_0; omega⟩

/-- Where each window's block lies at each point. -/
theorem ix : ∀ (i : Fin 1) (j : Fin 4) (k : Fin 2), win0_0.index (pt i j k) = ![k.val, i.val] ∧ win0_1.index (pt i j k) = ![k.val, j.val] ∧ win0_2.index (pt i j k) = ![i.val, j.val] := by
  decide +kernel

theorem pt_split (t : Fin cfg0.N) : ∃ (i : Fin 1) (j : Fin 4) (k : Fin 2), t = pt i j k := by
  have e : cfg0.N = 8 := N_0
  have ht := t.isLt
  exact ⟨⟨t.val / 8, by omega⟩, ⟨t.val / 2 % 4, by omega⟩, ⟨t.val % 2, by omega⟩, Fin.ext (by dsimp only; omega)⟩

section blocks
variable (i : Fin 1) (j : Fin 4) (k : Fin 2)
/-- The operands' blocks. -/
theorem blk0 (q : Fin 2048) (r : Fin 768) : iblk (F := Ideal) m c 0 (pt i j k) (ix2 q r) = aE (aA m c) ⟨i.val * 768 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 2) (r : Fin 768) (s : Fin 4096) : EReal :=
  ∑ q : Fin 2048, aE (aA m c) r ⟨k.val * 2048 + q.val, by omega⟩ * bE (bA m c) ⟨k.val * 2048 + q.val, by omega⟩ s

theorem step_eq (i : Fin 1) (j : Fin 4) (k : Fin 2) (r : Fin 768) (s : Fin 1024) :
    (∑ q : Fin 2048, aB m c (pt i j k) (ix2 q r) * bB m c (pt i j k) (ix2 q s))
      = part m c k ⟨i.val * 768 + r.val, by omega⟩ ⟨j.val * 1024 + s.val, by omega⟩ :=
  Finset.sum_congr rfl fun q _ => congrArg₂ (· * ·) (blk0 m c i j k q r) (blk1 m c i j k q s)

theorem prod_eq (r : Fin 768) (s : Fin 4096) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 1) (j : Fin 4) (r : Fin 768) (s : Fin 1024) : (outsAt0 m c (pt i j 0).val (pt i j 0).isLt).2 (ix2 r s) = part m c 0 ⟨i.val * 768 + r.val, by omega⟩ ⟨j.val * 1024 + s.val, by omega⟩ := by
  have h0 : (pt i j 0).val % 2 = 0 := by show ((i.val * 4 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 1) (j : Fin 4) (r : Fin 768) (s : Fin 1024) : (dats m 0 c).after 2 (pt i j 1) (ix2 r s) = prod (aA m c) (bA m c) ⟨i.val * 768 + r.val, by omega⟩ ⟨j.val * 1024 + s.val, by omega⟩ := by
  have h0 : (pt i j 1).val % 2 = 1 := by show ((i.val * 4 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 4 + j.val) * 2 + 1 - 1 = (i.val * 4 + j.val) * 2 + 0; omega))).trans (acc0 m c i j r s)

/-- The array after the run. -/
theorem final : (dats m 0 c).arrAt 2 cfg0.N = Cert.Reference9Ideal.Read.val_main_v7 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 4 + j.val) * 2 + k.val) % 2 = 1 := hk
    exact Fin.ext (show k.val = 1 by omega)
  have hi := (ix i j 1).2.2
  blk_simp
  refine (congrArg _ (ValueIdx.eq_ix2 (n0 := 768) (n1 := 1024) y)).trans ((out_at m c i j (y 0) (y 1)).trans ((ref (aA m c) (bA m c) _ _).symm.trans (congrArg _ ?_)))
  blk_ext [hi]

end Cert.Mm9
-- ==== Proof.Mm10.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

/-! The query up-projection's input gradient: the array the pipelined product leaves is the reference's. -/

namespace Cert.Mm10

open Idealize.ShloMosaic Idealize.ShloMosaic.TcCoe
open Cert.Kernel10Ideal Cert.Kernel10Ideal.Gen

/-- The two operands, as a row and a column of the product see them. -/
abbrev aE (a : Vec Ideal S4096x4096 .bf16) (r : Fin 4096) (k : Fin 4096) : EReal := a (ix2 r k)
abbrev bE (b : Vec Ideal S768x4096 .bf16) (k : Fin 4096) (s : Fin 768) : EReal := b (ix2 s k)

/-- One entry of the product. -/
def prod (a : Vec Ideal S4096x4096 .bf16) (b : Vec Ideal S768x4096 .bf16) (r : Fin 4096) (s : Fin 768) : EReal :=
  ∑ k : Fin 4096, aE a r k * bE b k s

section ref
open Cert.Reference10Ideal.Read
/-- The reference's entry. -/
theorem ref (a : Vec Ideal S4096x4096 .bf16) (b : Vec Ideal S768x4096 .bf16) (r : Fin 4096) (s : Fin 768) : val_main_v6 (F := Ideal) a b (ix2 r s) = prod a b r s := by
  pointwise [val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x4096 .bf16 := m ((c : Thread nD τ).loc main_arg0)
abbrev bA : Vec Ideal S768x4096 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S768x2048 .bf16 := iblk (F := Ideal) m c 1 t

/-- A block's product, one entry. -/
theorem p1 (x : Vec Ideal S1024x2048 .bf16) (y : Vec Ideal S768x2048 .bf16) (r : Fin 1024) (s : Fin 768) :
    k0_pay1 (F := Ideal) x y (ix2 r s) = ∑ k : Fin 2048, x (ix2 r k) * y (ix2 s k) := by
  pointwise [k0_pay1]
theorem p2 (z : Vec Ideal S1024x768 .f32) (x : Vec Ideal S1024x2048 .bf16) (y : Vec Ideal S768x2048 .bf16) (r : Fin 1024) (s : Fin 768) :
    k0_pay2 (F := Ideal) z x y (ix2 r s) = z (ix2 r s) + ∑ k : Fin 2048, x (ix2 r k) * y (ix2 s k) := by
  pointwise [k0_pay2]

/-- The point of block row `i`, block column `j` and step `k`. -/
abbrev pt (i : Fin 4) (j : Fin 1) (k : Fin 2) : Fin cfg0.N := ⟨(i.val * 1 + j.val) * 2 + k.val, by have e : cfg0.N = 8 := N_0; omega⟩

/-- Where each window's block lies at each point. -/
theorem ix : ∀ (i : Fin 4) (j : Fin 1) (k : Fin 2), win0_0.index (pt i j k) = ![i.val, k.val] ∧ win0_1.index (pt i j k) = ![j.val, k.val] ∧ win0_2.index (pt i j k) = ![i.val, j.val] := by
  decide +kernel

theorem pt_split (t : Fin cfg0.N) : ∃ (i : Fin 4) (j : Fin 1) (k : Fin 2), t = pt i j k := by
  have e : cfg0.N = 8 := N_0
  have ht := t.isLt
  exact ⟨⟨t.val / 2, by omega⟩, ⟨t.val / 2 % 1, by omega⟩, ⟨t.val % 2, by omega⟩, Fin.ext (by dsimp only; omega)⟩

section blocks
variable (i : Fin 4) (j : Fin 1) (k : Fin 2)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 768) : iblk (F := Ideal) m c 1 (pt i j k) (ix2 s q) = bE (bA m c) ⟨k.val * 2048 + q.val, by omega⟩ ⟨j.val * 768 + s.val, by omega⟩ := by
  have hi := (ix i j k).2.1
  unfold bE
  blk_point [iblk, V, hi]
end blocks

/-- Step `k`'s share of an entry. -/
def part (k : Fin 2) (r : Fin 4096) (s : Fin 768) : EReal :=
  ∑ q : Fin 2048, aE (aA m c) r ⟨k.val * 2048 + q.val, by omega⟩ * bE (bA m c) ⟨k.val * 2048 + q.val, by omega⟩ s

theorem step_eq (i : Fin 4) (j : Fin 1) (k : Fin 2) (r : Fin 1024) (s : Fin 768) :
    (∑ q : Fin 2048, aB m c (pt i j k) (ix2 r q) * bB m c (pt i j k) (ix2 s q))
      = part m c k ⟨i.val * 1024 + r.val, by omega⟩ ⟨j.val * 768 + s.val, by omega⟩ :=
  Finset.sum_congr rfl fun q _ => congrArg₂ (· * ·) (blk0 m c i j k q r) (blk1 m c i j k q s)

theorem prod_eq (r : Fin 4096) (s : Fin 768) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 4) (j : Fin 1) (r : Fin 1024) (s : Fin 768) : (outsAt0 m c (pt i j 0).val (pt i j 0).isLt).2 (ix2 r s) = part m c 0 ⟨i.val * 1024 + r.val, by omega⟩ ⟨j.val * 768 + s.val, by omega⟩ := by
  have h0 : (pt i j 0).val % 2 = 0 := by show ((i.val * 1 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 4) (j : Fin 1) (r : Fin 1024) (s : Fin 768) : (dats m 0 c).after 2 (pt i j 1) (ix2 r s) = prod (aA m c) (bA m c) ⟨i.val * 1024 + r.val, by omega⟩ ⟨j.val * 768 + s.val, by omega⟩ := by
  have h0 : (pt i j 1).val % 2 = 1 := by show ((i.val * 1 + j.val) * 2 + 1) % 2 = 1; omega
  rw [after0_2, outsAt0_B m c (pt i j 1) (by omega) (by omega) (by omega)]
  frame_out
  simp only [read_unread_whole]
  refine (p2 _ _ _ r s).trans (Eq.trans (congrArg₂ (· + ·) ?_ (step_eq m c i j 1 r s)) (prod_eq m c _ _).symm)
  exact (congrArg (fun z => z.2 (ix2 r s)) (same m c _ (pt i j 0).isLt (by show (i.val * 1 + j.val) * 2 + 1 - 1 = (i.val * 1 + j.val) * 2 + 0; omega))).trans (acc0 m c i j r s)

/-- The array after the run. -/
theorem final : (dats m 0 c).arrAt 2 cfg0.N = Cert.Reference10Ideal.Read.val_main_v6 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 1 + j.val) * 2 + k.val) % 2 = 1 := hk
    exact Fin.ext (show k.val = 1 by omega)
  have hi := (ix i j 1).2.2
  blk_simp
  refine (congrArg _ (ValueIdx.eq_ix2 (n0 := 1024) (n1 := 768) y)).trans ((out_at m c i j (y 0) (y 1)).trans ((ref (aA m c) (bA m c) _ _).symm.trans (congrArg _ ?_)))
  blk_ext [hi]

end Cert.Mm10
-- ==== Proof.Mm11.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

@[expose] public section

set_option maxRecDepth 16384

noncomputable section

/-! The key and value up-projection's weight gradient: the array the pipelined product leaves is the reference's. -/

namespace Cert.Mm11

open Idealize.ShloMosaic Idealize.ShloMosaic.TcCoe
open Cert.Kernel11Ideal Cert.Kernel11Ideal.Gen

/-- The two operands, as a row and a column of the product see them. -/
abbrev aE (a : Vec Ideal S4096x512 .bf16) (r : Fin 512) (k : Fin 4096) : EReal := a (ix2 k r)
abbrev bE (b : Vec Ideal S4096x4096 .bf16) (k : Fin 4096) (s : Fin 4096) : EReal := b (ix2 k s)

/-- One entry of the product. -/
def prod (a : Vec Ideal S4096x512 .bf16) (b : Vec Ideal S4096x4096 .bf16) (r : Fin 512) (s : Fin 4096) : EReal :=
  ∑ k : Fin 4096, aE a r k * bE b k s

section ref
open Cert.Reference11Ideal.Read
/-- The reference's entry. -/
theorem ref (a : Vec Ideal S4096x512 .bf16) (b : Vec Ideal S4096x4096 .bf16) (g : Fin 8) (r : Fin 512) (s : Fin 512) : val_main_v9 (F := Ideal) a b (ix3 g r s) = prod a b r ⟨g.val * 512 + s.val, by omega⟩ := by
  pointwise [val_main_v9, val_main_v8, val_main_v7, val_main_v6, val_main_v5, val_main_v4, val_main_v3, val_main_v2, val_main_v1, val_main_v0]
  unfold prod
  refine Finset.sum_congr rfl fun k _ => ?_
  exact mul_comm _ _
end ref

variable (m : (ℓ : Loc nD τ sig) → Buf (Elt Ideal) ℓ) (c : Dev nD)

/-- The operands in memory. -/
abbrev aA : Vec Ideal S4096x512 .bf16 := m ((c : Thread nD τ).loc main_arg0)
abbrev bA : Vec Ideal S4096x4096 .bf16 := m ((c : Thread nD τ).loc main_arg1)
/-- The blocks a point reads. -/
abbrev aB (t : Fin cfg0.N) : Vec Ideal S2048x512 .bf16 := iblk (F := Ideal) m c 0 t
abbrev bB (t : Fin cfg0.N) : Vec Ideal S2048x512 .bf16 := iblk (F := Ideal) m c 1 t

/-- A block's product, one entry. -/
theorem p1 (x : Vec Ideal S2048x512 .bf16) (y : Vec Ideal S2048x512 .bf16) (r : Fin 512) (s : Fin 512) :
    k0_pay1 (F := Ideal) x y (ix2 r s) = ∑ k : Fin 2048, x (ix2 k r) * y (ix2 k s) := by
  pointwise [k0_pay1]
theorem p2 (z : Vec Ideal S512x512 .f32) (x : Vec Ideal S2048x512 .bf16) (y : Vec Ideal S2048x512 .bf16) (r : Fin 512) (s : Fin 512) :
    k0_pay2 (F := Ideal) z x y (ix2 r s) = z (ix2 r s) + ∑ k : Fin 2048, x (ix2 k r) * y (ix2 k s) := by
  pointwise [k0_pay2]
theorem p3 (z : Vec Ideal S512x512 .f32) (r : Fin 512) (s : Fin 512) :
    k0_pay3 (F := Ideal) z (ix3 (0 : Fin 1) r s) = z (ix2 r s) := by
  pointwise [k0_pay3]

/-- The point of block row `i`, block column `j` and step `k`. -/
abbrev pt (i : Fin 1) (j : Fin 8) (k : Fin 2) : Fin cfg0.N := ⟨(i.val * 8 + j.val) * 2 + k.val, by have e : cfg0.N = 16 := N_0; omega⟩

/-- Where each window's block lies at each point. -/
theorem ix : ∀ (i : Fin 1) (j : Fin 8) (k : Fin 2), win0_0.index (pt i j k) = ![k.val, i.val] ∧ win0_1.index (pt i j k) = ![k.val, j.val] ∧ win0_2.index (pt i j k) = ![j.val, i.val, 0] := by
  decide +kernel

theorem pt_split (t : Fin cfg0.N) : ∃ (i : Fin 1) (j : Fin 8) (k : Fin 2), t = pt i j k := by
  have e : cfg0.N = 16 := N_0
  have ht := t.isLt
  exact ⟨⟨t.val / 16, by omega⟩, ⟨t.val / 2 % 8, by omega⟩, ⟨t.val % 2, by omega⟩, Fin.ext (by dsimp only; omega)⟩

section blocks
variable (i : Fin 1) (j : Fin 8) (k : Fin 2)
/-- The operands' blocks. -/
theorem blk0 (q : Fin 2048) (r : Fin 512) : iblk (F := Ideal) m c 0 (pt i j k) (ix2 q r) = aE (aA m c) ⟨i.val * 512 + r.val, by omega⟩ ⟨k.val * 2048 + q.val, by omega⟩ := by
  have hi := (ix i j k).1
  unfold aE
  blk_point [iblk, V, hi]
theorem blk1 (q : Fin 2048) (s : Fin 512) : iblk (F := Ideal) m c 1 (pt i j k) (ix2 q s) = bE (bA m c) ⟨k.val * 2048 + q.val, by omega⟩ ⟨j.val * 512 + s.val, by omega⟩ := by
  have hi := (ix i j k).2.1
  unfold bE
  blk_point [iblk, V, hi]
end blocks

/-- Step `k`'s share of an entry. -/
def part (k : Fin 2) (r : Fin 512) (s : Fin 4096) : EReal :=
  ∑ q : Fin 2048, aE (aA m c) r ⟨k.val * 2048 + q.val, by omega⟩ * bE (bA m c) ⟨k.val * 2048 + q.val, by omega⟩ s

theorem step_eq (i : Fin 1) (j : Fin 8) (k : Fin 2) (r : Fin 512) (s : Fin 512) :
    (∑ q : Fin 2048, aB m c (pt i j k) (ix2 q r) * bB m c (pt i j k) (ix2 q s))
      = part m c k ⟨i.val * 512 + r.val, by omega⟩ ⟨j.val * 512 + s.val, by omega⟩ :=
  Finset.sum_congr rfl fun q _ => congrArg₂ (· * ·) (blk0 m c i j k q r) (blk1 m c i j k q s)

theorem prod_eq (r : Fin 512) (s : Fin 4096) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 1) (j : Fin 8) (r : Fin 512) (s : Fin 512) : (outsAt0 m c (pt i j 0).val (pt i j 0).isLt).2 (ix2 r s) = part m c 0 ⟨i.val * 512 + r.val, by omega⟩ ⟨j.val * 512 + s.val, by omega⟩ := by
  have h0 : (pt i j 0).val % 2 = 0 := by show ((i.val * 8 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 1) (j : Fin 8) (r : Fin 512) (s : Fin 512) : (dats m 0 c).after 2 (pt i j 1) (ix3 (0 : Fin 1) r s) = prod (aA m c) (bA m c) ⟨i.val * 512 + r.val, by omega⟩ ⟨j.val * 512 + s.val, by omega⟩ := by
  have h0 : (pt i j 1).val % 2 = 1 := by show ((i.val * 8 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 8 + j.val) * 2 + 1 - 1 = (i.val * 8 + j.val) * 2 + 0; omega))).trans (acc0 m c i j r s)

/-- The array after the run. -/
theorem final : (dats m 0 c).arrAt 2 cfg0.N = Cert.Reference11Ideal.Read.val_main_v9 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 8 + j.val) * 2 + k.val) % 2 = 1 := hk
    exact Fin.ext (show k.val = 1 by omega)
  have hi := (ix i j 1).2.2
  blk_simp
  have y0 : (y 0).val = 0 := by have := (y 0).isLt; exact Nat.lt_one_iff.1 this
  have ey : y = ix3 (0 : Fin 1) (y 1) (y 2) := (ValueIdx.eq_ix3 (n0 := 1) (n1 := 512) (n2 := 512) y).trans (congrArg (fun z => ix3 z (y 1) (y 2)) (Subsingleton.elim (α := Fin 1) _ _))
  refine (congrArg _ ey).trans ((out_at m c i j (y 1) (y 2)).trans ((ref (aA m c) (bA m c) j ⟨i.val * 512 + (y 1).val, by have h : (y 1).val < 512 := (y 1).isLt; omega⟩ (y 2)).symm.trans (congrArg _ ?_)))
  blk_ext [hi]

end Cert.Mm11
-- ==== Proof.Mm12.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

/-! The key and value up-projection's input gradient: the array the pipelined product leaves is the reference's. -/

namespace Cert.Mm12

open Idealize.ShloMosaic Idealize.ShloMosaic.TcCoe
open Cert.Kernel12Ideal Cert.Kernel12Ideal.Gen

/-- The two operands, as a row and a column of the product see them. -/
abbrev aE (a : Vec Ideal S4096x4096 .bf16) (r : Fin 4096) (k : Fin 4096) : EReal := a (ix2 r k)
abbrev bE (b : Vec Ideal S512x4096 .bf16) (k : Fin 4096) (s : Fin 512) : EReal := b (ix2 s k)

/-- One entry of the product. -/
def prod (a : Vec Ideal S4096x4096 .bf16) (b : Vec Ideal S512x4096 .bf16) (r : Fin 4096) (s : Fin 512) : EReal :=
  ∑ k : Fin 4096, aE a r k * bE b k s

section ref
open Cert.Reference12Ideal.Read
/-- The reference's entry. -/
theorem ref (a : Vec Ideal S4096x4096 .bf16) (b : Vec Ideal S512x4096 .bf16) (r : Fin 4096) (s : Fin 512) : val_main_v6 (F := Ideal) a b (ix2 r s) = prod a b r s := by
  pointwise [val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x4096 .bf16 := m ((c : Thread nD τ).loc main_arg0)
abbrev bA : Vec Ideal S512x4096 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S512x2048 .bf16 := iblk (F := Ideal) m c 1 t

/-- A block's product, one entry. -/
theorem p1 (x : Vec Ideal S1024x2048 .bf16) (y : Vec Ideal S512x2048 .bf16) (r : Fin 1024) (s : Fin 512) :
    k0_pay1 (F := Ideal) x y (ix2 r s) = ∑ k : Fin 2048, x (ix2 r k) * y (ix2 s k) := by
  pointwise [k0_pay1]
theorem p2 (z : Vec Ideal S1024x512 .f32) (x : Vec Ideal S1024x2048 .bf16) (y : Vec Ideal S512x2048 .bf16) (r : Fin 1024) (s : Fin 512) :
    k0_pay2 (F := Ideal) z x y (ix2 r s) = z (ix2 r s) + ∑ k : Fin 2048, x (ix2 r k) * y (ix2 s k) := by
  pointwise [k0_pay2]

/-- The point of block row `i`, block column `j` and step `k`. -/
abbrev pt (i : Fin 4) (j : Fin 1) (k : Fin 2) : Fin cfg0.N := ⟨(i.val * 1 + j.val) * 2 + k.val, by have e : cfg0.N = 8 := N_0; omega⟩

/-- Where each window's block lies at each point. -/
theorem ix : ∀ (i : Fin 4) (j : Fin 1) (k : Fin 2), win0_0.index (pt i j k) = ![i.val, k.val] ∧ win0_1.index (pt i j k) = ![j.val, k.val] ∧ win0_2.index (pt i j k) = ![i.val, j.val] := by
  decide +kernel

theorem pt_split (t : Fin cfg0.N) : ∃ (i : Fin 4) (j : Fin 1) (k : Fin 2), t = pt i j k := by
  have e : cfg0.N = 8 := N_0
  have ht := t.isLt
  exact ⟨⟨t.val / 2, by omega⟩, ⟨t.val / 2 % 1, by omega⟩, ⟨t.val % 2, by omega⟩, Fin.ext (by dsimp only; omega)⟩

section blocks
variable (i : Fin 4) (j : Fin 1) (k : Fin 2)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 512) : iblk (F := Ideal) m c 1 (pt i j k) (ix2 s q) = bE (bA m c) ⟨k.val * 2048 + q.val, by omega⟩ ⟨j.val * 512 + s.val, by omega⟩ := by
  have hi := (ix i j k).2.1
  unfold bE
  blk_point [iblk, V, hi]
end blocks

/-- Step `k`'s share of an entry. -/
def part (k : Fin 2) (r : Fin 4096) (s : Fin 512) : EReal :=
  ∑ q : Fin 2048, aE (aA m c) r ⟨k.val * 2048 + q.val, by omega⟩ * bE (bA m c) ⟨k.val * 2048 + q.val, by omega⟩ s

theorem step_eq (i : Fin 4) (j : Fin 1) (k : Fin 2) (r : Fin 1024) (s : Fin 512) :
    (∑ q : Fin 2048, aB m c (pt i j k) (ix2 r q) * bB m c (pt i j k) (ix2 s q))
      = part m c k ⟨i.val * 1024 + r.val, by omega⟩ ⟨j.val * 512 + s.val, by omega⟩ :=
  Finset.sum_congr rfl fun q _ => congrArg₂ (· * ·) (blk0 m c i j k q r) (blk1 m c i j k q s)

theorem prod_eq (r : Fin 4096) (s : Fin 512) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 4) (j : Fin 1) (r : Fin 1024) (s : Fin 512) : (outsAt0 m c (pt i j 0).val (pt i j 0).isLt).2 (ix2 r s) = part m c 0 ⟨i.val * 1024 + r.val, by omega⟩ ⟨j.val * 512 + s.val, by omega⟩ := by
  have h0 : (pt i j 0).val % 2 = 0 := by show ((i.val * 1 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 4) (j : Fin 1) (r : Fin 1024) (s : Fin 512) : (dats m 0 c).after 2 (pt i j 1) (ix2 r s) = prod (aA m c) (bA m c) ⟨i.val * 1024 + r.val, by omega⟩ ⟨j.val * 512 + s.val, by omega⟩ := by
  have h0 : (pt i j 1).val % 2 = 1 := by show ((i.val * 1 + j.val) * 2 + 1) % 2 = 1; omega
  rw [after0_2, outsAt0_B m c (pt i j 1) (by omega) (by omega) (by omega)]
  frame_out
  simp only [read_unread_whole]
  refine (p2 _ _ _ r s).trans (Eq.trans (congrArg₂ (· + ·) ?_ (step_eq m c i j 1 r s)) (prod_eq m c _ _).symm)
  exact (congrArg (fun z => z.2 (ix2 r s)) (same m c _ (pt i j 0).isLt (by show (i.val * 1 + j.val) * 2 + 1 - 1 = (i.val * 1 + j.val) * 2 + 0; omega))).trans (acc0 m c i j r s)

/-- The array after the run. -/
theorem final : (dats m 0 c).arrAt 2 cfg0.N = Cert.Reference12Ideal.Read.val_main_v6 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 1 + j.val) * 2 + k.val) % 2 = 1 := hk
    exact Fin.ext (show k.val = 1 by omega)
  have hi := (ix i j 1).2.2
  blk_simp
  refine (congrArg _ (ValueIdx.eq_ix2 (n0 := 1024) (n1 := 512) y)).trans ((out_at m c i j (y 0) (y 1)).trans ((ref (aA m c) (bA m c) _ _).symm.trans (congrArg _ ?_)))
  blk_ext [hi]

end Cert.Mm12
-- ==== Proof.Mm13.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

/-! The first half of the input projection's weight gradient: the array the pipelined product leaves is the reference's. -/

namespace Cert.Mm13

open Idealize.ShloMosaic Idealize.ShloMosaic.TcCoe
open Cert.Kernel13Ideal Cert.Kernel13Ideal.Gen

/-- The two operands, as a row and a column of the product see them. -/
abbrev aE (a : Vec Ideal S4096x2048 .bf16) (r : Fin 1024) (k : Fin 4096) : EReal := a (ix2 k ⟨r.val, by omega⟩)
abbrev bE (b : Vec Ideal S4096x8192 .bf16) (k : Fin 4096) (s : Fin 8192) : EReal := b (ix2 k s)

/-- One entry of the product. -/
def prod (a : Vec Ideal S4096x2048 .bf16) (b : Vec Ideal S4096x8192 .bf16) (r : Fin 1024) (s : Fin 8192) : EReal :=
  ∑ k : Fin 4096, aE a r k * bE b k s

section ref
open Cert.Reference13Ideal.Read
/-- The reference's entry. -/
theorem ref (a : Vec Ideal S4096x2048 .bf16) (b : Vec Ideal S4096x8192 .bf16) (r : Fin 1024) (s : Fin 8192) : val_main_v8 (F := Ideal) a b (ix2 r s) = prod a b r s := by
  pointwise [val_main_v8, val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S4096x8192 .bf16 := m ((c : Thread nD τ).loc main_arg1)
/-- The blocks a point reads. -/
abbrev aB (t : Fin cfg0.N) : Vec Ideal S2048x1024 .bf16 := iblk (F := Ideal) m c 0 t
abbrev bB (t : Fin cfg0.N) : Vec Ideal S2048x1024 .bf16 := iblk (F := Ideal) m c 1 t

/-- A block's product, one entry. -/
theorem p1 (x : Vec Ideal S2048x1024 .bf16) (y : Vec Ideal S2048x1024 .bf16) (r : Fin 1024) (s : Fin 1024) :
    k0_pay1 (F := Ideal) x y (ix2 r s) = ∑ k : Fin 2048, x (ix2 k r) * y (ix2 k s) := by
  pointwise [k0_pay1]
theorem p2 (z : Vec Ideal S1024x1024 .f32) (x : Vec Ideal S2048x1024 .bf16) (y : Vec Ideal S2048x1024 .bf16) (r : Fin 1024) (s : Fin 1024) :
    k0_pay2 (F := Ideal) z x y (ix2 r s) = z (ix2 r s) + ∑ k : Fin 2048, x (ix2 k r) * y (ix2 k s) := by
  pointwise [k0_pay2]
theorem p3 (z : Vec Ideal S1024x1024 .f32) (r : Fin 1024) (s : Fin 1024) :
    k0_pay3 (F := Ideal) z (ix2 r s) = z (ix2 r s) := by
  pointwise [k0_pay3]

/-- The point of block row `i`, block column `j` and step `k`. -/
abbrev pt (i : Fin 1) (j : Fin 8) (k : Fin 2) : Fin cfg0.N := ⟨(i.val * 8 + j.val) * 2 + k.val, by have e : cfg0.N = 16 := N_0; omega⟩

/-- Where each window's block lies at each point. -/
theorem ix : ∀ (i : Fin 1) (j : Fin 8) (k : Fin 2), win0_0.index (pt i j k) = ![k.val, i.val] ∧ win0_1.index (pt i j k) = ![k.val, j.val] ∧ win0_2.index (pt i j k) = ![i.val, j.val] := by
  decide +kernel

theorem pt_split (t : Fin cfg0.N) : ∃ (i : Fin 1) (j : Fin 8) (k : Fin 2), t = pt i j k := by
  have e : cfg0.N = 16 := N_0
  have ht := t.isLt
  exact ⟨⟨t.val / 16, by omega⟩, ⟨t.val / 2 % 8, by omega⟩, ⟨t.val % 2, by omega⟩, Fin.ext (by dsimp only; omega)⟩

section blocks
variable (i : Fin 1) (j : Fin 8) (k : Fin 2)
/-- The operands' blocks. -/
theorem blk0 (q : Fin 2048) (r : Fin 1024) : iblk (F := Ideal) m c 0 (pt i j k) (ix2 q r) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 2) (r : Fin 1024) (s : Fin 8192) : EReal :=
  ∑ q : Fin 2048, aE (aA m c) r ⟨k.val * 2048 + q.val, by omega⟩ * bE (bA m c) ⟨k.val * 2048 + q.val, by omega⟩ s

theorem step_eq (i : Fin 1) (j : Fin 8) (k : Fin 2) (r : Fin 1024) (s : Fin 1024) :
    (∑ q : Fin 2048, aB m c (pt i j k) (ix2 q r) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 1024) (s : Fin 8192) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 1) (j : Fin 8) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 2 = 0 := by show ((i.val * 8 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 1) (j : Fin 8) (r : Fin 1024) (s : Fin 1024) : (dats m 0 c).after 2 (pt i j 1) (ix2 r s) = prod (aA m c) (bA m c) ⟨i.val * 1024 + r.val, by omega⟩ ⟨j.val * 1024 + s.val, by omega⟩ := by
  have h0 : (pt i j 1).val % 2 = 1 := by show ((i.val * 8 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 8 + j.val) * 2 + 1 - 1 = (i.val * 8 + j.val) * 2 + 0; omega))).trans (acc0 m c i j r s)

/-- The array after the run. -/
theorem final : (dats m 0 c).arrAt 2 cfg0.N = Cert.Reference13Ideal.Read.val_main_v8 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 8 + j.val) * 2 + k.val) % 2 = 1 := hk
    exact Fin.ext (show k.val = 1 by omega)
  have hi := (ix i j 1).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm13
-- ==== Proof.Mm14.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack

@[expose] public section

set_option maxRecDepth 16384

noncomputable section

/-! The second half of the input projection's weight gradient: the array the pipelined product leaves is the reference's. -/

namespace Cert.Mm14

open Idealize.ShloMosaic Idealize.ShloMosaic.TcCoe
open Cert.Kernel14Ideal Cert.Kernel14Ideal.Gen

/-- The two operands, as a row and a column of the product see them. -/
abbrev aE (a : Vec Ideal S4096x2048 .bf16) (r : Fin 1024) (k : Fin 4096) : EReal := a (ix2 k ⟨1024 + r.val, by omega⟩)
abbrev bE (b : Vec Ideal S4096x8192 .bf16) (k : Fin 4096) (s : Fin 8192) : EReal := b (ix2 k s)

/-- One entry of the product. -/
def prod (a : Vec Ideal S4096x2048 .bf16) (b : Vec Ideal S4096x8192 .bf16) (r : Fin 1024) (s : Fin 8192) : EReal :=
  ∑ k : Fin 4096, aE a r k * bE b k s

section ref
open Cert.Reference14Ideal.Read
/-- The reference's entry. -/
theorem ref (a : Vec Ideal S4096x2048 .bf16) (b : Vec Ideal S4096x8192 .bf16) (r : Fin 1024) (s : Fin 8192) : val_main_v8 (F := Ideal) a b (ix2 r s) = prod a b r s := by
  pointwise [val_main_v8, val_main_v7, val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S4096x8192 .bf16 := m ((c : Thread nD τ).loc main_arg1)
/-- The blocks a point reads. -/
abbrev aB (t : Fin cfg0.N) : Vec Ideal S2048x1024 .bf16 := iblk (F := Ideal) m c 0 t
abbrev bB (t : Fin cfg0.N) : Vec Ideal S2048x1024 .bf16 := iblk (F := Ideal) m c 1 t

/-- A block's product, one entry. -/
theorem p1 (x : Vec Ideal S2048x1024 .bf16) (y : Vec Ideal S2048x1024 .bf16) (r : Fin 1024) (s : Fin 1024) :
    k0_pay1 (F := Ideal) x y (ix2 r s) = ∑ k : Fin 2048, x (ix2 k r) * y (ix2 k s) := by
  pointwise [k0_pay1]
theorem p2 (z : Vec Ideal S1024x1024 .f32) (x : Vec Ideal S2048x1024 .bf16) (y : Vec Ideal S2048x1024 .bf16) (r : Fin 1024) (s : Fin 1024) :
    k0_pay2 (F := Ideal) z x y (ix2 r s) = z (ix2 r s) + ∑ k : Fin 2048, x (ix2 k r) * y (ix2 k s) := by
  pointwise [k0_pay2]
theorem p3 (z : Vec Ideal S1024x1024 .f32) (r : Fin 1024) (s : Fin 1024) :
    k0_pay3 (F := Ideal) z (ix2 r s) = z (ix2 r s) := by
  pointwise [k0_pay3]

/-- The point of block row `i`, block column `j` and step `k`. -/
abbrev pt (i : Fin 1) (j : Fin 8) (k : Fin 2) : Fin cfg0.N := ⟨(i.val * 8 + j.val) * 2 + k.val, by have e : cfg0.N = 16 := N_0; omega⟩

/-- Where each window's block lies at each point. -/
theorem ix : ∀ (i : Fin 1) (j : Fin 8) (k : Fin 2), win0_0.index (pt i j k) = ![k.val, i.val + 1] ∧ win0_1.index (pt i j k) = ![k.val, j.val] ∧ win0_2.index (pt i j k) = ![i.val, j.val] := by
  decide +kernel

theorem pt_split (t : Fin cfg0.N) : ∃ (i : Fin 1) (j : Fin 8) (k : Fin 2), t = pt i j k := by
  have e : cfg0.N = 16 := N_0
  have ht := t.isLt
  exact ⟨⟨t.val / 16, by omega⟩, ⟨t.val / 2 % 8, by omega⟩, ⟨t.val % 2, by omega⟩, Fin.ext (by dsimp only; omega)⟩

section blocks
variable (i : Fin 1) (j : Fin 8) (k : Fin 2)
/-- The operands' blocks. -/
theorem blk0 (q : Fin 2048) (r : Fin 1024) : iblk (F := Ideal) m c 0 (pt i j k) (ix2 q r) = aE (aA m c) ⟨i.val * 1024 + r.val, by omega⟩ ⟨k.val * 2048 + q.val, by omega⟩ := by
  have hi := (ix i j k).1
  have e : iblk (F := Ideal) m c 0 (pt i j k) (ix2 q r) = aA m c (ix2 ⟨k.val * 2048 + q.val, by omega⟩ ⟨(i.val + 1) * 1024 + r.val, by omega⟩) := by
    blk_point [iblk, V, hi]
  have e1 : 1024 + (i.val * 1024 + r.val) = (i.val + 1) * 1024 + r.val := by omega
  rw [e]
  simp only [aE, e1]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 2) (r : Fin 1024) (s : Fin 8192) : EReal :=
  ∑ q : Fin 2048, aE (aA m c) r ⟨k.val * 2048 + q.val, by omega⟩ * bE (bA m c) ⟨k.val * 2048 + q.val, by omega⟩ s

theorem step_eq (i : Fin 1) (j : Fin 8) (k : Fin 2) (r : Fin 1024) (s : Fin 1024) :
    (∑ q : Fin 2048, aB m c (pt i j k) (ix2 q r) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 1024) (s : Fin 8192) : prod (aA m c) (bA m c) r s = part m c 0 r s + part m c 1 r s :=
  (Fin.sum_mul_add_fin 2 2048 (fun k : Fin 4096 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 1) (j : Fin 8) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 2 = 0 := by show ((i.val * 8 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 1) (j : Fin 8) (r : Fin 1024) (s : Fin 1024) : (dats m 0 c).after 2 (pt i j 1) (ix2 r s) = prod (aA m c) (bA m c) ⟨i.val * 1024 + r.val, by omega⟩ ⟨j.val * 1024 + s.val, by omega⟩ := by
  have h0 : (pt i j 1).val % 2 = 1 := by show ((i.val * 8 + j.val) * 2 + 1) % 2 = 1; omega
  rw [after0_2, outsAt0_B m c (pt i j 1) (by omega) (by omega) (by omega)]
  frame_out
  simp only [read_unread_whole]
  refine (p3 _ r s).trans ((p2 _ _ _ r s).trans (Eq.trans (congrArg₂ (· + ·) ?_ (step_eq m c i j 1 r s)) (prod_eq m c _ _).symm))
  exact (congrArg (fun z => z.2 (ix2 r s)) (same m c _ (pt i j 0).isLt (by show (i.val * 8 + j.val) * 2 + 1 - 1 = (i.val * 8 + j.val) * 2 + 0; omega))).trans (acc0 m c i j r s)

/-- The array after the run. -/
theorem final : (dats m 0 c).arrAt 2 cfg0.N = Cert.Reference14Ideal.Read.val_main_v8 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 8 + j.val) * 2 + k.val) % 2 = 1 := hk
    exact Fin.ext (show k.val = 1 by omega)
  have hi := (ix i j 1).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm14
-- ==== Proof.Mm15.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

/-! The input projection's input gradient: the array the pipelined product leaves is the reference's. -/

namespace Cert.Mm15

open Idealize.ShloMosaic Idealize.ShloMosaic.TcCoe
open Cert.Kernel15Ideal Cert.Kernel15Ideal.Gen

/-- The two operands, as a row and a column of the product see them. -/
abbrev aE (a : Vec Ideal S4096x8192 .bf16) (r : Fin 4096) (k : Fin 8192) : EReal := a (ix2 r k)
abbrev bE (b : Vec Ideal S2048x8192 .bf16) (k : Fin 8192) (s : Fin 2048) : EReal := b (ix2 s k)

/-- One entry of the product. -/
def prod (a : Vec Ideal S4096x8192 .bf16) (b : Vec Ideal S2048x8192 .bf16) (r : Fin 4096) (s : Fin 2048) : EReal :=
  ∑ k : Fin 8192, aE a r k * bE b k s

section ref
open Cert.Reference15Ideal.Read
/-- The reference's entry. -/
theorem ref (a : Vec Ideal S4096x8192 .bf16) (b : Vec Ideal S2048x8192 .bf16) (r : Fin 4096) (s : Fin 2048) : val_main_v6 (F := Ideal) a b (ix2 r s) = prod a b r s := by
  pointwise [val_main_v6, val_main_v5, val_main_v4, val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x8192 .bf16 := m ((c : Thread nD τ).loc main_arg0)
abbrev bA : Vec Ideal S2048x8192 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S1024x2048 .bf16 := iblk (F := Ideal) m c 1 t

/-- A block's product, one entry. -/
theorem p1 (x : Vec Ideal S1024x2048 .bf16) (y : Vec Ideal S1024x2048 .bf16) (r : Fin 1024) (s : Fin 1024) :
    k0_pay1 (F := Ideal) x y (ix2 r s) = ∑ k : Fin 2048, x (ix2 r k) * y (ix2 s k) := by
  pointwise [k0_pay1]
theorem p2 (z : Vec Ideal S1024x1024 .f32) (x : Vec Ideal S1024x2048 .bf16) (y : Vec Ideal S1024x2048 .bf16) (r : Fin 1024) (s : Fin 1024) :
    k0_pay2 (F := Ideal) z x y (ix2 r s) = z (ix2 r s) + ∑ k : Fin 2048, x (ix2 r k) * y (ix2 s k) := by
  pointwise [k0_pay2]

/-- The point of block row `i`, block column `j` and step `k`. -/
abbrev pt (i : Fin 4) (j : Fin 2) (k : Fin 4) : Fin cfg0.N := ⟨(i.val * 2 + j.val) * 4 + k.val, by have e : cfg0.N = 32 := N_0; omega⟩

/-- Where each window's block lies at each point. -/
theorem ix : ∀ (i : Fin 4) (j : Fin 2) (k : Fin 4), win0_0.index (pt i j k) = ![i.val, k.val] ∧ win0_1.index (pt i j k) = ![j.val, k.val] ∧ win0_2.index (pt i j k) = ![i.val, j.val] := by
  decide +kernel

theorem pt_split (t : Fin cfg0.N) : ∃ (i : Fin 4) (j : Fin 2) (k : Fin 4), t = pt i j k := by
  have e : cfg0.N = 32 := N_0
  have ht := t.isLt
  exact ⟨⟨t.val / 8, by omega⟩, ⟨t.val / 4 % 2, by omega⟩, ⟨t.val % 4, by omega⟩, Fin.ext (by dsimp only; omega)⟩

section blocks
variable (i : Fin 4) (j : Fin 2) (k : Fin 4)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 s q) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 4) (r : Fin 4096) (s : Fin 2048) : EReal :=
  ∑ q : Fin 2048, aE (aA m c) r ⟨k.val * 2048 + q.val, by omega⟩ * bE (bA m c) ⟨k.val * 2048 + q.val, by omega⟩ s

theorem step_eq (i : Fin 4) (j : Fin 2) (k : Fin 4) (r : Fin 1024) (s : Fin 1024) :
    (∑ q : Fin 2048, aB m c (pt i j k) (ix2 r q) * bB m c (pt i j k) (ix2 s q))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 2048) : prod (aA m c) (bA m c) r s = part m c 0 r s + part m c 1 r s + part m c 2 r s + part m c 3 r s :=
  (Fin.sum_mul_add_fin 4 2048 (fun k : Fin 8192 => aE (aA m c) r k * bE (bA m c) k s)).symm.trans (Fin.sum_univ_four (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 4) (j : Fin 2) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 4 = 0 := by show ((i.val * 2 + j.val) * 4 + 0) % 4 = 0; omega
  rw [outsAt0_A m c (pt i j 0) h0 (by omega) (by omega)]
  frame_out
  exact (p1 _ _ r s).trans (step_eq m c i j 0 r s)
theorem acc1 (i : Fin 4) (j : Fin 2) (r : Fin 1024) (s : Fin 1024) : (outsAt0 m c (pt i j 1).val (pt i j 1).isLt).2 (ix2 r s) = part m c 0 ⟨i.val * 1024 + r.val, by omega⟩ ⟨j.val * 1024 + s.val, by omega⟩ + part m c 1 ⟨i.val * 1024 + r.val, by omega⟩ ⟨j.val * 1024 + s.val, by omega⟩ := by
  have h0 : (pt i j 1).val % 4 = 1 := by show ((i.val * 2 + j.val) * 4 + 1) % 4 = 1; omega
  rw [outsAt0_B m c (pt i j 1) (by omega) (by omega) (by omega)]
  frame_out
  simp only [read_unread_whole]
  refine (p2 _ _ _ r s).trans (congrArg₂ (· + ·) ?_ (step_eq m c i j 1 r s))
  exact (congrArg (fun z => z.2 (ix2 r s)) (same m c _ (pt i j 0).isLt (by show (i.val * 2 + j.val) * 4 + 1 - 1 = (i.val * 2 + j.val) * 4 + 0; omega))).trans (acc0 m c i j r s)
theorem acc2 (i : Fin 4) (j : Fin 2) (r : Fin 1024) (s : Fin 1024) : (outsAt0 m c (pt i j 2).val (pt i j 2).isLt).2 (ix2 r s) = part m c 0 ⟨i.val * 1024 + r.val, by omega⟩ ⟨j.val * 1024 + s.val, by omega⟩ + part m c 1 ⟨i.val * 1024 + r.val, by omega⟩ ⟨j.val * 1024 + s.val, by omega⟩ + part m c 2 ⟨i.val * 1024 + r.val, by omega⟩ ⟨j.val * 1024 + s.val, by omega⟩ := by
  have h0 : (pt i j 2).val % 4 = 2 := by show ((i.val * 2 + j.val) * 4 + 2) % 4 = 2; omega
  rw [outsAt0_B m c (pt i j 2) (by omega) (by omega) (by omega)]
  frame_out
  simp only [read_unread_whole]
  refine (p2 _ _ _ r s).trans (congrArg₂ (· + ·) ?_ (step_eq m c i j 2 r s))
  exact (congrArg (fun z => z.2 (ix2 r s)) (same m c _ (pt i j 1).isLt (by show (i.val * 2 + j.val) * 4 + 2 - 1 = (i.val * 2 + j.val) * 4 + 1; omega))).trans (acc1 m c i j r s)
/-- What a block's last step leaves in the result's block. -/
theorem out_at (i : Fin 4) (j : Fin 2) (r : Fin 1024) (s : Fin 1024) : (dats m 0 c).after 2 (pt i j 3) (ix2 r s) = prod (aA m c) (bA m c) ⟨i.val * 1024 + r.val, by omega⟩ ⟨j.val * 1024 + s.val, by omega⟩ := by
  have h0 : (pt i j 3).val % 4 = 3 := by show ((i.val * 2 + j.val) * 4 + 3) % 4 = 3; omega
  rw [after0_2, outsAt0_C m c (pt i j 3) (by omega) (by omega) (by omega)]
  frame_out
  simp only [read_unread_whole]
  refine (p2 _ _ _ r s).trans (Eq.trans (congrArg₂ (· + ·) ?_ (step_eq m c i j 3 r s)) (prod_eq m c _ _).symm)
  exact (congrArg (fun z => z.2 (ix2 r s)) (same m c _ (pt i j 2).isLt (by show (i.val * 2 + j.val) * 4 + 3 - 1 = (i.val * 2 + j.val) * 4 + 2; omega))).trans (acc2 m c i j r s)

/-- The array after the run. -/
theorem final : (dats m 0 c).arrAt 2 cfg0.N = Cert.Reference15Ideal.Read.val_main_v6 (F := Ideal) (aA m c) (bA m c) := by
  refine (dats m 0 c).arrAt_eq_of_covers 2 _ (by decide +kernel) fun t hf y => ?_
  have hk : t.val % 4 = 3 := (flush0_2 t).1 hf
  obtain ⟨i, j, k, rfl⟩ := pt_split t
  obtain rfl : k = 3 := by
    have e : ((i.val * 2 + j.val) * 4 + k.val) % 4 = 3 := hk
    exact Fin.ext (show k.val = 3 by omega)
  have hi := (ix i j 3).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm15
-- ==== Proof.Mm16.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

/-! The input projection: the array the pipelined product leaves is the reference's. -/

namespace Cert.Mm16

open Idealize.ShloMosaic Idealize.ShloMosaic.TcCoe
open Cert.Kernel16Ideal Cert.Kernel16Ideal.Gen

/-- The two operands, as a row and a column of the product see them. -/
abbrev aE (a : Vec Ideal S4096x2048 .bf16) (r : Fin 4096) (k : Fin 2048) : EReal := a (ix2 r k)
abbrev bE (b : Vec Ideal S2048x8192 .bf16) (k : Fin 2048) (s : Fin 8192) : EReal := b (ix2 k s)

/-- One entry of the product. -/
def prod (a : Vec Ideal S4096x2048 .bf16) (b : Vec Ideal S2048x8192 .bf16) (r : Fin 4096) (s : Fin 8192) : EReal :=
  ∑ k : Fin 2048, aE a r k * bE b k s

section ref
open Cert.Reference16Ideal.Read
/-- The reference's entry. -/
theorem ref (a : Vec Ideal S4096x2048 .bf16) (b : Vec Ideal S2048x8192 .bf16) (r : Fin 4096) (s : Fin 8192) : val_main_v3 (F := Ideal) a b (ix2 r s) = prod a b r s := by
  pointwise [val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S2048x8192 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S2048x1024 .bf16 := iblk (F := Ideal) m c 1 t

/-- A block's product, one entry. -/
theorem p1 (x : Vec Ideal S1024x2048 .bf16) (y : Vec Ideal S2048x1024 .bf16) (r : Fin 1024) (s : Fin 1024) :
    k0_pay1 (F := Ideal) x y (ix2 r s) = ∑ k : Fin 2048, x (ix2 r k) * y (ix2 k s) := by
  pointwise [k0_pay1]

/-- The point of block row `i`, block column `j` and step `k`. -/
abbrev pt (i : Fin 4) (j : Fin 8) (k : Fin 1) : Fin cfg0.N := ⟨(i.val * 8 + j.val) * 1 + k.val, by have e : cfg0.N = 32 := N_0; omega⟩

/-- Where each window's block lies at each point. -/
theorem ix : ∀ (i : Fin 4) (j : Fin 8) (k : Fin 1), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 8) (k : Fin 1), t = pt i j k := by
  have e : cfg0.N = 32 := N_0
  have ht := t.isLt
  exact ⟨⟨t.val / 8, by omega⟩, ⟨t.val / 1 % 8, by omega⟩, ⟨t.val % 1, by omega⟩, Fin.ext (by dsimp only; omega)⟩

section blocks
variable (i : Fin 4) (j : Fin 8) (k : Fin 1)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 8192) : EReal :=
  ∑ q : Fin 2048, aE (aA m c) r ⟨k.val * 2048 + q.val, by omega⟩ * bE (bA m c) ⟨k.val * 2048 + q.val, by omega⟩ s

theorem step_eq (i : Fin 4) (j : Fin 8) (k : Fin 1) (r : Fin 1024) (s : Fin 1024) :
    (∑ q : Fin 2048, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 8192) : prod (aA m c) (bA m c) r s = part m c 0 r s :=
  (Fin.sum_mul_add_fin 1 2048 (fun k : Fin 2048 => aE (aA m c) r k * bE (bA m c) k s)).symm.trans (Fin.sum_univ_one (fun k => part m c k r s))

/-- What the point leaves in the result's block. -/
theorem out_at (i : Fin 4) (j : Fin 8) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference16Ideal.Read.val_main_v3 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm16
-- ==== Proof.Mm17.lean ====
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

/-! The query up-projection: the array the pipelined product leaves is the reference's. -/

namespace Cert.Mm17

open Idealize.ShloMosaic Idealize.ShloMosaic.TcCoe
open Cert.Kernel17Ideal Cert.Kernel17Ideal.Gen

/-- The two operands, as a row and a column of the product see them. -/
abbrev aE (a : Vec Ideal S4096x768 .bf16) (r : Fin 4096) (k : Fin 768) : EReal := a (ix2 r k)
abbrev bE (b : Vec Ideal S768x4096 .bf16) (k : Fin 768) (s : Fin 4096) : EReal := b (ix2 k s)

/-- One entry of the product. -/
def prod (a : Vec Ideal S4096x768 .bf16) (b : Vec Ideal S768x4096 .bf16) (r : Fin 4096) (s : Fin 4096) : EReal :=
  ∑ k : Fin 768, aE a r k * bE b k s

section ref
open Cert.Reference17Ideal.Read
/-- The reference's entry. -/
theorem ref (a : Vec Ideal S4096x768 .bf16) (b : Vec Ideal S768x4096 .bf16) (r : Fin 4096) (s : Fin 4096) : val_main_v3 (F := Ideal) a b (ix2 r s) = prod a b r s := by
  pointwise [val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x768 .bf16 := m ((c : Thread nD τ).loc main_arg0)
abbrev bA : Vec Ideal S768x4096 .bf16 := m ((c : Thread nD τ).loc main_arg1)
/-- The blocks a point reads. -/
abbrev aB (t : Fin cfg0.N) : Vec Ideal S1024x768 .bf16 := iblk (F := Ideal) m c 0 t
abbrev bB (t : Fin cfg0.N) : Vec Ideal S768x1024 .bf16 := iblk (F := Ideal) m c 1 t

/-- A block's product, one entry. -/
theorem p1 (x : Vec Ideal S1024x768 .bf16) (y : Vec Ideal S768x1024 .bf16) (r : Fin 1024) (s : Fin 1024) :
    k0_pay1 (F := Ideal) x y (ix2 r s) = ∑ k : Fin 768, x (ix2 r k) * y (ix2 k s) := by
  pointwise [k0_pay1]

/-- The point of block row `i`, block column `j` and step `k`. -/
abbrev pt (i : Fin 4) (j : Fin 4) (k : Fin 1) : Fin cfg0.N := ⟨(i.val * 4 + j.val) * 1 + k.val, by have e : cfg0.N = 16 := N_0; omega⟩

/-- Where each window's block lies at each point. -/
theorem ix : ∀ (i : Fin 4) (j : Fin 4) (k : Fin 1), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 4) (k : Fin 1), t = pt i j k := by
  have e : cfg0.N = 16 := N_0
  have ht := t.isLt
  exact ⟨⟨t.val / 4, by omega⟩, ⟨t.val / 1 % 4, by omega⟩, ⟨t.val % 1, by omega⟩, Fin.ext (by dsimp only; omega)⟩

section blocks
variable (i : Fin 4) (j : Fin 4) (k : Fin 1)
/-- The operands' blocks. -/
theorem blk0 (q : Fin 768) (r : Fin 1024) : iblk (F := Ideal) m c 0 (pt i j k) (ix2 r q) = aE (aA m c) ⟨i.val * 1024 + r.val, by omega⟩ ⟨k.val * 768 + q.val, by omega⟩ := by
  have hi := (ix i j k).1
  unfold aE
  blk_point [iblk, V, hi]
theorem blk1 (q : Fin 768) (s : Fin 1024) : iblk (F := Ideal) m c 1 (pt i j k) (ix2 q s) = bE (bA m c) ⟨k.val * 768 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 4096) : EReal :=
  ∑ q : Fin 768, aE (aA m c) r ⟨k.val * 768 + q.val, by omega⟩ * bE (bA m c) ⟨k.val * 768 + q.val, by omega⟩ s

theorem step_eq (i : Fin 4) (j : Fin 4) (k : Fin 1) (r : Fin 1024) (s : Fin 1024) :
    (∑ q : Fin 768, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 4096) : prod (aA m c) (bA m c) r s = part m c 0 r s :=
  (Fin.sum_mul_add_fin 1 768 (fun k : Fin 768 => aE (aA m c) r k * bE (bA m c) k s)).symm.trans (Fin.sum_univ_one (fun k => part m c k r s))

/-- What the point leaves in the result's block. -/
theorem out_at (i : Fin 4) (j : Fin 4) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference17Ideal.Read.val_main_v3 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm17
-- ==== Proof.Mm18.lean ====
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

/-! The key and value up-projection: the array the pipelined product leaves is the reference's. -/

namespace Cert.Mm18

open Idealize.ShloMosaic Idealize.ShloMosaic.TcCoe
open Cert.Kernel18Ideal Cert.Kernel18Ideal.Gen

/-- The two operands, as a row and a column of the product see them. -/
abbrev aE (a : Vec Ideal S4096x512 .bf16) (r : Fin 4096) (k : Fin 512) : EReal := a (ix2 r k)
abbrev bE (b : Vec Ideal S512x4096 .bf16) (k : Fin 512) (s : Fin 4096) : EReal := b (ix2 k s)

/-- One entry of the product. -/
def prod (a : Vec Ideal S4096x512 .bf16) (b : Vec Ideal S512x4096 .bf16) (r : Fin 4096) (s : Fin 4096) : EReal :=
  ∑ k : Fin 512, aE a r k * bE b k s

section ref
open Cert.Reference18Ideal.Read
/-- The reference's entry. -/
theorem ref (a : Vec Ideal S4096x512 .bf16) (b : Vec Ideal S512x4096 .bf16) (r : Fin 4096) (s : Fin 4096) : val_main_v3 (F := Ideal) a b (ix2 r s) = prod a b r s := by
  pointwise [val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x512 .bf16 := m ((c : Thread nD τ).loc main_arg0)
abbrev bA : Vec Ideal S512x4096 .bf16 := m ((c : Thread nD τ).loc main_arg1)
/-- The blocks a point reads. -/
abbrev aB (t : Fin cfg0.N) : Vec Ideal S1024x512 .bf16 := iblk (F := Ideal) m c 0 t
abbrev bB (t : Fin cfg0.N) : Vec Ideal S512x1024 .bf16 := iblk (F := Ideal) m c 1 t

/-- A block's product, one entry. -/
theorem p1 (x : Vec Ideal S1024x512 .bf16) (y : Vec Ideal S512x1024 .bf16) (r : Fin 1024) (s : Fin 1024) :
    k0_pay1 (F := Ideal) x y (ix2 r s) = ∑ k : Fin 512, x (ix2 r k) * y (ix2 k s) := by
  pointwise [k0_pay1]

/-- The point of block row `i`, block column `j` and step `k`. -/
abbrev pt (i : Fin 4) (j : Fin 4) (k : Fin 1) : Fin cfg0.N := ⟨(i.val * 4 + j.val) * 1 + k.val, by have e : cfg0.N = 16 := N_0; omega⟩

/-- Where each window's block lies at each point. -/
theorem ix : ∀ (i : Fin 4) (j : Fin 4) (k : Fin 1), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 4) (k : Fin 1), t = pt i j k := by
  have e : cfg0.N = 16 := N_0
  have ht := t.isLt
  exact ⟨⟨t.val / 4, by omega⟩, ⟨t.val / 1 % 4, by omega⟩, ⟨t.val % 1, by omega⟩, Fin.ext (by dsimp only; omega)⟩

section blocks
variable (i : Fin 4) (j : Fin 4) (k : Fin 1)
/-- The operands' blocks. -/
theorem blk0 (q : Fin 512) (r : Fin 1024) : iblk (F := Ideal) m c 0 (pt i j k) (ix2 r q) = aE (aA m c) ⟨i.val * 1024 + r.val, by omega⟩ ⟨k.val * 512 + q.val, by omega⟩ := by
  have hi := (ix i j k).1
  unfold aE
  blk_point [iblk, V, hi]
theorem blk1 (q : Fin 512) (s : Fin 1024) : iblk (F := Ideal) m c 1 (pt i j k) (ix2 q s) = bE (bA m c) ⟨k.val * 512 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 4096) : EReal :=
  ∑ q : Fin 512, aE (aA m c) r ⟨k.val * 512 + q.val, by omega⟩ * bE (bA m c) ⟨k.val * 512 + q.val, by omega⟩ s

theorem step_eq (i : Fin 4) (j : Fin 4) (k : Fin 1) (r : Fin 1024) (s : Fin 1024) :
    (∑ q : Fin 512, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 4096) : prod (aA m c) (bA m c) r s = part m c 0 r s :=
  (Fin.sum_mul_add_fin 1 512 (fun k : Fin 512 => aE (aA m c) r k * bE (bA m c) k s)).symm.trans (Fin.sum_univ_one (fun k => part m c k r s))

/-- What the point leaves in the result's block. -/
theorem out_at (i : Fin 4) (j : Fin 4) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference18Ideal.Read.val_main_v3 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm18
-- ==== Proof.Mm19.lean ====
module

public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

/-! The output projection: the array the pipelined product leaves is the reference's. -/

namespace Cert.Mm19

open Idealize.ShloMosaic Idealize.ShloMosaic.TcCoe
open Cert.Kernel19Ideal Cert.Kernel19Ideal.Gen

/-- The two operands, as a row and a column of the product see them. -/
abbrev aE (a : Vec Ideal S4096x2048 .bf16) (r : Fin 4096) (k : Fin 2048) : EReal := a (ix2 r k)
abbrev bE (b : Vec Ideal S2048x2048 .bf16) (k : Fin 2048) (s : Fin 2048) : EReal := b (ix2 k s)

/-- One entry of the product. -/
def prod (a : Vec Ideal S4096x2048 .bf16) (b : Vec Ideal S2048x2048 .bf16) (r : Fin 4096) (s : Fin 2048) : EReal :=
  ∑ k : Fin 2048, aE a r k * bE b k s

section ref
open Cert.Reference19Ideal.Read
/-- The reference's entry. -/
theorem ref (a : Vec Ideal S4096x2048 .bf16) (b : Vec Ideal S2048x2048 .bf16) (r : Fin 4096) (s : Fin 2048) : val_main_v2 (F := Ideal) a b (ix2 r s) = prod a b r s := by
  pointwise [val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S2048x2048 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S2048x1024 .bf16 := iblk (F := Ideal) m c 1 t

/-- A block's product, one entry. -/
theorem p1 (x : Vec Ideal S1024x2048 .bf16) (y : Vec Ideal S2048x1024 .bf16) (r : Fin 1024) (s : Fin 1024) :
    k0_pay1 (F := Ideal) x y (ix2 r s) = ∑ k : Fin 2048, x (ix2 r k) * y (ix2 k s) := by
  pointwise [k0_pay1]

/-- The point of block row `i`, block column `j` and step `k`. -/
abbrev pt (i : Fin 4) (j : Fin 2) (k : Fin 1) : Fin cfg0.N := ⟨(i.val * 2 + j.val) * 1 + k.val, by have e : cfg0.N = 8 := N_0; omega⟩

/-- Where each window's block lies at each point. -/
theorem ix : ∀ (i : Fin 4) (j : Fin 2) (k : Fin 1), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 2) (k : Fin 1), t = pt i j k := by
  have e : cfg0.N = 8 := N_0
  have ht := t.isLt
  exact ⟨⟨t.val / 2, by omega⟩, ⟨t.val / 1 % 2, by omega⟩, ⟨t.val % 1, by omega⟩, Fin.ext (by dsimp only; omega)⟩

section blocks
variable (i : Fin 4) (j : Fin 2) (k : Fin 1)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 2048) : EReal :=
  ∑ q : Fin 2048, aE (aA m c) r ⟨k.val * 2048 + q.val, by omega⟩ * bE (bA m c) ⟨k.val * 2048 + q.val, by omega⟩ s

theorem step_eq (i : Fin 4) (j : Fin 2) (k : Fin 1) (r : Fin 1024) (s : Fin 1024) :
    (∑ q : Fin 2048, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 2048) : prod (aA m c) (bA m c) r s = part m c 0 r s :=
  (Fin.sum_mul_add_fin 1 2048 (fun k : Fin 2048 => aE (aA m c) r k * bE (bA m c) k s)).symm.trans (Fin.sum_univ_one (fun k => part m c k r s))

/-- What the point leaves in the result's block. -/
theorem out_at (i : Fin 4) (j : Fin 2) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference19Ideal.Read.val_main_v2 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm19
-- ==== Proof.Mm20.lean ====
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack

@[expose] public section

set_option maxRecDepth 16384

noncomputable section

/-! The up and gate projection: the array the pipelined product leaves is the reference's. -/

namespace Cert.Mm20

open Idealize.ShloMosaic Idealize.ShloMosaic.TcCoe
open Cert.Kernel20Ideal Cert.Kernel20Ideal.Gen

/-- The two operands, as a row and a column of the product see them. -/
abbrev aE (a : Vec Ideal S4096x2048 .bf16) (r : Fin 4096) (k : Fin 2048) : EReal := a (ix2 r k)
abbrev bE (b : Vec Ideal S2048x11264 .bf16) (k : Fin 2048) (s : Fin 11264) : EReal := b (ix2 k s)

/-- One entry of the product. -/
def prod (a : Vec Ideal S4096x2048 .bf16) (b : Vec Ideal S2048x11264 .bf16) (r : Fin 4096) (s : Fin 11264) : EReal :=
  ∑ k : Fin 2048, aE a r k * bE b k s

section ref
open Cert.Reference20Ideal.Read
/-- The reference's entry. -/
theorem ref (a : Vec Ideal S4096x2048 .bf16) (b : Vec Ideal S2048x11264 .bf16) (r : Fin 4096) (s : Fin 11264) : val_main_v3 (F := Ideal) a b (ix2 r s) = prod a b r s := by
  pointwise [val_main_v3, val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x2048 .bf16 := m ((c : Thread nD τ).loc main_arg0)
abbrev bA : Vec Ideal S2048x11264 .bf16 := m ((c : Thread nD τ).loc main_arg1)
/-- The blocks a point reads. -/
abbrev aB (t : Fin cfg0.N) : Vec Ideal S1024x2048 .bf16 := iblk (F := Ideal) m c 0 t
abbrev bB (t : Fin cfg0.N) : Vec Ideal S2048x1024 .bf16 := iblk (F := Ideal) m c 1 t

/-- A block's product, one entry. -/
theorem p1 (x : Vec Ideal S1024x2048 .bf16) (y : Vec Ideal S2048x1024 .bf16) (r : Fin 1024) (s : Fin 1024) :
    k0_pay1 (F := Ideal) x y (ix2 r s) = ∑ k : Fin 2048, x (ix2 r k) * y (ix2 k s) := by
  pointwise [k0_pay1]

/-- The point of block row `i`, block column `j` and step `k`. -/
abbrev pt (i : Fin 4) (j : Fin 11) (k : Fin 1) : Fin cfg0.N := ⟨(i.val * 11 + j.val) * 1 + k.val, by have e : cfg0.N = 44 := N_0; omega⟩

/-- Where each window's block lies at each point. -/
theorem ix : ∀ (i : Fin 4) (j : Fin 11) (k : Fin 1), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 11) (k : Fin 1), t = pt i j k := by
  have e : cfg0.N = 44 := N_0
  have ht := t.isLt
  exact ⟨⟨t.val / 11, by omega⟩, ⟨t.val / 1 % 11, by omega⟩, ⟨t.val % 1, by omega⟩, Fin.ext (by dsimp only; omega)⟩

section blocks
variable (i : Fin 4) (j : Fin 11) (k : Fin 1)
/-- The operands' blocks. -/
theorem blk0 (q : Fin 2048) (r : Fin 1024) : iblk (F := Ideal) m c 0 (pt i j k) (ix2 r q) = aE (aA m c) ⟨i.val * 1024 + r.val, by omega⟩ ⟨k.val * 2048 + q.val, by omega⟩ := by
  have hi := (ix i j k).1
  unfold aE
  blk_point [iblk, V, hi]
theorem blk1 (q : Fin 2048) (s : Fin 1024) : iblk (F := Ideal) m c 1 (pt i j k) (ix2 q s) = bE (bA m c) ⟨k.val * 2048 + q.val, by omega⟩ ⟨j.val * 1024 + s.val, by omega⟩ := by
  have hi := (ix i j k).2.1
  unfold bE
  blk_point [iblk, V, hi]
end blocks

/-- Step `k`'s share of an entry. -/
def part (k : Fin 1) (r : Fin 4096) (s : Fin 11264) : EReal :=
  ∑ q : Fin 2048, aE (aA m c) r ⟨k.val * 2048 + q.val, by omega⟩ * bE (bA m c) ⟨k.val * 2048 + q.val, by omega⟩ s

theorem step_eq (i : Fin 4) (j : Fin 11) (k : Fin 1) (r : Fin 1024) (s : Fin 1024) :
    (∑ q : Fin 2048, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 11264) : prod (aA m c) (bA m c) r s = part m c 0 r s :=
  (Fin.sum_mul_add_fin 1 2048 (fun k : Fin 2048 => aE (aA m c) r k * bE (bA m c) k s)).symm.trans (Fin.sum_univ_one (fun k => part m c k r s))

/-- What the point leaves in the result's block. -/
theorem out_at (i : Fin 4) (j : Fin 11) (r : Fin 1024) (s : Fin 1024) : (dats m 0 c).after 2 (pt i j 0) (ix2 r s) = prod (aA m c) (bA m c) ⟨i.val * 1024 + r.val, by omega⟩ ⟨j.val * 1024 + s.val, by omega⟩ := by
  rw [after0_2]
  frame_out
  exact (p1 _ _ r s).trans ((step_eq m c i j 0 r s).trans (prod_eq m c _ _).symm)

/-- The array after the run. -/
theorem final : (dats m 0 c).arrAt 2 cfg0.N = Cert.Reference20Ideal.Read.val_main_v3 (F := Ideal) (aA m c) (bA m c) := by
  refine (dats m 0 c).arrAt_eq_of_covers 2 _ (by decide +kernel) fun t hf y => ?_
  obtain ⟨i, j, k, rfl⟩ := pt_split t
  obtain rfl : k = 0 := Subsingleton.elim _ _
  have hi := (ix i j 0).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm20
-- ==== Proof.Mm21.lean ====
module

public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack

@[expose] public section

set_option maxRecDepth 16384

noncomputable section

/-! The down projection: the array the pipelined product leaves is the reference's. -/

namespace Cert.Mm21

open Idealize.ShloMosaic Idealize.ShloMosaic.TcCoe
open Cert.Kernel21Ideal Cert.Kernel21Ideal.Gen

/-- The two operands, as a row and a column of the product see them. -/
abbrev aE (a : Vec Ideal S4096x5632 .bf16) (r : Fin 4096) (k : Fin 5632) : EReal := a (ix2 r k)
abbrev bE (b : Vec Ideal S5632x2048 .bf16) (k : Fin 5632) (s : Fin 2048) : EReal := b (ix2 k s)

/-- One entry of the product. -/
def prod (a : Vec Ideal S4096x5632 .bf16) (b : Vec Ideal S5632x2048 .bf16) (r : Fin 4096) (s : Fin 2048) : EReal :=
  ∑ k : Fin 5632, aE a r k * bE b k s

section ref
open Cert.Reference21Ideal.Read
/-- The reference's entry. -/
theorem ref (a : Vec Ideal S4096x5632 .bf16) (b : Vec Ideal S5632x2048 .bf16) (r : Fin 4096) (s : Fin 2048) : val_main_v2 (F := Ideal) a b (ix2 r s) = prod a b r s := by
  pointwise [val_main_v2, val_main_v1, val_main_v0]
  unfold prod aE bE
  refine Finset.sum_congr rfl fun k _ => ?_
  first | rfl | exact mul_comm _ _
end ref

variable (m : (ℓ : Loc nD τ sig) → Buf (Elt Ideal) ℓ) (c : Dev nD)

/-- The operands in memory. -/
abbrev aA : Vec Ideal S4096x5632 .bf16 := m ((c : Thread nD τ).loc main_arg0)
abbrev bA : Vec Ideal S5632x2048 .bf16 := m ((c : Thread nD τ).loc main_arg1)
/-- The blocks a point reads. -/
abbrev aB (t : Fin cfg0.N) : Vec Ideal S1024x2816 .bf16 := iblk (F := Ideal) m c 0 t
abbrev bB (t : Fin cfg0.N) : Vec Ideal S2816x1024 .bf16 := iblk (F := Ideal) m c 1 t

/-- A block's product, one entry. -/
theorem p1 (x : Vec Ideal S1024x2816 .bf16) (y : Vec Ideal S2816x1024 .bf16) (r : Fin 1024) (s : Fin 1024) :
    k0_pay1 (F := Ideal) x y (ix2 r s) = ∑ k : Fin 2816, x (ix2 r k) * y (ix2 k s) := by
  pointwise [k0_pay1]
theorem p2 (z : Vec Ideal S1024x1024 .f32) (x : Vec Ideal S1024x2816 .bf16) (y : Vec Ideal S2816x1024 .bf16) (r : Fin 1024) (s : Fin 1024) :
    k0_pay2 (F := Ideal) z x y (ix2 r s) = z (ix2 r s) + ∑ k : Fin 2816, x (ix2 r k) * y (ix2 k s) := by
  pointwise [k0_pay2]

/-- The point of block row `i`, block column `j` and step `k`. -/
abbrev pt (i : Fin 4) (j : Fin 2) (k : Fin 2) : Fin cfg0.N := ⟨(i.val * 2 + j.val) * 2 + k.val, by have e : cfg0.N = 16 := N_0; omega⟩

/-- Where each window's block lies at each point. -/
theorem ix : ∀ (i : Fin 4) (j : Fin 2) (k : Fin 2), win0_0.index (pt i j k) = ![i.val, k.val] ∧ win0_1.index (pt i j k) = ![k.val, j.val] ∧ win0_2.index (pt i j k) = ![i.val, j.val] := by
  decide +kernel

theorem pt_split (t : Fin cfg0.N) : ∃ (i : Fin 4) (j : Fin 2) (k : Fin 2), t = pt i j k := by
  have e : cfg0.N = 16 := N_0
  have ht := t.isLt
  exact ⟨⟨t.val / 4, by omega⟩, ⟨t.val / 2 % 2, by omega⟩, ⟨t.val % 2, by omega⟩, Fin.ext (by dsimp only; omega)⟩

section blocks
variable (i : Fin 4) (j : Fin 2) (k : Fin 2)
/-- The operands' blocks. -/
theorem blk0 (q : Fin 2816) (r : Fin 1024) : iblk (F := Ideal) m c 0 (pt i j k) (ix2 r q) = aE (aA m c) ⟨i.val * 1024 + r.val, by omega⟩ ⟨k.val * 2816 + q.val, by omega⟩ := by
  have hi := (ix i j k).1
  unfold aE
  blk_point [iblk, V, hi]
theorem blk1 (q : Fin 2816) (s : Fin 1024) : iblk (F := Ideal) m c 1 (pt i j k) (ix2 q s) = bE (bA m c) ⟨k.val * 2816 + q.val, by omega⟩ ⟨j.val * 1024 + s.val, by omega⟩ := by
  have hi := (ix i j k).2.1
  unfold bE
  blk_point [iblk, V, hi]
end blocks

/-- Step `k`'s share of an entry. -/
def part (k : Fin 2) (r : Fin 4096) (s : Fin 2048) : EReal :=
  ∑ q : Fin 2816, aE (aA m c) r ⟨k.val * 2816 + q.val, by omega⟩ * bE (bA m c) ⟨k.val * 2816 + q.val, by omega⟩ s

theorem step_eq (i : Fin 4) (j : Fin 2) (k : Fin 2) (r : Fin 1024) (s : Fin 1024) :
    (∑ q : Fin 2816, aB m c (pt i j k) (ix2 r q) * bB m c (pt i j k) (ix2 q s))
      = part m c k ⟨i.val * 1024 + r.val, by omega⟩ ⟨j.val * 1024 + s.val, by omega⟩ :=
  Finset.sum_congr rfl fun q _ => congrArg₂ (· * ·) (blk0 m c i j k q r) (blk1 m c i j k q s)

theorem prod_eq (r : Fin 4096) (s : Fin 2048) : prod (aA m c) (bA m c) r s = part m c 0 r s + part m c 1 r s :=
  (Fin.sum_mul_add_fin 2 2816 (fun k : Fin 5632 => aE (aA m c) r k * bE (bA m c) k s)).symm.trans (Fin.sum_univ_two (fun k => part m c k r s))

theorem same {n n' : ℕ} (h : n < cfg0.N) (h' : n' < cfg0.N) (e : n = n') : outsAt0 m c n h = outsAt0 m c n' h' := by
  subst e; rfl

/-- The accumulator after a block's steps. -/
theorem acc0 (i : Fin 4) (j : Fin 2) (r : Fin 1024) (s : Fin 1024) : (outsAt0 m c (pt i j 0).val (pt i j 0).isLt).2 (ix2 r s) = part m c 0 ⟨i.val * 1024 + r.val, by omega⟩ ⟨j.val * 1024 + s.val, by omega⟩ := by
  have h0 : (pt i j 0).val % 2 = 0 := by show ((i.val * 2 + j.val) * 2 + 0) % 2 = 0; omega
  rw [outsAt0_A m c (pt i j 0) h0 (by omega) (by omega)]
  frame_out
  exact (p1 _ _ r s).trans (step_eq m c i j 0 r s)
/-- What a block's last step leaves in the result's block. -/
theorem out_at (i : Fin 4) (j : Fin 2) (r : Fin 1024) (s : Fin 1024) : (dats m 0 c).after 2 (pt i j 1) (ix2 r s) = prod (aA m c) (bA m c) ⟨i.val * 1024 + r.val, by omega⟩ ⟨j.val * 1024 + s.val, by omega⟩ := by
  have h0 : (pt i j 1).val % 2 = 1 := by show ((i.val * 2 + j.val) * 2 + 1) % 2 = 1; omega
  rw [after0_2, outsAt0_B m c (pt i j 1) (by omega) (by omega) (by omega)]
  frame_out
  simp only [read_unread_whole]
  refine (p2 _ _ _ r s).trans (Eq.trans (congrArg₂ (· + ·) ?_ (step_eq m c i j 1 r s)) (prod_eq m c _ _).symm)
  exact (congrArg (fun z => z.2 (ix2 r s)) (same m c _ (pt i j 0).isLt (by show (i.val * 2 + j.val) * 2 + 1 - 1 = (i.val * 2 + j.val) * 2 + 0; omega))).trans (acc0 m c i j r s)

/-- The array after the run. -/
theorem final : (dats m 0 c).arrAt 2 cfg0.N = Cert.Reference21Ideal.Read.val_main_v2 (F := Ideal) (aA m c) (bA m c) := by
  refine (dats m 0 c).arrAt_eq_of_covers 2 _ (by decide +kernel) fun t hf y => ?_
  have hk : t.val % 2 = 1 := (flush0_2 t).1 hf
  obtain ⟨i, j, k, rfl⟩ := pt_split t
  obtain rfl : k = 1 := by
    have e : ((i.val * 2 + j.val) * 2 + k.val) % 2 = 1 := hk
    exact Fin.ext (show k.val = 1 by omega)
  have hi := (ix i j 1).2.2
  blk_simp
  refine (congrArg _ (ValueIdx.eq_ix2 (n0 := 1024) (n1 := 1024) y)).trans ((out_at m c i j (y 0) (y 1)).trans ((ref (aA m c) (bA m c) _ _).symm.trans (congrArg _ ?_)))
  blk_ext [hi]

end Cert.Mm21
-- ==== Proof.Gate.lean ====
/- The gate merge's backward pass: what the pipelined call leaves in its four results, index by index, is the
   reference's gradient of `sigmoid(ga) · o_a + sigmoid(gb) · o_b`. -/
module

public import proofs.«01_k».proof.Proof.Gen.Kernel2Ideal.Value
public import proofs.«01_k».proof.Proof.Gen.Reference2Ideal.Read
public import Idealize.ShloMosaic.Lib.Pipeline.ValueKit

@[expose] public section

noncomputable section

namespace Cert.Gate

open Idealize.ShloMosaic Idealize.ShloMosaic.TcCoe Idealize.SL.Sem
open Cert.Kernel2Ideal Cert.Kernel2Ideal.Gen
open Cert.Reference2Ideal.Read

variable (m : (ℓ : Loc nD τ sig) → Buf (Elt Ideal) ℓ)

/-- Which block each window holds at a grid point: the row block is the point's own, and only the second gate sits
    in the second block of columns. -/
theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The gradient of the first gate's input. -/
theorem final5 (c : Dev nD) : (dats m 0 c).arrAt 5 cfg0.N
    = val_main_v33 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6, e7, e8⟩ := idx t
  blk_simp
  rw [after0_5]; frame_out
  pointwise [k0_pay1, k0_pay2, k0_pay3, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4]
  simp only [zero_sub]
  blk_point [iblk, V, e0, e1, e2, e3, e4, e5, e6, e7, e8]

/-- The gradient of the second gate's input. -/
theorem final6 (c : Dev nD) : (dats m 0 c).arrAt 6 cfg0.N
    = val_main_v34 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  obtain ⟨e0, e1, e2, e3, e4, e5, e6, e7, e8⟩ := idx t
  blk_simp
  rw [after0_6]; frame_out
  pointwise [k0_pay1, k0_pay2, k0_pay3, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4]
  simp only [zero_sub]
  blk_point [iblk, V, e0, e1, e2, e3, e4, e5, e6, e7, e8]

/-- The gradient of the first branch's output. -/
theorem final7 (c : Dev nD) : (dats m 0 c).arrAt 7 cfg0.N
    = val_main_v35 (F := Ideal) (m ((c : Thread nD τ).loc main_arg0)) (m ((c : Thread nD τ).loc main_arg1)) := by
  refine (dats m 0 c).arrAt_eq_of_covers 7 _ (by decide +kernel) fun t hf y => ?_
  obtain ⟨e0, e1, e2, e3, e4, e5, e6, e7, e8⟩ := idx t
  blk_simp
  rw [after0_7]; frame_out
  pointwise [k0_pay1, k0_pay2, k0_pay3, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4]
  simp only [zero_sub]
  rw [mul_comm]
  blk_point [iblk, V, e0, e1, e2, e3, e4, e5, e6, e7, e8]

/-- The gradient of the second branch's output. -/
theorem final8 (c : Dev nD) : (dats m 0 c).arrAt 8 cfg0.N
    = val_main_v36 (F := Ideal) (m ((c : Thread nD τ).loc main_arg0)) (m ((c : Thread nD τ).loc main_arg1)) := by
  refine (dats m 0 c).arrAt_eq_of_covers 8 _ (by decide +kernel) fun t hf y => ?_
  obtain ⟨e0, e1, e2, e3, e4, e5, e6, e7, e8⟩ := idx t
  blk_simp
  rw [after0_8]; frame_out
  pointwise [k0_pay1, k0_pay2, k0_pay3, k0_pay4, k0_pay5, k0_pay6, k0_pay7, k0_pay8, k0_pay9, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4]
  simp only [zero_sub]
  rw [mul_comm]
  blk_point [iblk, V, e0, e1, e2, e3, e4, e5, e6, e7, e8]

end Cert.Gate
-- ==== Proof.Mm.lean ====
module

public import proofs.«01_k».proof.Defs
public import proofs.«01_k».proof.Proof.Gen.Kernel3Ideal.Value
public import proofs.«01_k».proof.Proof.Gen.Reference3Ideal.Run
public import proofs.«01_k».proof.Proof.Mm3
public import proofs.«01_k».proof.Proof.Gen.Kernel4Ideal.Value
public import proofs.«01_k».proof.Proof.Gen.Reference4Ideal.Run
public import proofs.«01_k».proof.Proof.Mm4
public import proofs.«01_k».proof.Proof.Gen.Kernel5Ideal.Value
public import proofs.«01_k».proof.Proof.Gen.Reference5Ideal.Run
public import proofs.«01_k».proof.Proof.Mm5
public import proofs.«01_k».proof.Proof.Gen.Kernel6Ideal.Value
public import proofs.«01_k».proof.Proof.Gen.Reference6Ideal.Run
public import proofs.«01_k».proof.Proof.Mm6
public import proofs.«01_k».proof.Proof.Gen.Kernel7Ideal.Value
public import proofs.«01_k».proof.Proof.Gen.Reference7Ideal.Run
public import proofs.«01_k».proof.Proof.Mm7
public import proofs.«01_k».proof.Proof.Gen.Kernel8Ideal.Value
public import proofs.«01_k».proof.Proof.Gen.Reference8Ideal.Run
public import proofs.«01_k».proof.Proof.Mm8
public import proofs.«01_k».proof.Proof.Gen.Kernel9Ideal.Value
public import proofs.«01_k».proof.Proof.Gen.Reference9Ideal.Run
public import proofs.«01_k».proof.Proof.Mm9
public import proofs.«01_k».proof.Proof.Gen.Kernel10Ideal.Value
public import proofs.«01_k».proof.Proof.Gen.Reference10Ideal.Run
public import proofs.«01_k».proof.Proof.Mm10
public import proofs.«01_k».proof.Proof.Gen.Kernel11Ideal.Value
public import proofs.«01_k».proof.Proof.Gen.Reference11Ideal.Run
public import proofs.«01_k».proof.Proof.Mm11
public import proofs.«01_k».proof.Proof.Gen.Kernel12Ideal.Value
public import proofs.«01_k».proof.Proof.Gen.Reference12Ideal.Run
public import proofs.«01_k».proof.Proof.Mm12
public import proofs.«01_k».proof.Proof.Gen.Kernel13Ideal.Value
public import proofs.«01_k».proof.Proof.Gen.Reference13Ideal.Run
public import proofs.«01_k».proof.Proof.Mm13
public import proofs.«01_k».proof.Proof.Gen.Kernel14Ideal.Value
public import proofs.«01_k».proof.Proof.Gen.Reference14Ideal.Run
public import proofs.«01_k».proof.Proof.Mm14
public import proofs.«01_k».proof.Proof.Gen.Kernel15Ideal.Value
public import proofs.«01_k».proof.Proof.Gen.Reference15Ideal.Run
public import proofs.«01_k».proof.Proof.Mm15
public import proofs.«01_k».proof.Proof.Gen.Kernel16Ideal.Value
public import proofs.«01_k».proof.Proof.Gen.Reference16Ideal.Run
public import proofs.«01_k».proof.Proof.Mm16
public import proofs.«01_k».proof.Proof.Gen.Kernel17Ideal.Value
public import proofs.«01_k».proof.Proof.Gen.Reference17Ideal.Run
public import proofs.«01_k».proof.Proof.Mm17
public import proofs.«01_k».proof.Proof.Gen.Kernel18Ideal.Value
public import proofs.«01_k».proof.Proof.Gen.Reference18Ideal.Run
public import proofs.«01_k».proof.Proof.Mm18
public import proofs.«01_k».proof.Proof.Gen.Kernel19Ideal.Value
public import proofs.«01_k».proof.Proof.Gen.Reference19Ideal.Run
public import proofs.«01_k».proof.Proof.Mm19
public import proofs.«01_k».proof.Proof.Gen.Kernel20Ideal.Value
public import proofs.«01_k».proof.Proof.Gen.Reference20Ideal.Run
public import proofs.«01_k».proof.Proof.Mm20
public import proofs.«01_k».proof.Proof.Gen.Kernel21Ideal.Value
public import proofs.«01_k».proof.Proof.Gen.Reference21Ideal.Run
public import proofs.«01_k».proof.Proof.Mm21
public import proofs.«01_k».proof.Proof.Gen.Kernel2Ideal.Value
public import proofs.«01_k».proof.Proof.Gen.Reference2Ideal.Run
public import proofs.«01_k».proof.Proof.Gate
public import Idealize.ShloMosaic.Adequacy
public import Idealize.ShloMosaic.Lib.Quiescent
public import Idealize.ShloMosaic.Init

@[expose] public section

noncomputable section

/-! The value claims of the gate's and the projections' gradients, and the frames of their references. -/

namespace Cert.Proof

open Idealize.ShloMosaic Idealize.ShloMosaic.TcCoe Idealize.SL.Sem

theorem congr2 {α β γ : Type} (f : α → β → γ) {a a' : α} {b b' : β} (ha : a = a') (hb : b = b') : f a b = f a' b' := by rw [ha, hb]

/-- The pipelined backward pass of the gate merge and the reference's gradient, read at extended reals, end with the
    same four arrays and leave their arguments as they were. -/
theorem gate : Cert.algebraic_Kernel2Ideal_Reference2Ideal := by
  intro m g m' g' _ hag
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks m g, (θ_run _ _ _).mono (fun r h c => ?_) (Cert.Reference2Ideal.Value.run m' g')⟩
  obtain ⟨h0, h1, h2, h3, ha⟩ := h c
  obtain ⟨a0, a1, a2, a3⟩ := hag c
  refine ⟨h0.trans ((Cert.Reference2Ideal.Read.val_main_v33_eq _ _ _).trans ?_), h1.trans ((Cert.Reference2Ideal.Read.val_main_v34_eq _ _ _).trans ?_),
    h2.trans ((Cert.Reference2Ideal.Read.val_main_v35_eq _ _).trans ?_), h3.trans ((Cert.Reference2Ideal.Read.val_main_v36_eq _ _).trans ?_), ha⟩
  · exact Eq.trans (by rw [a0, a1, a2]) (Cert.Gate.final5 m c).symm
  · exact Eq.trans (by rw [a0, a1, a3]) (Cert.Gate.final6 m c).symm
  · exact Eq.trans (by rw [a0, a1]) (Cert.Gate.final7 m c).symm
  · exact Eq.trans (by rw [a0, a1]) (Cert.Gate.final8 m c).symm

/-- The reference leaves its arguments as they were; it has no semaphore. -/
theorem ref_frame2 : Cert.quiescent_Reference2Ideal := fun m g _ =>
  (θ_run _ _ _).mono (fun _ h => ⟨fun c => (h c).2.2.2.2, sem_eq_zero_of_no_sems rfl _⟩)
    (Cert.Reference2Ideal.Value.run m g)

/-- The down projection's weight gradient: the pipelined product and the reference, read at extended reals, end with the same array and leave their
    arguments as they were. -/
theorem mm3 : Cert.algebraic_Kernel3Ideal_Reference3Ideal := by
  intro m g m' g' _ hag
  refine ⟨fun c => (Cert.Kernel3Ideal.Gen.dats m 0 c).arrAt 2 Cert.Kernel3Ideal.cfg0.N,
    Cert.Kernel3Ideal.Value.run_blocks m g, (θ_run _ _ _).mono (fun r h c => ?_) (Cert.Reference3Ideal.Value.run m' g')⟩
  obtain ⟨h0, ha⟩ := h c
  obtain ⟨a0, a1⟩ := hag c
  refine ⟨h0.trans ((Cert.Reference3Ideal.Read.val_main_v7_eq _ _).trans ?_), ha⟩
  exact Eq.trans (congr2 (Cert.Reference3Ideal.Read.val_main_v7 (F := Ideal)) a0 a1) (Cert.Mm3.final m c).symm

/-- The reference leaves its arguments as they were. -/
theorem ref_frame3 : Cert.quiescent_Reference3Ideal := fun m g _ =>
  (θ_run _ _ _).mono (fun _ h => ⟨fun c => (h c).2, sem_eq_zero_of_no_sems rfl _⟩)
    (Cert.Reference3Ideal.Value.run m g)

/-- The down projection's input gradient: the pipelined product and the reference, read at extended reals, end with the same array and leave their
    arguments as they were. -/
theorem mm4 : Cert.algebraic_Kernel4Ideal_Reference4Ideal := by
  intro m g m' g' _ hag
  refine ⟨fun c => (Cert.Kernel4Ideal.Gen.dats m 0 c).arrAt 2 Cert.Kernel4Ideal.cfg0.N,
    Cert.Kernel4Ideal.Value.run_blocks m g, (θ_run _ _ _).mono (fun r h c => ?_) (Cert.Reference4Ideal.Value.run m' g')⟩
  obtain ⟨h0, ha⟩ := h c
  obtain ⟨a0, a1⟩ := hag c
  refine ⟨h0.trans ((Cert.Reference4Ideal.Read.val_main_v7_eq _ _).trans ?_), ha⟩
  exact Eq.trans (congr2 (Cert.Reference4Ideal.Read.val_main_v7 (F := Ideal)) a0 a1) (Cert.Mm4.final m c).symm

/-- The reference leaves its arguments as they were. -/
theorem ref_frame4 : Cert.quiescent_Reference4Ideal := fun m g _ =>
  (θ_run _ _ _).mono (fun _ h => ⟨fun c => (h c).2, sem_eq_zero_of_no_sems rfl _⟩)
    (Cert.Reference4Ideal.Value.run m g)

/-- The up and gate projection's weight gradient: the pipelined product and the reference, read at extended reals, end with the same array and leave their
    arguments as they were. -/
theorem mm5 : Cert.algebraic_Kernel5Ideal_Reference5Ideal := by
  intro m g m' g' _ hag
  refine ⟨fun c => (Cert.Kernel5Ideal.Gen.dats m 0 c).arrAt 2 Cert.Kernel5Ideal.cfg0.N,
    Cert.Kernel5Ideal.Value.run_blocks m g, (θ_run _ _ _).mono (fun r h c => ?_) (Cert.Reference5Ideal.Value.run m' g')⟩
  obtain ⟨h0, ha⟩ := h c
  obtain ⟨a0, a1⟩ := hag c
  refine ⟨h0.trans ((Cert.Reference5Ideal.Read.val_main_v14_eq _ _).trans ?_), ha⟩
  exact Eq.trans (congr2 (Cert.Reference5Ideal.Read.val_main_v14 (F := Ideal)) a0 a1) (Cert.Mm5.final m c).symm

/-- The reference leaves its arguments as they were. -/
theorem ref_frame5 : Cert.quiescent_Reference5Ideal := fun m g _ =>
  (θ_run _ _ _).mono (fun _ h => ⟨fun c => (h c).2, sem_eq_zero_of_no_sems rfl _⟩)
    (Cert.Reference5Ideal.Value.run m g)

/-- The up and gate projection's input gradient: the pipelined product and the reference, read at extended reals, end with the same array and leave their
    arguments as they were. -/
theorem mm6 : Cert.algebraic_Kernel6Ideal_Reference6Ideal := by
  intro m g m' g' _ hag
  refine ⟨fun c => (Cert.Kernel6Ideal.Gen.dats m 0 c).arrAt 2 Cert.Kernel6Ideal.cfg0.N,
    Cert.Kernel6Ideal.Value.run_blocks m g, (θ_run _ _ _).mono (fun r h c => ?_) (Cert.Reference6Ideal.Value.run m' g')⟩
  obtain ⟨h0, ha⟩ := h c
  obtain ⟨a0, a1⟩ := hag c
  refine ⟨h0.trans ((Cert.Reference6Ideal.Read.val_main_v11_eq _ _).trans ?_), ha⟩
  exact Eq.trans (congr2 (Cert.Reference6Ideal.Read.val_main_v11 (F := Ideal)) a0 a1) (Cert.Mm6.final m c).symm

/-- The reference leaves its arguments as they were. -/
theorem ref_frame6 : Cert.quiescent_Reference6Ideal := fun m g _ =>
  (θ_run _ _ _).mono (fun _ h => ⟨fun c => (h c).2, sem_eq_zero_of_no_sems rfl _⟩)
    (Cert.Reference6Ideal.Value.run m g)

/-- The output projection's weight gradient: the pipelined product and the reference, read at extended reals, end with the same array and leave their
    arguments as they were. -/
theorem mm7 : Cert.algebraic_Kernel7Ideal_Reference7Ideal := by
  intro m g m' g' _ hag
  refine ⟨fun c => (Cert.Kernel7Ideal.Gen.dats m 0 c).arrAt 2 Cert.Kernel7Ideal.cfg0.N,
    Cert.Kernel7Ideal.Value.run_blocks m g, (θ_run _ _ _).mono (fun r h c => ?_) (Cert.Reference7Ideal.Value.run m' g')⟩
  obtain ⟨h0, ha⟩ := h c
  obtain ⟨a0, a1⟩ := hag c
  refine ⟨h0.trans ((Cert.Reference7Ideal.Read.val_main_v7_eq _ _).trans ?_), ha⟩
  exact Eq.trans (congr2 (Cert.Reference7Ideal.Read.val_main_v7 (F := Ideal)) a0 a1) (Cert.Mm7.final m c).symm

/-- The reference leaves its arguments as they were. -/
theorem ref_frame7 : Cert.quiescent_Reference7Ideal := fun m g _ =>
  (θ_run _ _ _).mono (fun _ h => ⟨fun c => (h c).2, sem_eq_zero_of_no_sems rfl _⟩)
    (Cert.Reference7Ideal.Value.run m g)

/-- The output projection's input gradient: the pipelined product and the reference, read at extended reals, end with the same array and leave their
    arguments as they were. -/
theorem mm8 : Cert.algebraic_Kernel8Ideal_Reference8Ideal := by
  intro m g m' g' _ hag
  refine ⟨fun c => (Cert.Kernel8Ideal.Gen.dats m 0 c).arrAt 2 Cert.Kernel8Ideal.cfg0.N,
    Cert.Kernel8Ideal.Value.run_blocks m g, (θ_run _ _ _).mono (fun r h c => ?_) (Cert.Reference8Ideal.Value.run m' g')⟩
  obtain ⟨h0, ha⟩ := h c
  obtain ⟨a0, a1⟩ := hag c
  refine ⟨h0.trans ((Cert.Reference8Ideal.Read.val_main_v7_eq _ _).trans ?_), ha⟩
  exact Eq.trans (congr2 (Cert.Reference8Ideal.Read.val_main_v7 (F := Ideal)) a0 a1) (Cert.Mm8.final m c).symm

/-- The reference leaves its arguments as they were. -/
theorem ref_frame8 : Cert.quiescent_Reference8Ideal := fun m g _ =>
  (θ_run _ _ _).mono (fun _ h => ⟨fun c => (h c).2, sem_eq_zero_of_no_sems rfl _⟩)
    (Cert.Reference8Ideal.Value.run m g)

/-- The query up-projection's weight gradient: the pipelined product and the reference, read at extended reals, end with the same array and leave their
    arguments as they were. -/
theorem mm9 : Cert.algebraic_Kernel9Ideal_Reference9Ideal := by
  intro m g m' g' _ hag
  refine ⟨fun c => (Cert.Kernel9Ideal.Gen.dats m 0 c).arrAt 2 Cert.Kernel9Ideal.cfg0.N,
    Cert.Kernel9Ideal.Value.run_blocks m g, (θ_run _ _ _).mono (fun r h c => ?_) (Cert.Reference9Ideal.Value.run m' g')⟩
  obtain ⟨h0, ha⟩ := h c
  obtain ⟨a0, a1⟩ := hag c
  refine ⟨h0.trans ((Cert.Reference9Ideal.Read.val_main_v7_eq _ _).trans ?_), ha⟩
  exact Eq.trans (congr2 (Cert.Reference9Ideal.Read.val_main_v7 (F := Ideal)) a0 a1) (Cert.Mm9.final m c).symm

/-- The reference leaves its arguments as they were. -/
theorem ref_frame9 : Cert.quiescent_Reference9Ideal := fun m g _ =>
  (θ_run _ _ _).mono (fun _ h => ⟨fun c => (h c).2, sem_eq_zero_of_no_sems rfl _⟩)
    (Cert.Reference9Ideal.Value.run m g)

/-- The query up-projection's input gradient: the pipelined product and the reference, read at extended reals, end with the same array and leave their
    arguments as they were. -/
theorem mm10 : Cert.algebraic_Kernel10Ideal_Reference10Ideal := by
  intro m g m' g' _ hag
  refine ⟨fun c => (Cert.Kernel10Ideal.Gen.dats m 0 c).arrAt 2 Cert.Kernel10Ideal.cfg0.N,
    Cert.Kernel10Ideal.Value.run_blocks m g, (θ_run _ _ _).mono (fun r h c => ?_) (Cert.Reference10Ideal.Value.run m' g')⟩
  obtain ⟨h0, ha⟩ := h c
  obtain ⟨a0, a1⟩ := hag c
  refine ⟨h0.trans ((Cert.Reference10Ideal.Read.val_main_v6_eq _ _).trans ?_), ha⟩
  exact Eq.trans (congr2 (Cert.Reference10Ideal.Read.val_main_v6 (F := Ideal)) a0 a1) (Cert.Mm10.final m c).symm

/-- The reference leaves its arguments as they were. -/
theorem ref_frame10 : Cert.quiescent_Reference10Ideal := fun m g _ =>
  (θ_run _ _ _).mono (fun _ h => ⟨fun c => (h c).2, sem_eq_zero_of_no_sems rfl _⟩)
    (Cert.Reference10Ideal.Value.run m g)

/-- The key and value up-projection's weight gradient: the pipelined product and the reference, read at extended reals, end with the same array and leave their
    arguments as they were. -/
theorem mm11 : Cert.algebraic_Kernel11Ideal_Reference11Ideal := by
  intro m g m' g' _ hag
  refine ⟨fun c => (Cert.Kernel11Ideal.Gen.dats m 0 c).arrAt 2 Cert.Kernel11Ideal.cfg0.N,
    Cert.Kernel11Ideal.Value.run_blocks m g, (θ_run _ _ _).mono (fun r h c => ?_) (Cert.Reference11Ideal.Value.run m' g')⟩
  obtain ⟨h0, ha⟩ := h c
  obtain ⟨a0, a1⟩ := hag c
  refine ⟨h0.trans ((Cert.Reference11Ideal.Read.val_main_v9_eq _ _).trans ?_), ha⟩
  exact Eq.trans (congr2 (Cert.Reference11Ideal.Read.val_main_v9 (F := Ideal)) a0 a1) (Cert.Mm11.final m c).symm

/-- The reference leaves its arguments as they were. -/
theorem ref_frame11 : Cert.quiescent_Reference11Ideal := fun m g _ =>
  (θ_run _ _ _).mono (fun _ h => ⟨fun c => (h c).2, sem_eq_zero_of_no_sems rfl _⟩)
    (Cert.Reference11Ideal.Value.run m g)

/-- The key and value up-projection's input gradient: the pipelined product and the reference, read at extended reals, end with the same array and leave their
    arguments as they were. -/
theorem mm12 : Cert.algebraic_Kernel12Ideal_Reference12Ideal := by
  intro m g m' g' _ hag
  refine ⟨fun c => (Cert.Kernel12Ideal.Gen.dats m 0 c).arrAt 2 Cert.Kernel12Ideal.cfg0.N,
    Cert.Kernel12Ideal.Value.run_blocks m g, (θ_run _ _ _).mono (fun r h c => ?_) (Cert.Reference12Ideal.Value.run m' g')⟩
  obtain ⟨h0, ha⟩ := h c
  obtain ⟨a0, a1⟩ := hag c
  refine ⟨h0.trans ((Cert.Reference12Ideal.Read.val_main_v6_eq _ _).trans ?_), ha⟩
  exact Eq.trans (congr2 (Cert.Reference12Ideal.Read.val_main_v6 (F := Ideal)) a0 a1) (Cert.Mm12.final m c).symm

/-- The reference leaves its arguments as they were. -/
theorem ref_frame12 : Cert.quiescent_Reference12Ideal := fun m g _ =>
  (θ_run _ _ _).mono (fun _ h => ⟨fun c => (h c).2, sem_eq_zero_of_no_sems rfl _⟩)
    (Cert.Reference12Ideal.Value.run m g)

/-- The first half of the input projection's weight gradient: the pipelined product and the reference, read at extended reals, end with the same array and leave their
    arguments as they were. -/
theorem mm13 : Cert.algebraic_Kernel13Ideal_Reference13Ideal := by
  intro m g m' g' _ hag
  refine ⟨fun c => (Cert.Kernel13Ideal.Gen.dats m 0 c).arrAt 2 Cert.Kernel13Ideal.cfg0.N,
    Cert.Kernel13Ideal.Value.run_blocks m g, (θ_run _ _ _).mono (fun r h c => ?_) (Cert.Reference13Ideal.Value.run m' g')⟩
  obtain ⟨h0, ha⟩ := h c
  obtain ⟨a0, a1⟩ := hag c
  refine ⟨h0.trans ((Cert.Reference13Ideal.Read.val_main_v8_eq _ _).trans ?_), ha⟩
  exact Eq.trans (congr2 (Cert.Reference13Ideal.Read.val_main_v8 (F := Ideal)) a0 a1) (Cert.Mm13.final m c).symm

/-- The reference leaves its arguments as they were. -/
theorem ref_frame13 : Cert.quiescent_Reference13Ideal := fun m g _ =>
  (θ_run _ _ _).mono (fun _ h => ⟨fun c => (h c).2, sem_eq_zero_of_no_sems rfl _⟩)
    (Cert.Reference13Ideal.Value.run m g)

/-- The second half of the input projection's weight gradient: the pipelined product and the reference, read at extended reals, end with the same array and leave their
    arguments as they were. -/
theorem mm14 : Cert.algebraic_Kernel14Ideal_Reference14Ideal := by
  intro m g m' g' _ hag
  refine ⟨fun c => (Cert.Kernel14Ideal.Gen.dats m 0 c).arrAt 2 Cert.Kernel14Ideal.cfg0.N,
    Cert.Kernel14Ideal.Value.run_blocks m g, (θ_run _ _ _).mono (fun r h c => ?_) (Cert.Reference14Ideal.Value.run m' g')⟩
  obtain ⟨h0, ha⟩ := h c
  obtain ⟨a0, a1⟩ := hag c
  refine ⟨h0.trans ((Cert.Reference14Ideal.Read.val_main_v8_eq _ _).trans ?_), ha⟩
  exact Eq.trans (congr2 (Cert.Reference14Ideal.Read.val_main_v8 (F := Ideal)) a0 a1) (Cert.Mm14.final m c).symm

/-- The reference leaves its arguments as they were. -/
theorem ref_frame14 : Cert.quiescent_Reference14Ideal := fun m g _ =>
  (θ_run _ _ _).mono (fun _ h => ⟨fun c => (h c).2, sem_eq_zero_of_no_sems rfl _⟩)
    (Cert.Reference14Ideal.Value.run m g)

/-- The input projection's input gradient: the pipelined product and the reference, read at extended reals, end with the same array and leave their
    arguments as they were. -/
theorem mm15 : Cert.algebraic_Kernel15Ideal_Reference15Ideal := by
  intro m g m' g' _ hag
  refine ⟨fun c => (Cert.Kernel15Ideal.Gen.dats m 0 c).arrAt 2 Cert.Kernel15Ideal.cfg0.N,
    Cert.Kernel15Ideal.Value.run_blocks m g, (θ_run _ _ _).mono (fun r h c => ?_) (Cert.Reference15Ideal.Value.run m' g')⟩
  obtain ⟨h0, ha⟩ := h c
  obtain ⟨a0, a1⟩ := hag c
  refine ⟨h0.trans ((Cert.Reference15Ideal.Read.val_main_v6_eq _ _).trans ?_), ha⟩
  exact Eq.trans (congr2 (Cert.Reference15Ideal.Read.val_main_v6 (F := Ideal)) a0 a1) (Cert.Mm15.final m c).symm

/-- The reference leaves its arguments as they were. -/
theorem ref_frame15 : Cert.quiescent_Reference15Ideal := fun m g _ =>
  (θ_run _ _ _).mono (fun _ h => ⟨fun c => (h c).2, sem_eq_zero_of_no_sems rfl _⟩)
    (Cert.Reference15Ideal.Value.run m g)

/-- The input projection: the pipelined product and the reference, read at extended reals, end with the same array and leave their
    arguments as they were. -/
theorem mm16 : Cert.algebraic_Kernel16Ideal_Reference16Ideal := by
  intro m g m' g' _ hag
  refine ⟨fun c => (Cert.Kernel16Ideal.Gen.dats m 0 c).arrAt 2 Cert.Kernel16Ideal.cfg0.N,
    Cert.Kernel16Ideal.Value.run_blocks m g, (θ_run _ _ _).mono (fun r h c => ?_) (Cert.Reference16Ideal.Value.run m' g')⟩
  obtain ⟨h0, ha⟩ := h c
  obtain ⟨a0, a1⟩ := hag c
  refine ⟨h0.trans ((Cert.Reference16Ideal.Read.val_main_v3_eq _ _).trans ?_), ha⟩
  exact Eq.trans (congr2 (Cert.Reference16Ideal.Read.val_main_v3 (F := Ideal)) a0 a1) (Cert.Mm16.final m c).symm

/-- The reference leaves its arguments as they were. -/
theorem ref_frame16 : Cert.quiescent_Reference16Ideal := fun m g _ =>
  (θ_run _ _ _).mono (fun _ h => ⟨fun c => (h c).2, sem_eq_zero_of_no_sems rfl _⟩)
    (Cert.Reference16Ideal.Value.run m g)

/-- The query up-projection: the pipelined product and the reference, read at extended reals, end with the same array and leave their
    arguments as they were. -/
theorem mm17 : Cert.algebraic_Kernel17Ideal_Reference17Ideal := by
  intro m g m' g' _ hag
  refine ⟨fun c => (Cert.Kernel17Ideal.Gen.dats m 0 c).arrAt 2 Cert.Kernel17Ideal.cfg0.N,
    Cert.Kernel17Ideal.Value.run_blocks m g, (θ_run _ _ _).mono (fun r h c => ?_) (Cert.Reference17Ideal.Value.run m' g')⟩
  obtain ⟨h0, ha⟩ := h c
  obtain ⟨a0, a1⟩ := hag c
  refine ⟨h0.trans ((Cert.Reference17Ideal.Read.val_main_v3_eq _ _).trans ?_), ha⟩
  exact Eq.trans (congr2 (Cert.Reference17Ideal.Read.val_main_v3 (F := Ideal)) a0 a1) (Cert.Mm17.final m c).symm

/-- The reference leaves its arguments as they were. -/
theorem ref_frame17 : Cert.quiescent_Reference17Ideal := fun m g _ =>
  (θ_run _ _ _).mono (fun _ h => ⟨fun c => (h c).2, sem_eq_zero_of_no_sems rfl _⟩)
    (Cert.Reference17Ideal.Value.run m g)

/-- The key and value up-projection: the pipelined product and the reference, read at extended reals, end with the same array and leave their
    arguments as they were. -/
theorem mm18 : Cert.algebraic_Kernel18Ideal_Reference18Ideal := by
  intro m g m' g' _ hag
  refine ⟨fun c => (Cert.Kernel18Ideal.Gen.dats m 0 c).arrAt 2 Cert.Kernel18Ideal.cfg0.N,
    Cert.Kernel18Ideal.Value.run_blocks m g, (θ_run _ _ _).mono (fun r h c => ?_) (Cert.Reference18Ideal.Value.run m' g')⟩
  obtain ⟨h0, ha⟩ := h c
  obtain ⟨a0, a1⟩ := hag c
  refine ⟨h0.trans ((Cert.Reference18Ideal.Read.val_main_v3_eq _ _).trans ?_), ha⟩
  exact Eq.trans (congr2 (Cert.Reference18Ideal.Read.val_main_v3 (F := Ideal)) a0 a1) (Cert.Mm18.final m c).symm

/-- The reference leaves its arguments as they were. -/
theorem ref_frame18 : Cert.quiescent_Reference18Ideal := fun m g _ =>
  (θ_run _ _ _).mono (fun _ h => ⟨fun c => (h c).2, sem_eq_zero_of_no_sems rfl _⟩)
    (Cert.Reference18Ideal.Value.run m g)

/-- The output projection: the pipelined product and the reference, read at extended reals, end with the same array and leave their
    arguments as they were. -/
theorem mm19 : Cert.algebraic_Kernel19Ideal_Reference19Ideal := by
  intro m g m' g' _ hag
  refine ⟨fun c => (Cert.Kernel19Ideal.Gen.dats m 0 c).arrAt 2 Cert.Kernel19Ideal.cfg0.N,
    Cert.Kernel19Ideal.Value.run_blocks m g, (θ_run _ _ _).mono (fun r h c => ?_) (Cert.Reference19Ideal.Value.run m' g')⟩
  obtain ⟨h0, ha⟩ := h c
  obtain ⟨a0, a1⟩ := hag c
  refine ⟨h0.trans ((Cert.Reference19Ideal.Read.val_main_v2_eq _ _).trans ?_), ha⟩
  exact Eq.trans (congr2 (Cert.Reference19Ideal.Read.val_main_v2 (F := Ideal)) a0 a1) (Cert.Mm19.final m c).symm

/-- The reference leaves its arguments as they were. -/
theorem ref_frame19 : Cert.quiescent_Reference19Ideal := fun m g _ =>
  (θ_run _ _ _).mono (fun _ h => ⟨fun c => (h c).2, sem_eq_zero_of_no_sems rfl _⟩)
    (Cert.Reference19Ideal.Value.run m g)

/-- The up and gate projection: the pipelined product and the reference, read at extended reals, end with the same array and leave their
    arguments as they were. -/
theorem mm20 : Cert.algebraic_Kernel20Ideal_Reference20Ideal := by
  intro m g m' g' _ hag
  refine ⟨fun c => (Cert.Kernel20Ideal.Gen.dats m 0 c).arrAt 2 Cert.Kernel20Ideal.cfg0.N,
    Cert.Kernel20Ideal.Value.run_blocks m g, (θ_run _ _ _).mono (fun r h c => ?_) (Cert.Reference20Ideal.Value.run m' g')⟩
  obtain ⟨h0, ha⟩ := h c
  obtain ⟨a0, a1⟩ := hag c
  refine ⟨h0.trans ((Cert.Reference20Ideal.Read.val_main_v3_eq _ _).trans ?_), ha⟩
  exact Eq.trans (congr2 (Cert.Reference20Ideal.Read.val_main_v3 (F := Ideal)) a0 a1) (Cert.Mm20.final m c).symm

/-- The reference leaves its arguments as they were. -/
theorem ref_frame20 : Cert.quiescent_Reference20Ideal := fun m g _ =>
  (θ_run _ _ _).mono (fun _ h => ⟨fun c => (h c).2, sem_eq_zero_of_no_sems rfl _⟩)
    (Cert.Reference20Ideal.Value.run m g)

/-- The down projection: the pipelined product and the reference, read at extended reals, end with the same array and leave their
    arguments as they were. -/
theorem mm21 : Cert.algebraic_Kernel21Ideal_Reference21Ideal := by
  intro m g m' g' _ hag
  refine ⟨fun c => (Cert.Kernel21Ideal.Gen.dats m 0 c).arrAt 2 Cert.Kernel21Ideal.cfg0.N,
    Cert.Kernel21Ideal.Value.run_blocks m g, (θ_run _ _ _).mono (fun r h c => ?_) (Cert.Reference21Ideal.Value.run m' g')⟩
  obtain ⟨h0, ha⟩ := h c
  obtain ⟨a0, a1⟩ := hag c
  refine ⟨h0.trans ((Cert.Reference21Ideal.Read.val_main_v2_eq _ _).trans ?_), ha⟩
  exact Eq.trans (congr2 (Cert.Reference21Ideal.Read.val_main_v2 (F := Ideal)) a0 a1) (Cert.Mm21.final m c).symm

/-- The reference leaves its arguments as they were. -/
theorem ref_frame21 : Cert.quiescent_Reference21Ideal := fun m g _ =>
  (θ_run _ _ _).mono (fun _ h => ⟨fun c => (h c).2, sem_eq_zero_of_no_sems rfl _⟩)
    (Cert.Reference21Ideal.Value.run m g)

end Cert.Proof
-- ==== Proof.ConvSpec.lean ====
module

public import proofs.«01_k».proof.Proof.SwaRow
public import Idealize.ShloMosaic.Lib.Pipeline.ValueKit

@[expose] public section

noncomputable section

/-! The gradient of the causal depthwise convolution followed by the gate `silu(u₁) · u₂`, in coordinates.

The rows of the input are `s`, the columns `half · 5632 + c`; the convolution's tap `k` looks `2 - k` rows back. -/

namespace Cert.Conv

open Idealize.ShloMosaic Cert.Swa

abbrev Xt := Vec Ideal ⟨2, ![4096, 11264]⟩ .bf16
abbrev Dt := Vec Ideal ⟨2, ![4096, 5632]⟩ .bf16
abbrev Wt := Vec Ideal ⟨2, ![3, 11264]⟩ .f32
abbrev Bt := Vec Ideal ⟨2, ![1, 11264]⟩ .f32

/-- The column of channel `c` in a half. -/
abbrev col (h : Fin 2) (c : Fin 5632) : Fin 11264 := ⟨h.val * 5632 + c.val, by omega⟩

/-- The operands' elements. -/
abbrev xE (x : Xt) (s : Fin 4096) (j : Fin 11264) : EReal := x (ix2 s j)
abbrev dE (d : Dt) (s : Fin 4096) (c : Fin 5632) : EReal := d (ix2 s c)
abbrev wE (w : Wt) (k : Fin 3) (j : Fin 11264) : EReal := w (ix2 k j)
abbrev bE (b : Bt) (j : Fin 11264) : EReal := b (ix2 (0 : Fin 1) j)

/-- The input `n` rows back, zero before the first row. -/
def sh (x : Xt) (n : ℕ) (s : Fin 4096) (j : Fin 11264) : EReal := if h : n ≤ s.val then xE x ⟨s.val - n, by omega⟩ j else 0

/-- The convolution's output. -/
def U (x : Xt) (w : Wt) (b : Bt) (s : Fin 4096) (j : Fin 11264) : EReal :=
  bE b j + wE w 0 j * sh x 2 s j + wE w 1 j * sh x 1 s j + wE w 2 j * xE x s j

/-- The logistic function. -/
def sg (u : EReal) : EReal := Ideal.div 1 (1 + Ideal.exp (-u))

/-- The gradient at the convolution's output: of the first half, of the second half. -/
def DU0 (x : Xt) (d : Dt) (w : Wt) (b : Bt) (s : Fin 4096) (c : Fin 5632) : EReal :=
  (dE d s c * U x w b s (col 1 c)) * sg (U x w b s (col 0 c))
    + U x w b s (col 0 c) * (dE d s c * U x w b s (col 1 c)) * (sg (U x w b s (col 0 c)) * (1 - sg (U x w b s (col 0 c))))
def DU1 (x : Xt) (d : Dt) (w : Wt) (b : Bt) (s : Fin 4096) (c : Fin 5632) : EReal :=
  U x w b s (col 0 c) * sg (U x w b s (col 0 c)) * dE d s c
def DU (x : Xt) (d : Dt) (w : Wt) (b : Bt) (h : Fin 2) (s : Fin 4096) (c : Fin 5632) : EReal :=
  if h = 0 then DU0 x d w b s c else DU1 x d w b s c
/-- The same at any row, zero after the last. -/
def DUn (x : Xt) (d : Dt) (w : Wt) (b : Bt) (h : Fin 2) (s : ℕ) (c : Fin 5632) : EReal :=
  if hs : s < 4096 then DU x d w b h ⟨s, hs⟩ c else 0

/-- The input's gradient. -/
def DX (x : Xt) (d : Dt) (w : Wt) (b : Bt) (h : Fin 2) (s : Fin 4096) (c : Fin 5632) : EReal :=
  wE w 2 (col h c) * DU x d w b h s c + wE w 1 (col h c) * DUn x d w b h (s.val + 1) c + wE w 0 (col h c) * DUn x d w b h (s.val + 2) c
/-- The taps' gradient. -/
def DW (x : Xt) (d : Dt) (w : Wt) (b : Bt) (h : Fin 2) (k : Fin 3) (c : Fin 5632) : EReal :=
  ∑ s : Fin 4096, DU x d w b h s c * sh x (2 - k.val) s (col h c)
/-- The bias's gradient. -/
def DB (x : Xt) (d : Dt) (w : Wt) (b : Bt) (h : Fin 2) (c : Fin 5632) : EReal :=
  ∑ s : Fin 4096, DU x d w b h s c

end Cert.Conv

end
-- ==== Proof.ConvKer.lean ====
module

public import proofs.«01_k».proof.Proof.Gen.Kernel22Ideal.Value
public import proofs.«01_k».proof.Proof.ConvSpec
public import Idealize.ShloMosaic.Lib.Tactic.WordOmega
public import Idealize.ShloMosaic.Lib.IdealHost

@[expose] public section

set_option maxRecDepth 16384

noncomputable section

/-! The kernel's arithmetic on one block, in coordinates. -/

namespace Cert.Conv.Ker

open Cert.Kernel22Ideal Cert.Kernel22Ideal.Gen Idealize.ShloMosaic Idealize.ShloMosaic.TcCoe Cert.Conv

/-- A sum against a row with a single one, and against a row of zeros. -/
theorem pick_some (f g : Fin 256 → EReal) (p : Fin 256) (hf : ∀ k, f k = if k = p then 1 else 0) : ∑ k, f k * g k = g p := by
  rw [Finset.sum_eq_single p]
  · rw [hf, if_pos rfl, one_mul]
  · intro k _ hk; rw [hf, if_neg hk, zero_mul]
  · intro h; exact absurd (Finset.mem_univ p) h
theorem pick_none (f g : Fin 256 → EReal) (hf : ∀ k, f k = 0) : ∑ k, f k * g k = 0 :=
  Finset.sum_eq_zero fun k _ => by rw [hf, zero_mul]

/-- The matrices that shift rows by `n`: the row before, the row after. -/
def Back (n : ℕ) (B : FVec Ideal S256x256 .bf16) : Prop := ∀ r k : Fin 256, B (ix2 r k) = if k.val + n = r.val then 1 else 0
def Ahead (n : ℕ) (B : FVec Ideal S256x256 .bf16) : Prop := ∀ r k : Fin 256, B (ix2 r k) = if r.val + n = k.val then 1 else 0

theorem back_sum {n : ℕ} {B : FVec Ideal S256x256 .bf16} (hB : Back n B) (g : Fin 256 → EReal) (p : Fin 256) :
    ∑ k : Fin 256, (B (ix2 p k) : EReal) * g k = if h : n ≤ p.val then g ⟨p.val - n, by omega⟩ else 0 := by
  by_cases h : n ≤ p.val
  · rw [dif_pos h]
    exact pick_some _ g ⟨p.val - n, by omega⟩ fun k => (hB p k).trans (if_congr ⟨fun e => Fin.ext (by dsimp only; omega), fun e => by rw [e]; dsimp only; omega⟩ rfl rfl)
  · rw [dif_neg h]
    exact pick_none _ g fun k => (hB p k).trans (if_neg (by omega))
theorem ahead_sum {n : ℕ} {B : FVec Ideal S256x256 .bf16} (hB : Ahead n B) (g : Fin 256 → EReal) (p : Fin 256) :
    ∑ k : Fin 256, (B (ix2 p k) : EReal) * g k = if h : p.val + n < 256 then g ⟨p.val + n, h⟩ else 0 := by
  by_cases h : p.val + n < 256
  · rw [dif_pos h]
    exact pick_some _ g ⟨p.val + n, h⟩ fun k => (hB p k).trans (if_congr ⟨fun e => Fin.ext e.symm, fun e => by rw [e]⟩ rfl rfl)
  · rw [dif_neg h]
    exact pick_none _ g fun k => (hB p k).trans (if_neg (by omega))

theorem sel_slt1 (p : ℕ) (hp : p < 8) (a b : EReal) : Scalar.select (IntOp.cmpi .slt (BitVec.ofNat 32 p) 1#32) a b = if p < 1 then a else b := by
  interval_cases p <;> rfl
theorem sel_slt2 (p : ℕ) (hp : p < 8) (a b : EReal) : Scalar.select (IntOp.cmpi .slt (BitVec.ofNat 32 p) 2#32) a b = if p < 2 then a else b := by
  interval_cases p <;> rfl
theorem sel_sge7 (p : ℕ) (hp : p < 8) (a b : EReal) : Scalar.select (IntOp.cmpi .sge (BitVec.ofNat 32 p) 7#32) a b = if 7 ≤ p then a else b := by
  interval_cases p <;> rfl
theorem sel_sge6 (p : ℕ) (hp : p < 8) (a b : EReal) : Scalar.select (IntOp.cmpi .sge (BitVec.ofNat 32 p) 6#32) a b = if 6 ≤ p then a else b := by
  interval_cases p <;> rfl

section shifts
variable (i : grid0.Coords) (v0 : BitVec 1) (x : FVec Ideal S256x1408 .bf16) (B : FVec Ideal S256x256 .bf16) (hx : FVec Ideal S16x1408 .bf16)

/-- The row `n` before row `p`: in the block, or in the last rows of the block before. -/
def back (n : ℕ) (hn : n ≤ 2) (v0 : BitVec 1) (x : FVec Ideal S256x1408 .bf16) (hx : FVec Ideal S16x1408 .bf16) (p : Fin 256) (q : Fin 1408) : EReal :=
  if h : n ≤ p.val then (x (ix2 ⟨p.val - n, by omega⟩ q) : EReal)
  else Scalar.select v0 (0 : EReal) (hx (ix2 ⟨16 + p.val - n, by omega⟩ q))

/-- The rows one back: of the first half and of the second. -/
theorem k17 (hB : Back 1 B) (p : Fin 256) (q : Fin 1408) : k0_pay17 (F := Ideal) v0 x B hx (ix2 p q) = back 1 (by omega) v0 x hx p q := by
  pointwise [k0_pay17, k0_pay16]
  simp only [back_sum hB fun k => (x (ix2 k q) : EReal)]
  unfold back
  by_cases h8 : p.val < 8
  · rw [dif_pos h8, sel_slt1 _ h8]
    by_cases h1 : 1 ≤ p.val
    · rw [dif_pos h1, dif_pos h1, if_neg (by omega), add_zero]
    · rw [dif_neg h1, dif_neg h1, if_pos (by omega), zero_add]
      congr 4; omega
  · rw [dif_neg h8, dif_pos (by omega), dif_pos (by omega)]
    congr 3; omega
theorem k13 (hB : Back 1 B) (p : Fin 256) (q : Fin 1408) : k0_pay13 (F := Ideal) i x B hx (ix2 p q)
    = back 1 (by omega) (Scalar.cmpi .eq (BitVec.ofNat 32 (i 1).val) 15#32) x hx p q :=
  k17 (Scalar.cmpi .eq (BitVec.ofNat 32 (i 1).val) 15#32) x B hx hB p q
theorem k18 (hB : Back 2 B) (p : Fin 256) (q : Fin 1408) : k0_pay18 (F := Ideal) v0 x B hx (ix2 p q) = back 2 (by omega) v0 x hx p q := by
  pointwise [k0_pay18, k0_pay16]
  simp only [back_sum hB fun k => (x (ix2 k q) : EReal)]
  unfold back
  by_cases h8 : p.val < 8
  · rw [dif_pos h8, sel_slt2 _ h8]
    by_cases h1 : 2 ≤ p.val
    · rw [dif_pos h1, dif_pos h1, if_neg (by omega), add_zero]
    · rw [dif_neg h1, dif_neg h1, if_pos (by omega), zero_add]
      congr 4; omega
  · rw [dif_neg h8, dif_pos (by omega), dif_pos (by omega)]
    congr 3; omega
theorem k15 (hB : Back 2 B) (p : Fin 256) (q : Fin 1408) :
    k0_pay15 (F := Ideal) (k0_pay10 (F := Ideal) x B) (k0_pay12 (F := Ideal) i hx) (k0_pay14 (F := Ideal) x B) (ix2 p q)
    = back 2 (by omega) (Scalar.cmpi .eq (BitVec.ofNat 32 (i 1).val) 15#32) x hx p q :=
  k18 (Scalar.cmpi .eq (BitVec.ofNat 32 (i 1).val) 15#32) x B hx hB p q
end shifts

section units
variable (x1 x2 s12 s11 s21 s22 v73 : FVec Ideal S256x1408 .f32) (b1 b2 w10 w11 w12 w20 w21 w22 : FVec Ideal S1x1408 .f32) (d : FVec Ideal S256x1408 .bf16)
  (p : Fin 256) (q : Fin 1408)

theorem k19 (x : FVec Ideal S256x1408 .bf16) (B : FVec Ideal S256x256 .bf16) (hx : FVec Ideal S16x1408 .bf16) (i : grid0.Coords) :
    k0_pay19 (F := Ideal) (k0_pay10 (F := Ideal) x B) (k0_pay12 (F := Ideal) i hx) (k0_pay14 (F := Ideal) x B) b1 w10 (ix2 p q)
    = b1 (ix2 (0 : Fin 1) q) + w10 (ix2 (0 : Fin 1) q) * k0_pay15 (F := Ideal) (k0_pay10 (F := Ideal) x B) (k0_pay12 (F := Ideal) i hx) (k0_pay14 (F := Ideal) x B) (ix2 p q) := by
  generalize hA : k0_pay10 (F := Ideal) x B = A1
  generalize hA : k0_pay12 (F := Ideal) i hx = A2
  generalize hA : k0_pay14 (F := Ideal) x B = A3
  unfold k0_pay19
  generalize hA : k0_pay15 (F := Ideal) A1 A2 A3 = A4
  pointwise []

/-- The gate's input. -/
theorem k20 : k0_pay20 (F := Ideal) x1 s11 v73 w11 w12 (ix2 p q) = v73 (ix2 p q) + w11 (ix2 (0 : Fin 1) q) * s11 (ix2 p q) + w12 (ix2 (0 : Fin 1) q) * x1 (ix2 p q) := by
  pointwise [k0_pay20]
/-- Its logistic. -/
theorem k21 : k0_pay21 (F := Ideal) x1 s11 v73 w11 w12 (ix2 p q) = sg (k0_pay20 (F := Ideal) x1 s11 v73 w11 w12 (ix2 p q)) := by
  unfold k0_pay21
  generalize k0_pay20 (F := Ideal) x1 s11 v73 w11 w12 = A
  pointwise []
  simp only [sg, zero_sub]
/-- The gradient of the first half's outputs. -/
theorem k23 : k0_pay23 (F := Ideal) x1 x2 s11 s21 s22 v73 w11 w12 b2 w20 w21 w22 d (ix2 p q)
    = (d (ix2 p q) * (b2 (ix2 (0 : Fin 1) q) + w20 (ix2 (0 : Fin 1) q) * s22 (ix2 p q) + w21 (ix2 (0 : Fin 1) q) * s21 (ix2 p q) + w22 (ix2 (0 : Fin 1) q) * x2 (ix2 p q)))
      * (sg (k0_pay20 (F := Ideal) x1 s11 v73 w11 w12 (ix2 p q)) * (1 + k0_pay20 (F := Ideal) x1 s11 v73 w11 w12 (ix2 p q) * (1 - sg (k0_pay20 (F := Ideal) x1 s11 v73 w11 w12 (ix2 p q))))) := by
  rw [← k21]
  unfold k0_pay23
  generalize k0_pay21 (F := Ideal) x1 s11 v73 w11 w12 = A'
  generalize k0_pay20 (F := Ideal) x1 s11 v73 w11 w12 = A
  pointwise [k0_pay22]
/-- The gradient of the second half's outputs. -/
theorem k24 : k0_pay24 (F := Ideal) x1 s11 v73 w11 w12 d (ix2 p q)
    = d (ix2 p q) * (k0_pay20 (F := Ideal) x1 s11 v73 w11 w12 (ix2 p q) * sg (k0_pay20 (F := Ideal) x1 s11 v73 w11 w12 (ix2 p q))) := by
  rw [← k21]
  unfold k0_pay24
  generalize k0_pay21 (F := Ideal) x1 s11 v73 w11 w12 = A'
  generalize k0_pay20 (F := Ideal) x1 s11 v73 w11 w12 = A
  pointwise [k0_pay22]
end units

section grads
variable (du : FVec Ideal S256x1408 .f32) (e : FVec Ideal S256x1408 .bf16) (A1 A2 : FVec Ideal S256x256 .bf16) (c8 : FVec Ideal S1x8x1408 .f32)
  (w2 w1 w0 : FVec Ideal S1x1408 .f32) (s : FVec Ideal S256x1408 .f32) (a : FVec Ideal S1x1x1408 .f32) (p : Fin 256) (q : Fin 1408)

/-- The row `n` after row `p`: in the block, or in the first rows of the block after. -/
def ahead (n : ℕ) (hn : n ≤ 2) (e : Fin 256 → EReal) (c : Fin 8 → EReal) (p : Fin 256) : EReal :=
  if h : p.val + n < 256 then e ⟨p.val + n, h⟩ else c ⟨p.val + n - 256, by omega⟩

set_option maxHeartbeats 1000000 in
/-- The inputs' gradient, first half. -/
theorem k27 (h1 : Ahead 1 A1) (h2 : Ahead 2 A2) : k0_pay27 (F := Ideal) (k0_pay26 (F := Ideal) du (iota .tc S8x1408 32 [0] iota_S8x1408_d0_w32) e A1 A2 c8 w2 w1 w0) (ix3 (0 : Fin 1) p q)
    = w2 (ix2 (0 : Fin 1) q) * du (ix2 p q)
      + w1 (ix2 (0 : Fin 1) q) * ahead 1 (by omega) (fun k => e (ix2 k q)) (fun k => c8 (ix3 (0 : Fin 1) k q)) p
      + w0 (ix2 (0 : Fin 1) q) * ahead 2 (by omega) (fun k => e (ix2 k q)) (fun k => c8 (ix3 (0 : Fin 1) k q)) p := by
  pointwise [k0_pay27, k0_pay26]
  simp only [ahead_sum h1 fun k => (e (ix2 k q) : EReal), ahead_sum h2 fun k => (e (ix2 k q) : EReal)]
  unfold ahead
  refine congrArg₂ (· + ·) (congrArg₂ (· + ·) rfl (congrArg₂ (· * ·) rfl ?_)) (congrArg₂ (· * ·) rfl ?_)
  · by_cases h8 : p.val < 248
    · rw [dif_pos h8, dif_pos (by omega), dif_pos (by omega)]
    · rw [dif_neg h8, sel_sge7 _ (by omega)]
      have hp := p.isLt
      by_cases h : p.val + 1 < 256
      · have e1 : 248 + (p.val - 248) + 1 < 256 := by omega
        have e2 : ¬ 7 ≤ p.val - 248 := by omega
        refine ((congrArg₂ (· + ·) (dif_pos e1) (if_neg e2)).trans (add_zero _)).trans ((dif_pos h).trans ?_).symm
        refine congrArg (fun k => (e (ix2 k q) : EReal)) (Fin.ext ?_)
        dsimp only; omega
      · have e1 : ¬ 248 + (p.val - 248) + 1 < 256 := by omega
        have e2 : 7 ≤ p.val - 248 := by omega
        refine ((congrArg₂ (· + ·) (dif_neg e1) (if_pos e2)).trans (zero_add _)).trans ((dif_neg h).trans ?_).symm
        refine congrArg (fun k => (c8 (ix3 (0 : Fin 1) k q) : EReal)) (Fin.ext ?_)
        dsimp only; omega
  · by_cases h8 : p.val < 248
    · rw [dif_pos h8, dif_pos (by omega), dif_pos (by omega)]
    · rw [dif_neg h8, sel_sge6 _ (by omega)]
      have hp := p.isLt
      by_cases h : p.val + 2 < 256
      · have e1 : 248 + (p.val - 248) + 2 < 256 := by omega
        have e2 : ¬ 6 ≤ p.val - 248 := by omega
        refine ((congrArg₂ (· + ·) (dif_pos e1) (if_neg e2)).trans (add_zero _)).trans ((dif_pos h).trans ?_).symm
        refine congrArg (fun k => (e (ix2 k q) : EReal)) (Fin.ext ?_)
        dsimp only; omega
      · have e1 : ¬ 248 + (p.val - 248) + 2 < 256 := by omega
        have e2 : 6 ≤ p.val - 248 := by omega
        refine ((congrArg₂ (· + ·) (dif_neg e1) (if_pos e2)).trans (zero_add _)).trans ((dif_neg h).trans ?_).symm
        refine congrArg (fun k => (c8 (ix3 (0 : Fin 1) k q) : EReal)) (Fin.ext ?_)
        dsimp only; omega
/-- The second half's is the same arithmetic. -/
theorem k40 (h1 : Ahead 1 A1) (h2 : Ahead 2 A2) : k0_pay40 (F := Ideal) du (k0_pay35 (F := Ideal) du A2) (k0_pay37 (F := Ideal) (iota .tc S8x1408 32 [0] iota_S8x1408_d0_w32) c8)
      (k0_pay38 (F := Ideal) du A1) (k0_pay39 (F := Ideal) du (iota .tc S8x1408 32 [0] iota_S8x1408_d0_w32) A1 c8) w2 w1 w0 (ix3 (0 : Fin 1) p q)
    = w2 (ix2 (0 : Fin 1) q) * du (ix2 p q)
      + w1 (ix2 (0 : Fin 1) q) * ahead 1 (by omega) (fun k => du (ix2 k q)) (fun k => c8 (ix3 (0 : Fin 1) k q)) p
      + w0 (ix2 (0 : Fin 1) q) * ahead 2 (by omega) (fun k => du (ix2 k q)) (fun k => c8 (ix3 (0 : Fin 1) k q)) p :=
  k27 du (k0_pay33 (F := Ideal) du) A1 A2 c8 w2 w1 w0 p q h1 h2

/-- The sums over a block's rows. -/
theorem k28 : k0_pay28 (F := Ideal) du a (ix3 (0 : Fin 1) (0 : Fin 1) q) = a (ix3 (0 : Fin 1) (0 : Fin 1) q) + ∑ k : Fin 256, du (ix2 k q) := by
  pointwise [k0_pay28]
theorem k41 : k0_pay41 (F := Ideal) du a (ix3 (0 : Fin 1) (0 : Fin 1) q) = a (ix3 (0 : Fin 1) (0 : Fin 1) q) + ∑ k : Fin 256, du (ix2 k q) := k28 du a q
theorem k29 : k0_pay29 (F := Ideal) s du a (ix3 (0 : Fin 1) (0 : Fin 1) q) = a (ix3 (0 : Fin 1) (0 : Fin 1) q) + ∑ k : Fin 256, du (ix2 k q) * s (ix2 k q) := by
  pointwise [k0_pay29]
theorem k30 : k0_pay30 (F := Ideal) s du a (ix3 (0 : Fin 1) (0 : Fin 1) q) = a (ix3 (0 : Fin 1) (0 : Fin 1) q) + ∑ k : Fin 256, du (ix2 k q) * s (ix2 k q) := k29 du s a q
theorem k31 : k0_pay31 (F := Ideal) s du a (ix3 (0 : Fin 1) (0 : Fin 1) q) = a (ix3 (0 : Fin 1) (0 : Fin 1) q) + ∑ k : Fin 256, du (ix2 k q) * s (ix2 k q) := k29 du s a q
theorem k42 : k0_pay1 (F := Ideal) (k0_pay42 (F := Ideal) s du a) (ix3 (0 : Fin 1) (0 : Fin 1) q) = a (ix3 (0 : Fin 1) (0 : Fin 1) q) + ∑ k : Fin 256, du (ix2 k q) * s (ix2 k q) := k29 du s a q
theorem k2 : k0_pay2 (F := Ideal) s du a (ix3 (0 : Fin 1) (0 : Fin 1) q) = a (ix3 (0 : Fin 1) (0 : Fin 1) q) + ∑ k : Fin 256, du (ix2 k q) * s (ix2 k q) := k29 du s a q
theorem k3 : k0_pay3 (F := Ideal) s du a (ix3 (0 : Fin 1) (0 : Fin 1) q) = a (ix3 (0 : Fin 1) (0 : Fin 1) q) + ∑ k : Fin 256, du (ix2 k q) * s (ix2 k q) := k29 du s a q

/-- The first eight rows, kept for the next block. -/
theorem k32 (o : Fin 8) : k0_pay32 (F := Ideal) du (ix3 (0 : Fin 1) o q) = du (ix2 ⟨o.val, by omega⟩ q) := by
  pointwise [k0_pay32]
theorem k4 (o : Fin 8) : k0_pay4 (F := Ideal) du (ix3 (0 : Fin 1) o q) = du (ix2 ⟨o.val, by omega⟩ q) := k32 du q o
end grads

end Cert.Conv.Ker

end
-- ==== Proof.ConvBlk.lean ====
module

public import proofs.«01_k».proof.Proof.ConvKer
public import Idealize.ShloMosaic.Lib.StableHlo.ReadAt

@[expose] public section

set_option maxRecDepth 16384

noncomputable section

/-! The blocks a grid point reads, in coordinates of the arguments. -/

namespace Cert.Conv.Ker

open Cert.Kernel22Ideal Cert.Kernel22Ideal.Gen Idealize.ShloMosaic Idealize.ShloMosaic.TcCoe Cert.Conv

/-- Where each window's block lies at each point. -/
theorem idx : ∀ t : Fin cfg0.N, win0_0.index t = ![15 - t.val % 16, t.val / 16] ∧ win0_1.index t = ![(15 - t.val % 16) * 16 - 1, t.val / 16]
    ∧ win0_2.index t = ![15 - t.val % 16, 4 + t.val / 16] ∧ win0_3.index t = ![(15 - t.val % 16) * 16 - 1, 4 + t.val / 16]
    ∧ win0_4.index t = ![15 - t.val % 16, t.val / 16] ∧ win0_5.index t = ![0, t.val / 16] ∧ win0_6.index t = ![0, 4 + t.val / 16]
    ∧ win0_7.index t = ![0, t.val / 16] ∧ win0_8.index t = ![0, 4 + t.val / 16]
    ∧ win0_9.index t = ![0, 0] ∧ win0_10.index t = ![0, 0] ∧ win0_11.index t = ![0, 0] ∧ win0_12.index t = ![0, 0]
    ∧ win0_13.index t = ![0, 15 - t.val % 16, t.val / 16] ∧ win0_14.index t = ![0, 0, t.val / 16] ∧ win0_15.index t = ![0, 0, t.val / 16] :=
  by decide +kernel

/-- A point's second coordinate. -/
theorem coord1 : ∀ t : Fin cfg0.N, (grid0.coords t 1).val = t.val % 16 := by decide +kernel

/-- The point of column block `j` and step `r`: steps go from the last rows to the first. -/
abbrev pt (j : Fin 4) (r : Fin 16) : Fin cfg0.N := ⟨j.val * 16 + r.val, by have e : cfg0.N = 64 := N_0; omega⟩
/-- The row and the column of a block's element. -/
abbrev row (r : Fin 16) (p : Fin 256) : Fin 4096 := ⟨(15 - r.val) * 256 + p.val, by omega⟩
abbrev ch (j : Fin 4) (q : Fin 1408) : Fin 5632 := ⟨j.val * 1408 + q.val, by omega⟩

theorem pt_split (t : Fin cfg0.N) : ∃ j r, t = pt j r := by
  have e : cfg0.N = 64 := N_0
  have ht := t.isLt
  exact ⟨⟨t.val / 16, by omega⟩, ⟨t.val % 16, by omega⟩, Fin.ext (by dsimp only; omega)⟩

variable (m : (ℓ : Loc nD τ sig) → Buf (Elt Ideal) ℓ) (c : Dev nD)

/-- The four arguments. -/
abbrev xA : Xt := m ((c : Thread nD τ).loc main_arg0)
abbrev dA : Dt := m ((c : Thread nD τ).loc main_arg1)
abbrev wA : Wt := m ((c : Thread nD τ).loc main_arg2)
abbrev bA : Bt := m ((c : Thread nD τ).loc main_arg3)

theorem one_or (a b : BitVec 32) (P : Prop) [Decidable P] (h : a = b ↔ P) : Scalar.select (IntOp.cmpi .eq a b) (1 : EReal) 0 = if P then 1 else 0 := by
  unfold Scalar.select
  exact if_congr (IntOp.cmpi_eq.trans h) rfl rfl
theorem ofNat_add (r k : Fin 256) (n : ℕ) (hn : n < 256) : BitVec.ofNat 32 r.val = IntOp.addi (BitVec.ofNat 32 k.val) (BitVec.ofNat 32 n) ↔ r.val = k.val + n := by
  have hr := r.isLt; have hk := k.isLt
  constructor
  · intro h
    have e := congrArg BitVec.toNat h
    simp only [IntOp.addi, BitVec.toNat_add, BitVec.toNat_ofNat] at e
    omega
  · intro h
    apply BitVec.eq_of_toNat_eq
    simp only [IntOp.addi, BitVec.toNat_add, BitVec.toNat_ofNat]
    omega
theorem V6 (r k : Fin 256) : V (F := Ideal) m c main_v6 (ix2 r k) = (if k.val + 1 = r.val then 1 else 0 : EReal) := by
  unfold V
  after_reads_at
  exact one_or _ _ _ (Iff.trans (ofNat_add r k 1 (by omega)) eq_comm)
theorem V11 (r k : Fin 256) : V (F := Ideal) m c main_v11 (ix2 r k) = (if k.val + 2 = r.val then 1 else 0 : EReal) := by
  unfold V
  after_reads_at
  exact one_or _ _ _ (Iff.trans (ofNat_add r k 2 (by omega)) eq_comm)
theorem V16 (r k : Fin 256) : V (F := Ideal) m c main_v16 (ix2 r k) = (if r.val + 1 = k.val then 1 else 0 : EReal) := by
  unfold V
  after_reads_at
  exact one_or _ _ _ (Iff.trans eq_comm (Iff.trans (ofNat_add k r 1 (by omega)) eq_comm))
theorem V21 (r k : Fin 256) : V (F := Ideal) m c main_v21 (ix2 r k) = (if r.val + 2 = k.val then 1 else 0 : EReal) := by
  unfold V
  after_reads_at
  exact one_or _ _ _ (Iff.trans eq_comm (Iff.trans (ofNat_add k r 2 (by omega)) eq_comm))

section blocks
variable (j : Fin 4) (r : Fin 16) (p : Fin 256) (q : Fin 1408)

theorem pdiv : (pt j r).val / 16 = j.val := by show (j.val * 16 + r.val) / 16 = j.val; omega
theorem pmod : (pt j r).val % 16 = r.val := by show (j.val * 16 + r.val) % 16 = r.val; omega

theorem blk0 : iblk (F := Ideal) m c 0 (pt j r) (ix2 p q) = xE (xA m c) (row r p) (col 0 (ch j q)) := by
  have hi := (idx (pt j r)).1
  unfold xE
  blk_point [iblk, V, hi]
theorem blk1 (hr : r.val < 15) (o : Fin 16) : iblk (F := Ideal) m c 1 (pt j r) (ix2 o q) = xE (xA m c) ⟨(15 - r.val) * 256 - 16 + o.val, by omega⟩ (col 0 (ch j q)) := by
  have hi := (idx (pt j r)).2.1
  unfold xE
  blk_point [iblk, V, hi]
theorem blk2 : iblk (F := Ideal) m c 2 (pt j r) (ix2 p q) = xE (xA m c) (row r p) (col 1 (ch j q)) := by
  have hi := (idx (pt j r)).2.2.1
  unfold xE
  blk_point [iblk, V, hi]
theorem blk3 (hr : r.val < 15) (o : Fin 16) : iblk (F := Ideal) m c 3 (pt j r) (ix2 o q) = xE (xA m c) ⟨(15 - r.val) * 256 - 16 + o.val, by omega⟩ (col 1 (ch j q)) := by
  have hi := (idx (pt j r)).2.2.2.1
  unfold xE
  blk_point [iblk, V, hi]
theorem blk4 : iblk (F := Ideal) m c 4 (pt j r) (ix2 p q) = dE (dA m c) (row r p) (ch j q) := by
  have hi := (idx (pt j r)).2.2.2.2.1
  unfold dE
  blk_point [iblk, V, hi]
theorem blk5 (k : Fin 3) : iblk (F := Ideal) m c 5 (pt j r) (ix2 k q) = wE (wA m c) k (col 0 (ch j q)) := by
  have hi := (idx (pt j r)).2.2.2.2.2.1
  unfold wE
  blk_point [iblk, V, hi]
theorem blk6 (k : Fin 3) : iblk (F := Ideal) m c 6 (pt j r) (ix2 k q) = wE (wA m c) k (col 1 (ch j q)) := by
  have hi := (idx (pt j r)).2.2.2.2.2.2.1
  unfold wE
  blk_point [iblk, V, hi]
theorem blk7 : iblk (F := Ideal) m c 7 (pt j r) (ix2 (0 : Fin 1) q) = bE (bA m c) (col 0 (ch j q)) := by
  have hi := (idx (pt j r)).2.2.2.2.2.2.2.1
  unfold bE
  blk_point [iblk, V, hi]
theorem blk8 : iblk (F := Ideal) m c 8 (pt j r) (ix2 (0 : Fin 1) q) = bE (bA m c) (col 1 (ch j q)) := by
  have hi := (idx (pt j r)).2.2.2.2.2.2.2.2.1
  unfold bE
  blk_point [iblk, V, hi]
theorem blk9 : Back 1 (iblk (F := Ideal) m c 9 (pt j r)) := fun a k => by
  have hi := (idx (pt j r)).2.2.2.2.2.2.2.2.2.1
  refine Eq.trans ?_ (V6 m c a k)
  blk_point [iblk, hi]
theorem blk10 : Back 2 (iblk (F := Ideal) m c 10 (pt j r)) := fun a k => by
  have hi := (idx (pt j r)).2.2.2.2.2.2.2.2.2.2.1
  refine Eq.trans ?_ (V11 m c a k)
  blk_point [iblk, hi]
theorem blk11 : Ahead 1 (iblk (F := Ideal) m c 11 (pt j r)) := fun a k => by
  have hi := (idx (pt j r)).2.2.2.2.2.2.2.2.2.2.2.1
  refine Eq.trans ?_ (V16 m c a k)
  blk_point [iblk, hi]
theorem blk12 : Ahead 2 (iblk (F := Ideal) m c 12 (pt j r)) := fun a k => by
  have hi := (idx (pt j r)).2.2.2.2.2.2.2.2.2.2.2.2.1
  refine Eq.trans ?_ (V21 m c a k)
  blk_point [iblk, hi]
end blocks

end Cert.Conv.Ker

end
-- ==== Proof.ConvPt.lean ====
module

public import proofs.«01_k».proof.Proof.ConvBlk

@[expose] public section

set_option maxRecDepth 16384

noncomputable section

/-! What one grid point computes, in terms of the arguments. -/

namespace Cert.Conv

open Idealize.ShloMosaic Cert.Swa

/-- The two ways to write the gradient through the logistic unit agree on reals. -/
theorem sg_real {u : EReal} (hu : IsR u) : IsR (sg u) := by
  obtain ⟨r, rfl⟩ := hu
  have e : sg (r : EReal) = ((1 / (1 + Real.exp (-r)) : ℝ) : EReal) := by
    unfold sg
    rw [← EReal.coe_neg, Ideal.exp_coe, ← EReal.coe_one, ← EReal.coe_add]
    exact div_real 1 (by positivity)
  exact ⟨_, e⟩
theorem silu_grad {a u : EReal} (ha : IsR a) (hu : IsR u) : a * (sg u * (1 + u * (1 - sg u))) = a * sg u + u * a * (sg u * (1 - sg u)) := by
  obtain ⟨s, hs⟩ := sg_real hu
  obtain ⟨a, rfl⟩ := ha
  obtain ⟨u, rfl⟩ := hu
  rw [hs]
  rw [← EReal.coe_one]
  simp only [← EReal.coe_mul, ← EReal.coe_sub, ← EReal.coe_add]
  congr 1
  ring

section real
variable {x : Xt} {d : Dt} {w : Wt} {b : Bt} (hx : ∀ i, IsR (x i)) (hd : ∀ i, IsR (d i)) (hw : ∀ i, IsR (w i)) (hb : ∀ i, IsR (b i))
include hx
theorem sh_real (n : ℕ) (s : Fin 4096) (j : Fin 11264) : IsR (sh x n s j) := by
  unfold sh
  split_ifs
  · exact hx _
  · exact isR_zero
include hw hb
theorem U_real (s : Fin 4096) (j : Fin 11264) : IsR (U x w b s j) :=
  (((hb _).add ((hw _).mul (sh_real hx _ _ _))).add ((hw _).mul (sh_real hx _ _ _))).add ((hw _).mul (hx _))
end real
end Cert.Conv

namespace Cert.Conv.Ker

open Cert.Kernel22Ideal Cert.Kernel22Ideal.Gen Idealize.ShloMosaic Idealize.ShloMosaic.TcCoe Cert.Conv Cert.Swa

variable (m : (ℓ : Loc nD τ sig) → Buf (Elt Ideal) ℓ) (c : Dev nD)

/-- The rows before a block's, whichever block they lie in. -/
theorem back_sh (x : Xt) (n : ℕ) (hn : n ≤ 2) (hn1 : 1 ≤ n) (h : Fin 11264) (j : Fin 4) (r : Fin 16) (X : FVec Ideal S256x1408 .bf16) (H : FVec Ideal S16x1408 .bf16) (q : Fin 1408)
    (hX : ∀ p : Fin 256, X (ix2 p q) = xE x (row r p) h)
    (hH : ∀ (_ : r.val < 15) (o : Fin 16), H (ix2 o q) = xE x ⟨(15 - r.val) * 256 - 16 + o.val, by omega⟩ h) (p : Fin 256) :
    back n hn (Scalar.cmpi .eq (BitVec.ofNat 32 (grid0.coords (pt j r) 1).val) 15#32) X H p q = sh x n (row r p) h := by
  have hp := p.isLt; have hr := r.isLt
  unfold back sh
  by_cases h1 : n ≤ p.val
  · have e : n ≤ (15 - r.val) * 256 + p.val := by omega
    rw [dif_pos h1, dif_pos e, hX]
    refine congrArg (fun s => xE x s h) (Fin.ext ?_)
    dsimp only; omega
  · rw [dif_neg h1, coord1, pmod]
    by_cases h15 : r.val = 15
    · have e : ¬ n ≤ (15 - r.val) * 256 + p.val := by omega
      rw [dif_neg e, h15]
      rfl
    · have e : n ≤ (15 - r.val) * 256 + p.val := by omega
      rw [dif_pos e]
      have hs : Scalar.cmpi .eq (BitVec.ofNat 32 r.val) 15#32 = 0#1 :=
        (by decide : ∀ r : Fin 16, r.val ≠ 15 → Scalar.cmpi .eq (BitVec.ofNat 32 r.val) 15#32 = 0#1) r h15
      rw [hs]
      refine Eq.trans (b := (H (ix2 ⟨16 + p.val - n, by omega⟩ q) : EReal)) rfl ?_
      rw [hH (by omega)]
      refine congrArg (fun s => xE x s h) (Fin.ext ?_)
      dsimp only; omega

section ld
variable (X : Vec Ideal S3x1408 .f32) (q : Fin 1408)
/-- A row of the taps. -/
abbrev tap0 : Vec Ideal S1x1408 .f32 := View.ld X (Rect.unit ![0, 0] ![1, 1408] inb_S3x1408_S1x1408_0_0)
abbrev tap1 : Vec Ideal S1x1408 .f32 := View.ld X (Rect.unit ![1, 0] ![1, 1408] inb_S3x1408_S1x1408_1_0)
abbrev tap2 : Vec Ideal S1x1408 .f32 := View.ld X (Rect.unit ![2, 0] ![1, 1408] inb_S3x1408_S1x1408_2_0)
theorem ld_0 : tap0 X (ix2 (0 : Fin 1) q) = X (ix2 (0 : Fin 3) q) := by
  unfold tap0
  pointwise []
theorem ld_1 : tap1 X (ix2 (0 : Fin 1) q) = X (ix2 (1 : Fin 3) q) := by
  unfold tap1
  pointwise []
theorem ld_2 : tap2 X (ix2 (0 : Fin 1) q) = X (ix2 (2 : Fin 3) q) := by
  unfold tap2
  pointwise []
end ld

/-- The shifted inputs and the gradients at the convolution's outputs, as the point computes them. -/
abbrev fst (t : Fin cfg0.N) : BitVec 1 := Scalar.cmpi .eq (BitVec.ofNat 32 (grid0.coords t 1).val) 15#32
def s11 (t : Fin cfg0.N) : FVec Ideal S256x1408 .f32 := k0_pay13 (F := Ideal) (grid0.coords t) (iblk m c 0 t) (iblk m c 9 t) (iblk m c 1 t)
def s12 (t : Fin cfg0.N) : FVec Ideal S256x1408 .f32 := k0_pay15 (F := Ideal) (k0_pay10 (F := Ideal) (iblk m c 0 t) (iblk m c 10 t)) (k0_pay12 (F := Ideal) (grid0.coords t) (iblk m c 1 t)) (k0_pay14 (F := Ideal) (iblk m c 0 t) (iblk m c 10 t))
def s21 (t : Fin cfg0.N) : FVec Ideal S256x1408 .f32 := k0_pay17 (F := Ideal) (fst t) (iblk m c 2 t) (iblk m c 9 t) (iblk m c 3 t)
def s22 (t : Fin cfg0.N) : FVec Ideal S256x1408 .f32 := k0_pay18 (F := Ideal) (fst t) (iblk m c 2 t) (iblk m c 10 t) (iblk m c 3 t)
def v73 (t : Fin cfg0.N) : FVec Ideal S256x1408 .f32 := k0_pay19 (F := Ideal) (k0_pay10 (F := Ideal) (iblk m c 0 t) (iblk m c 10 t)) (k0_pay12 (F := Ideal) (grid0.coords t) (iblk m c 1 t)) (k0_pay14 (F := Ideal) (iblk m c 0 t) (iblk m c 10 t)) (iblk m c 7 t)
  (tap0 (iblk m c 5 t))
def du1 (t : Fin cfg0.N) : FVec Ideal S256x1408 .f32 := k0_pay23 (F := Ideal) (k0_pay8 (F := Ideal) (iblk m c 0 t)) (k0_pay9 (F := Ideal) (iblk m c 2 t)) (s11 m c t) (s21 m c t) (s22 m c t) (v73 m c t)
  (tap1 (iblk m c 5 t)) (tap2 (iblk m c 5 t)) (iblk m c 8 t)
  (tap0 (iblk m c 6 t)) (tap1 (iblk m c 6 t))
  (tap2 (iblk m c 6 t)) (iblk m c 4 t)
def du2 (t : Fin cfg0.N) : FVec Ideal S256x1408 .f32 := k0_pay24 (F := Ideal) (k0_pay8 (F := Ideal) (iblk m c 0 t)) (s11 m c t) (v73 m c t)
  (tap1 (iblk m c 5 t)) (tap2 (iblk m c 5 t)) (iblk m c 4 t)

section vals
variable (j : Fin 4) (r : Fin 16) (p : Fin 256) (q : Fin 1408)

theorem s11_at : s11 m c (pt j r) (ix2 p q) = sh (xA m c) 1 (row r p) (col 0 (ch j q)) :=
  (k13 _ _ _ _ (blk9 m c j r) p q).trans (back_sh (xA m c) 1 (by omega) (by omega) _ j r _ _ q (fun p => blk0 m c j r p q) (fun h o => blk1 m c j r q h o) p)
theorem s12_at : s12 m c (pt j r) (ix2 p q) = sh (xA m c) 2 (row r p) (col 0 (ch j q)) :=
  (k15 _ _ _ _ (blk10 m c j r) p q).trans (back_sh (xA m c) 2 (by omega) (by omega) _ j r _ _ q (fun p => blk0 m c j r p q) (fun h o => blk1 m c j r q h o) p)
theorem s21_at : s21 m c (pt j r) (ix2 p q) = sh (xA m c) 1 (row r p) (col 1 (ch j q)) :=
  (k17 _ _ _ _ (blk9 m c j r) p q).trans (back_sh (xA m c) 1 (by omega) (by omega) _ j r _ _ q (fun p => blk2 m c j r p q) (fun h o => blk3 m c j r q h o) p)
theorem s22_at : s22 m c (pt j r) (ix2 p q) = sh (xA m c) 2 (row r p) (col 1 (ch j q)) :=
  (k18 _ _ _ _ (blk10 m c j r) p q).trans (back_sh (xA m c) 2 (by omega) (by omega) _ j r _ _ q (fun p => blk2 m c j r p q) (fun h o => blk3 m c j r q h o) p)
theorem w1_at (k : Fin 3) : iblk (F := Ideal) m c 5 (pt j r) (ix2 k q) = wE (wA m c) k (col 0 (ch j q)) := blk5 m c j r q k

/-- The gate's input. -/
theorem u1_at : k0_pay20 (F := Ideal) (k0_pay8 (F := Ideal) (iblk m c 0 (pt j r))) (s11 m c (pt j r)) (v73 m c (pt j r))
      (tap1 (iblk m c 5 (pt j r))) (tap2 (iblk m c 5 (pt j r))) (ix2 p q)
    = U (xA m c) (wA m c) (bA m c) (row r p) (col 0 (ch j q)) := by
  have e73 : v73 m c (pt j r) (ix2 p q) = bE (bA m c) (col 0 (ch j q)) + wE (wA m c) 0 (col 0 (ch j q)) * sh (xA m c) 2 (row r p) (col 0 (ch j q)) := by
    refine (k19 _ _ p q _ _ _ _).trans ?_
    exact congrArg₂ (· + ·) (blk7 m c j r q) (congrArg₂ (· * ·) ((ld_0 _ q).trans (blk5 m c j r q 0)) (s12_at m c j r p q))
  refine (k20 _ _ _ _ _ p q).trans ?_
  exact congrArg₂ (· + ·) (congrArg₂ (· + ·) e73 (congrArg₂ (· * ·) ((ld_1 _ q).trans (blk5 m c j r q 1)) (s11_at m c j r p q)))
    (congrArg₂ (· * ·) ((ld_2 _ q).trans (blk5 m c j r q 2)) (blk0 m c j r p q))

/-- The second half's gradient. -/
theorem du2_at : du2 m c (pt j r) (ix2 p q) = DU (xA m c) (dA m c) (wA m c) (bA m c) 1 (row r p) (ch j q) := by
  refine (k24 _ _ _ _ _ _ p q).trans ?_
  rw [u1_at, mul_comm]
  exact congrArg₂ (· * ·) rfl (blk4 m c j r p q)

/-- The first half's, on reals. -/
theorem du1_at (hx : ∀ i, IsR (xA m c i)) (hd : ∀ i, IsR (dA m c i)) (hw : ∀ i, IsR (wA m c i)) (hb : ∀ i, IsR (bA m c i)) :
    du1 m c (pt j r) (ix2 p q) = DU (xA m c) (dA m c) (wA m c) (bA m c) 0 (row r p) (ch j q) := by
  refine (k23 _ _ _ _ _ _ _ _ _ _ _ _ _ p q).trans ?_
  rw [u1_at]
  refine Eq.trans (congrArg₂ (· * ·) (congrArg₂ (· * ·) (blk4 m c j r p q) (y' := U (xA m c) (wA m c) (bA m c) (row r p) (col 1 (ch j q))) ?_) rfl) ?_
  · exact congrArg₂ (· + ·) (congrArg₂ (· + ·) (congrArg₂ (· + ·) (blk8 m c j r q) (congrArg₂ (· * ·) ((ld_0 _ q).trans (blk6 m c j r q 0)) (s22_at m c j r p q)))
      (congrArg₂ (· * ·) ((ld_1 _ q).trans (blk6 m c j r q 1)) (s21_at m c j r p q)))
      (congrArg₂ (· * ·) ((ld_2 _ q).trans (blk6 m c j r q 2)) (blk2 m c j r p q))
  · exact silu_grad ((hd _).mul (U_real hx hw hb _ _)) (U_real hx hw hb _ _)
end vals

end Cert.Conv.Ker

end
-- ==== Proof.ConvRun.lean ====
module

public import proofs.«01_k».proof.Proof.ConvPt
public import Idealize.ShloMosaic.Lib.Pipeline.ReadBack

@[expose] public section

set_option maxRecDepth 16384

noncomputable section

/-! What the grid leaves in its output windows and in its scratch, point by point. -/

namespace Cert.Conv.Ker

open Cert.Kernel22Ideal Cert.Kernel22Ideal.Gen Idealize.ShloMosaic Idealize.ShloMosaic.TcCoe Cert.Conv Cert.Swa

/-- The first `n` stores of a list, if each is a block of one function, decide what it holds where they reach. -/
theorem canon_take {s : Shape} {e : EltTy} (n : ℕ) (G : s.Idx → Elt Ideal e) (L : List (View.Piece (Elt Ideal) s e)) (y : s.Idx)
    (h : View.PiecesOf G (L.take n)) (hc : ∃ p ∈ L.take n, y ∈ p.1.set) : View.canon L y = G y := by
  conv_lhs => rw [← List.take_append_drop n L]
  exact View.canon_append_of_piecesOf G _ _ h y hc

theorem ixs1 (x : S1x1x1408.Idx) : ∃ q : Fin 1408, x = ix3 (0 : Fin 1) (0 : Fin 1) q :=
  ⟨x 2, (ValueIdx.eq_ix3 (n0 := 1) (n1 := 1) (n2 := 1408) x).trans (congrArg₂ (fun o o' : Fin 1 => ix3 o o' (x 2)) (Subsingleton.elim _ _) (Subsingleton.elim _ _))⟩
theorem ixs8 (x : S1x8x1408.Idx) : ∃ (o : Fin 8) (q : Fin 1408), x = ix3 (0 : Fin 1) o q :=
  ⟨x 1, x 2, (ValueIdx.eq_ix3 (n0 := 1) (n1 := 8) (n2 := 1408) x).trans (congrArg (fun o : Fin 1 => ix3 o (x 1) (x 2)) (Subsingleton.elim _ _))⟩
theorem ixs256 (x : S1x256x1408.Idx) : ∃ (o : Fin 256) (q : Fin 1408), x = ix3 (0 : Fin 1) o q :=
  ⟨x 1, x 2, (ValueIdx.eq_ix3 (n0 := 1) (n1 := 256) (n2 := 1408) x).trans (congrArg (fun o : Fin 1 => ix3 o (x 1) (x 2)) (Subsingleton.elim _ _))⟩

section ld
/-- A rectangle of each buffer, in the buffer's coordinates. -/
theorem lw00 (X : Vec Ideal S2x3x1408 .f32) (q : Fin 1408) : (View.ld X (Rect.unit ![0, 0, 0] ![1, 1, 1408] inb_S2x3x1408_S1x1x1408_0_0_0) : Vec Ideal S1x1x1408 .f32) (ix3 (0 : Fin 1) (0 : Fin 1) q) = X (ix3 (0 : Fin 2) (0 : Fin 3) q) := by
  pointwise []
theorem lw01 (X : Vec Ideal S2x3x1408 .f32) (q : Fin 1408) : (View.ld X (Rect.unit ![0, 1, 0] ![1, 1, 1408] inb_S2x3x1408_S1x1x1408_0_1_0) : Vec Ideal S1x1x1408 .f32) (ix3 (0 : Fin 1) (0 : Fin 1) q) = X (ix3 (0 : Fin 2) (1 : Fin 3) q) := by
  pointwise []
theorem lw02 (X : Vec Ideal S2x3x1408 .f32) (q : Fin 1408) : (View.ld X (Rect.unit ![0, 2, 0] ![1, 1, 1408] inb_S2x3x1408_S1x1x1408_0_2_0) : Vec Ideal S1x1x1408 .f32) (ix3 (0 : Fin 1) (0 : Fin 1) q) = X (ix3 (0 : Fin 2) (2 : Fin 3) q) := by
  pointwise []
theorem lb0 (X : Vec Ideal S2x1x1408 .f32) (q : Fin 1408) : (View.ld X (Rect.unit ![0, 0, 0] ![1, 1, 1408] inb_S2x1x1408_S1x1x1408_0_0_0) : Vec Ideal S1x1x1408 .f32) (ix3 (0 : Fin 1) (0 : Fin 1) q) = X (ix3 (0 : Fin 2) (0 : Fin 1) q) := by
  pointwise []
theorem lc0 (X : Vec Ideal S2x8x1408 .f32) (a : Fin 8) (q : Fin 1408) : (View.ld X (Rect.unit ![0, 0, 0] ![1, 8, 1408] inb_S2x8x1408_S1x8x1408_0_0_0) : Vec Ideal S1x8x1408 .f32) (ix3 (0 : Fin 1) a q) = X (ix3 (0 : Fin 2) a q) := by
  pointwise []
theorem lx0 (X : Vec Ideal S2x256x1408 .bf16) (a : Fin 256) (q : Fin 1408) : (View.ld X (Rect.unit ![0, 0, 0] ![1, 256, 1408] inb_S2x256x1408_S1x256x1408_0_0_0) : Vec Ideal S1x256x1408 .bf16) (ix3 (0 : Fin 1) a q) = X (ix3 (0 : Fin 2) a q) := by
  pointwise []
theorem lw10 (X : Vec Ideal S2x3x1408 .f32) (q : Fin 1408) : (View.ld X (Rect.unit ![1, 0, 0] ![1, 1, 1408] inb_S2x3x1408_S1x1x1408_1_0_0) : Vec Ideal S1x1x1408 .f32) (ix3 (0 : Fin 1) (0 : Fin 1) q) = X (ix3 (1 : Fin 2) (0 : Fin 3) q) := by
  pointwise []
theorem lw11 (X : Vec Ideal S2x3x1408 .f32) (q : Fin 1408) : (View.ld X (Rect.unit ![1, 1, 0] ![1, 1, 1408] inb_S2x3x1408_S1x1x1408_1_1_0) : Vec Ideal S1x1x1408 .f32) (ix3 (0 : Fin 1) (0 : Fin 1) q) = X (ix3 (1 : Fin 2) (1 : Fin 3) q) := by
  pointwise []
theorem lw12 (X : Vec Ideal S2x3x1408 .f32) (q : Fin 1408) : (View.ld X (Rect.unit ![1, 2, 0] ![1, 1, 1408] inb_S2x3x1408_S1x1x1408_1_2_0) : Vec Ideal S1x1x1408 .f32) (ix3 (0 : Fin 1) (0 : Fin 1) q) = X (ix3 (1 : Fin 2) (2 : Fin 3) q) := by
  pointwise []
theorem lb1 (X : Vec Ideal S2x1x1408 .f32) (q : Fin 1408) : (View.ld X (Rect.unit ![1, 0, 0] ![1, 1, 1408] inb_S2x1x1408_S1x1x1408_1_0_0) : Vec Ideal S1x1x1408 .f32) (ix3 (0 : Fin 1) (0 : Fin 1) q) = X (ix3 (1 : Fin 2) (0 : Fin 1) q) := by
  pointwise []
theorem lc1 (X : Vec Ideal S2x8x1408 .f32) (a : Fin 8) (q : Fin 1408) : (View.ld X (Rect.unit ![1, 0, 0] ![1, 8, 1408] inb_S2x8x1408_S1x8x1408_1_0_0) : Vec Ideal S1x8x1408 .f32) (ix3 (0 : Fin 1) a q) = X (ix3 (1 : Fin 2) a q) := by
  pointwise []
theorem lx1 (X : Vec Ideal S2x256x1408 .bf16) (a : Fin 256) (q : Fin 1408) : (View.ld X (Rect.unit ![1, 0, 0] ![1, 256, 1408] inb_S2x256x1408_S1x256x1408_1_0_0) : Vec Ideal S1x256x1408 .bf16) (ix3 (0 : Fin 1) a q) = X (ix3 (1 : Fin 2) a q) := by
  pointwise []
theorem z5 (i : S2x3x1408.Idx) : k0_pay5 (F := Ideal) i = 0 := by
  rw [ValueIdx.eq_ix3 (n0 := 2) (n1 := 3) (n2 := 1408) i]
  pointwise [k0_pay5]
theorem z6 (i : S2x1x1408.Idx) : k0_pay6 (F := Ideal) i = 0 := by
  rw [ValueIdx.eq_ix3 (n0 := 2) (n1 := 1) (n2 := 1408) i]
  pointwise [k0_pay6]
theorem z7 (i : S2x8x1408.Idx) : k0_pay7 (F := Ideal) i = 0 := by
  rw [ValueIdx.eq_ix3 (n0 := 2) (n1 := 8) (n2 := 1408) i]
  pointwise [k0_pay7]
theorem w_mem00 (q : Fin 1408) : (ix3 (0 : Fin 2) (0 : Fin 3) q : S2x3x1408.Idx) ∈ (Rect.unit (s := S2x3x1408) ![0, 0, 0] ![1, 1, 1408] inb_S2x3x1408_S1x1x1408_0_0_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem w_mem01 (q : Fin 1408) : (ix3 (0 : Fin 2) (1 : Fin 3) q : S2x3x1408.Idx) ∈ (Rect.unit (s := S2x3x1408) ![0, 1, 0] ![1, 1, 1408] inb_S2x3x1408_S1x1x1408_0_1_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem w_mem02 (q : Fin 1408) : (ix3 (0 : Fin 2) (2 : Fin 3) q : S2x3x1408.Idx) ∈ (Rect.unit (s := S2x3x1408) ![0, 2, 0] ![1, 1, 1408] inb_S2x3x1408_S1x1x1408_0_2_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem b_mem0 (o : Fin 1) (q : Fin 1408) : (ix3 (0 : Fin 2) o q : S2x1x1408.Idx) ∈ (Rect.unit (s := S2x1x1408) ![0, 0, 0] ![1, 1, 1408] inb_S2x1x1408_S1x1x1408_0_0_0).set :=
  Rect.mem_set_unit.2 fun a => by
    fin_cases a
    · exact ⟨Nat.le_refl _, Nat.lt_succ_self _⟩
    · exact ⟨Nat.zero_le _, by have := o.isLt; show o.val < 0 + 1; omega⟩
    · exact ⟨Nat.zero_le _, by have := q.isLt; show q.val < 0 + 1408; omega⟩
theorem c_mem0 (o : Fin 8) (q : Fin 1408) : (ix3 (0 : Fin 2) o q : S2x8x1408.Idx) ∈ (Rect.unit (s := S2x8x1408) ![0, 0, 0] ![1, 8, 1408] inb_S2x8x1408_S1x8x1408_0_0_0).set :=
  Rect.mem_set_unit.2 fun a => by
    fin_cases a
    · exact ⟨Nat.le_refl _, Nat.lt_succ_self _⟩
    · exact ⟨Nat.zero_le _, by have := o.isLt; show o.val < 0 + 8; omega⟩
    · exact ⟨Nat.zero_le _, by have := q.isLt; show q.val < 0 + 1408; omega⟩
theorem x_mem0 (o : Fin 256) (q : Fin 1408) : (ix3 (0 : Fin 2) o q : S2x256x1408.Idx) ∈ (Rect.unit (s := S2x256x1408) ![0, 0, 0] ![1, 256, 1408] inb_S2x256x1408_S1x256x1408_0_0_0).set :=
  Rect.mem_set_unit.2 fun a => by
    fin_cases a
    · exact ⟨Nat.le_refl _, Nat.lt_succ_self _⟩
    · exact ⟨Nat.zero_le _, by have := o.isLt; show o.val < 0 + 256; omega⟩
    · exact ⟨Nat.zero_le _, by have := q.isLt; show q.val < 0 + 1408; omega⟩
theorem w_mem10 (q : Fin 1408) : (ix3 (1 : Fin 2) (0 : Fin 3) q : S2x3x1408.Idx) ∈ (Rect.unit (s := S2x3x1408) ![1, 0, 0] ![1, 1, 1408] inb_S2x3x1408_S1x1x1408_1_0_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem w_mem11 (q : Fin 1408) : (ix3 (1 : Fin 2) (1 : Fin 3) q : S2x3x1408.Idx) ∈ (Rect.unit (s := S2x3x1408) ![1, 1, 0] ![1, 1, 1408] inb_S2x3x1408_S1x1x1408_1_1_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem w_mem12 (q : Fin 1408) : (ix3 (1 : Fin 2) (2 : Fin 3) q : S2x3x1408.Idx) ∈ (Rect.unit (s := S2x3x1408) ![1, 2, 0] ![1, 1, 1408] inb_S2x3x1408_S1x1x1408_1_2_0).set :=
  Rect.mem_set_unit.2 fun a => by
    fin_cases a
    · exact ⟨Nat.le_refl _, Nat.lt_succ_self _⟩
    · exact ⟨Nat.le_refl _, Nat.lt_succ_self _⟩
    · exact ⟨Nat.zero_le _, by have := q.isLt; show q.val < 0 + 1408; omega⟩
theorem b_mem1 (o : Fin 1) (q : Fin 1408) : (ix3 (1 : Fin 2) o q : S2x1x1408.Idx) ∈ (Rect.unit (s := S2x1x1408) ![1, 0, 0] ![1, 1, 1408] inb_S2x1x1408_S1x1x1408_1_0_0).set :=
  Rect.mem_set_unit.2 fun a => by
    fin_cases a
    · exact ⟨Nat.le_refl _, Nat.lt_succ_self _⟩
    · exact ⟨Nat.zero_le _, by have := o.isLt; show o.val < 0 + 1; omega⟩
    · exact ⟨Nat.zero_le _, by have := q.isLt; show q.val < 0 + 1408; omega⟩
theorem c_mem1 (o : Fin 8) (q : Fin 1408) : (ix3 (1 : Fin 2) o q : S2x8x1408.Idx) ∈ (Rect.unit (s := S2x8x1408) ![1, 0, 0] ![1, 8, 1408] inb_S2x8x1408_S1x8x1408_1_0_0).set :=
  Rect.mem_set_unit.2 fun a => by
    fin_cases a
    · exact ⟨Nat.le_refl _, Nat.lt_succ_self _⟩
    · exact ⟨Nat.zero_le _, by have := o.isLt; show o.val < 0 + 8; omega⟩
    · exact ⟨Nat.zero_le _, by have := q.isLt; show q.val < 0 + 1408; omega⟩
theorem x_mem1 (o : Fin 256) (q : Fin 1408) : (ix3 (1 : Fin 2) o q : S2x256x1408.Idx) ∈ (Rect.unit (s := S2x256x1408) ![1, 0, 0] ![1, 256, 1408] inb_S2x256x1408_S1x256x1408_1_0_0).set :=
  Rect.mem_set_unit.2 fun a => by
    fin_cases a
    · exact ⟨Nat.le_refl _, Nat.lt_succ_self _⟩
    · exact ⟨Nat.zero_le _, by have := o.isLt; show o.val < 0 + 256; omega⟩
    · exact ⟨Nat.zero_le _, by have := q.isLt; show q.val < 0 + 1408; omega⟩
end ld

variable (m : (ℓ : Loc nD τ sig) → Buf (Elt Ideal) ℓ) (c : Dev nD)

/-- What one block adds to the taps' and to the bias' gradients. -/
def gW (j : Fin 4) (r : Fin 16) (h : Fin 2) (k : Fin 3) (q : Fin 1408) : EReal :=
  ∑ p : Fin 256, DU (xA m c) (dA m c) (wA m c) (bA m c) h (row r p) (ch j q) * sh (xA m c) (2 - k.val) (row r p) (col h (ch j q))
def gB (j : Fin 4) (r : Fin 16) (h : Fin 2) (q : Fin 1408) : EReal :=
  ∑ p : Fin 256, DU (xA m c) (dA m c) (wA m c) (bA m c) h (row r p) (ch j q)

theorem sh_z (x : Xt) (s : Fin 4096) (j : Fin 11264) : sh x 0 s j = xE x s j := dif_pos (Nat.zero_le _)
/-- An array with a term added at each place. -/
def totW (P : Vec Ideal S2x3x1408 .f32) (g : Fin 2 → Fin 3 → Fin 1408 → EReal) : Vec Ideal S2x3x1408 .f32 := fun y => P y + g (y 0) (y 1) (y 2)
def totB (P : Vec Ideal S2x1x1408 .f32) (g : Fin 2 → Fin 1408 → EReal) : Vec Ideal S2x1x1408 .f32 := fun y => P y + g (y 0) (y 2)
/-- The rows a point keeps for the next, and the block of the inputs' gradient it writes. -/
def keep (j : Fin 4) (r : Fin 16) : Vec Ideal S2x8x1408 .f32 := fun y => DU (xA m c) (dA m c) (wA m c) (bA m c) (y 0) (row r ⟨(y 1).val, lt_trans (y 1).isLt (by decide)⟩) (ch j (y 2))
def dxB (j : Fin 4) (r : Fin 16) : Vec Ideal S2x256x1408 .bf16 := fun y => DX (xA m c) (dA m c) (wA m c) (bA m c) (y 0) (row r (y 1)) (ch j (y 2))

/-- The gradient in the row `n` after: from the block, or from the rows kept. -/
theorem ahead_DUn (n : ℕ) (hn : n ≤ 2) (j : Fin 4) (r : Fin 16) (h : Fin 2) (q : Fin 1408) (e : Fin 256 → EReal) (c8 : Fin 8 → EReal)
    (he : ∀ k, e k = DU (xA m c) (dA m c) (wA m c) (bA m c) h (row r k) (ch j q))
    (hc : ∀ o : Fin 8, c8 o = DUn (xA m c) (dA m c) (wA m c) (bA m c) h ((16 - r.val) * 256 + o.val) (ch j q)) (p : Fin 256) :
    ahead n hn e c8 p = DUn (xA m c) (dA m c) (wA m c) (bA m c) h ((row r p).val + n) (ch j q) := by
  have hp := p.isLt; have hr := r.isLt
  unfold ahead
  by_cases h1 : p.val + n < 256
  · have e1 : (15 - r.val) * 256 + p.val + n < 4096 := by omega
    rw [dif_pos h1, he]
    refine Eq.symm ((dif_pos e1).trans ?_)
    refine congrArg (fun s => DU (xA m c) (dA m c) (wA m c) (bA m c) h s (ch j q)) (Fin.ext ?_)
    dsimp only; omega
  · rw [dif_neg h1, hc]
    refine congrArg (fun s => DUn (xA m c) (dA m c) (wA m c) (bA m c) h s (ch j q)) ?_
    dsimp only; omega

end Cert.Conv.Ker

end
-- ==== Proof.ConvW.lean ====
module

public import proofs.«01_k».proof.Proof.ConvRun

@[expose] public section

set_option maxRecDepth 16384

noncomputable section

/-! The taps' gradient: what one block adds, at the first block of a column and after. -/

namespace Cert.Conv.Ker

open Cert.Kernel22Ideal Cert.Kernel22Ideal.Gen Idealize.ShloMosaic Idealize.ShloMosaic.TcCoe Cert.Conv Cert.Swa

variable (m : (ℓ : Loc nD τ sig) → Buf (Elt Ideal) ℓ) (c : Dev nD)

section steps
variable (hx : ∀ i, IsR (xA m c i)) (hd : ∀ i, IsR (dA m c i)) (hw : ∀ i, IsR (wA m c i)) (hb : ∀ i, IsR (bA m c i))
include hx hd hw hb

theorem w14_B (j : Fin 4) (r : Fin 16) (hr : ¬ r.val = 0) (h : Fin 2) (k : Fin 3) (q : Fin 1408) : (outsAt0 m c (pt j r).val (pt j r).isLt).2.1 (ix3 h k q)
    = (outsAt0 m c ((pt j r).val - 1) (Nat.lt_of_le_of_lt (Nat.sub_le _ _) (pt j r).isLt)).2.1 (ix3 h k q) + gW m c j r h k q := by
  rw [outsAt0_B m c (pt j r) (by rw [pmod]; exact hr)]
  frame_out
  refine canon_take 6 (totW ((outsAt0 m c ((pt j r).val - 1) (Nat.lt_of_le_of_lt (Nat.sub_le _ _) (pt j r).isLt)).2.1) (gW m c j r)) _ _ ⟨fun x => ?_, fun x => ?_, fun x => ?_, fun x => ?_, fun x => ?_, fun x => ?_, trivial⟩ ?_
  · obtain ⟨a, rfl⟩ := ixs1 x
    refine Eq.trans ?_ (lw12 (totW ((outsAt0 m c ((pt j r).val - 1) (Nat.lt_of_le_of_lt (Nat.sub_le _ _) (pt j r).isLt)).2.1) (gW m c j r)) a).symm
    exact (k3 _ _ _ a).trans (congrArg₂ (· + ·) (lw12 _ a) (Finset.sum_congr rfl fun p _ => congrArg₂ (· * ·) (du2_at m c j r p a) ((blk2 m c j r p a).trans (sh_z _ _ _).symm)))
  · obtain ⟨a, rfl⟩ := ixs1 x
    refine Eq.trans ?_ (lw11 (totW ((outsAt0 m c ((pt j r).val - 1) (Nat.lt_of_le_of_lt (Nat.sub_le _ _) (pt j r).isLt)).2.1) (gW m c j r)) a).symm
    exact (k2 _ _ _ a).trans (congrArg₂ (· + ·) (lw11 _ a) (Finset.sum_congr rfl fun p _ => congrArg₂ (· * ·) (du2_at m c j r p a) (s21_at m c j r p a)))
  · obtain ⟨a, rfl⟩ := ixs1 x
    refine Eq.trans ?_ (lw10 (totW ((outsAt0 m c ((pt j r).val - 1) (Nat.lt_of_le_of_lt (Nat.sub_le _ _) (pt j r).isLt)).2.1) (gW m c j r)) a).symm
    exact (k42 _ _ _ a).trans (congrArg₂ (· + ·) (lw10 _ a) (Finset.sum_congr rfl fun p _ => congrArg₂ (· * ·) (du2_at m c j r p a) (s22_at m c j r p a)))
  · obtain ⟨a, rfl⟩ := ixs1 x
    refine Eq.trans ?_ (lw02 (totW ((outsAt0 m c ((pt j r).val - 1) (Nat.lt_of_le_of_lt (Nat.sub_le _ _) (pt j r).isLt)).2.1) (gW m c j r)) a).symm
    exact (k31 _ _ _ a).trans (congrArg₂ (· + ·) (lw02 _ a) (Finset.sum_congr rfl fun p _ => congrArg₂ (· * ·) (du1_at m c j r p a hx hd hw hb) ((blk0 m c j r p a).trans (sh_z _ _ _).symm)))
  · obtain ⟨a, rfl⟩ := ixs1 x
    refine Eq.trans ?_ (lw01 (totW ((outsAt0 m c ((pt j r).val - 1) (Nat.lt_of_le_of_lt (Nat.sub_le _ _) (pt j r).isLt)).2.1) (gW m c j r)) a).symm
    exact (k30 _ _ _ a).trans (congrArg₂ (· + ·) (lw01 _ a) (Finset.sum_congr rfl fun p _ => congrArg₂ (· * ·) (du1_at m c j r p a hx hd hw hb) (s11_at m c j r p a)))
  · obtain ⟨a, rfl⟩ := ixs1 x
    refine Eq.trans ?_ (lw00 (totW ((outsAt0 m c ((pt j r).val - 1) (Nat.lt_of_le_of_lt (Nat.sub_le _ _) (pt j r).isLt)).2.1) (gW m c j r)) a).symm
    exact (k29 _ _ _ a).trans (congrArg₂ (· + ·) (lw00 _ a) (Finset.sum_congr rfl fun p _ => congrArg₂ (· * ·) (du1_at m c j r p a hx hd hw hb) (s12_at m c j r p a)))
  · fin_cases h <;> fin_cases k
    · exact ⟨_, List.mem_cons_of_mem _ (List.mem_cons_of_mem _ (List.mem_cons_of_mem _ (List.mem_cons_of_mem _ (List.mem_cons_of_mem _ (List.mem_cons_self))))), w_mem00 q⟩
    · exact ⟨_, List.mem_cons_of_mem _ (List.mem_cons_of_mem _ (List.mem_cons_of_mem _ (List.mem_cons_of_mem _ (List.mem_cons_self)))), w_mem01 q⟩
    · exact ⟨_, List.mem_cons_of_mem _ (List.mem_cons_of_mem _ (List.mem_cons_of_mem _ (List.mem_cons_self))), w_mem02 q⟩
    · exact ⟨_, List.mem_cons_of_mem _ (List.mem_cons_of_mem _ (List.mem_cons_self)), w_mem10 q⟩
    · exact ⟨_, List.mem_cons_of_mem _ (List.mem_cons_self), w_mem11 q⟩
    · exact ⟨_, List.mem_cons_self, w_mem12 q⟩
theorem w14_A (j : Fin 4) (r : Fin 16) (hr : r.val = 0) (h : Fin 2) (k : Fin 3) (q : Fin 1408) : (outsAt0 m c (pt j r).val (pt j r).isLt).2.1 (ix3 h k q)
    = (k0_pay5 (F := Ideal)) (ix3 h k q) + gW m c j r h k q := by
  rw [outsAt0_A m c (pt j r) (by rw [pmod]; exact hr)]
  frame_open
  simp (disch := decide) only [↓ View.readCov_skip, ↓ View.readCov_cons_toLoadRect, ↓ View.readCov_fill]
  frame_out
  refine canon_take 6 (totW (k0_pay5 (F := Ideal)) (gW m c j r)) _ _ ⟨fun x => ?_, fun x => ?_, fun x => ?_, fun x => ?_, fun x => ?_, fun x => ?_, trivial⟩ ?_
  · obtain ⟨a, rfl⟩ := ixs1 x
    refine Eq.trans ?_ (lw12 (totW (k0_pay5 (F := Ideal)) (gW m c j r)) a).symm
    exact (k3 _ _ _ a).trans (congrArg₂ (· + ·) (lw12 _ a) (Finset.sum_congr rfl fun p _ => congrArg₂ (· * ·) (du2_at m c j r p a) ((blk2 m c j r p a).trans (sh_z _ _ _).symm)))
  · obtain ⟨a, rfl⟩ := ixs1 x
    refine Eq.trans ?_ (lw11 (totW (k0_pay5 (F := Ideal)) (gW m c j r)) a).symm
    exact (k2 _ _ _ a).trans (congrArg₂ (· + ·) (lw11 _ a) (Finset.sum_congr rfl fun p _ => congrArg₂ (· * ·) (du2_at m c j r p a) (s21_at m c j r p a)))
  · obtain ⟨a, rfl⟩ := ixs1 x
    refine Eq.trans ?_ (lw10 (totW (k0_pay5 (F := Ideal)) (gW m c j r)) a).symm
    exact (k42 _ _ _ a).trans (congrArg₂ (· + ·) (lw10 _ a) (Finset.sum_congr rfl fun p _ => congrArg₂ (· * ·) (du2_at m c j r p a) (s22_at m c j r p a)))
  · obtain ⟨a, rfl⟩ := ixs1 x
    refine Eq.trans ?_ (lw02 (totW (k0_pay5 (F := Ideal)) (gW m c j r)) a).symm
    exact (k31 _ _ _ a).trans (congrArg₂ (· + ·) (lw02 _ a) (Finset.sum_congr rfl fun p _ => congrArg₂ (· * ·) (du1_at m c j r p a hx hd hw hb) ((blk0 m c j r p a).trans (sh_z _ _ _).symm)))
  · obtain ⟨a, rfl⟩ := ixs1 x
    refine Eq.trans ?_ (lw01 (totW (k0_pay5 (F := Ideal)) (gW m c j r)) a).symm
    exact (k30 _ _ _ a).trans (congrArg₂ (· + ·) (lw01 _ a) (Finset.sum_congr rfl fun p _ => congrArg₂ (· * ·) (du1_at m c j r p a hx hd hw hb) (s11_at m c j r p a)))
  · obtain ⟨a, rfl⟩ := ixs1 x
    refine Eq.trans ?_ (lw00 (totW (k0_pay5 (F := Ideal)) (gW m c j r)) a).symm
    exact (k29 _ _ _ a).trans (congrArg₂ (· + ·) (lw00 _ a) (Finset.sum_congr rfl fun p _ => congrArg₂ (· * ·) (du1_at m c j r p a hx hd hw hb) (s12_at m c j r p a)))
  · fin_cases h <;> fin_cases k
    · exact ⟨_, List.mem_cons_of_mem _ (List.mem_cons_of_mem _ (List.mem_cons_of_mem _ (List.mem_cons_of_mem _ (List.mem_cons_of_mem _ (List.mem_cons_self))))), w_mem00 q⟩
    · exact ⟨_, List.mem_cons_of_mem _ (List.mem_cons_of_mem _ (List.mem_cons_of_mem _ (List.mem_cons_of_mem _ (List.mem_cons_self)))), w_mem01 q⟩
    · exact ⟨_, List.mem_cons_of_mem _ (List.mem_cons_of_mem _ (List.mem_cons_of_mem _ (List.mem_cons_self))), w_mem02 q⟩
    · exact ⟨_, List.mem_cons_of_mem _ (List.mem_cons_of_mem _ (List.mem_cons_self)), w_mem10 q⟩
    · exact ⟨_, List.mem_cons_of_mem _ (List.mem_cons_self), w_mem11 q⟩
    · exact ⟨_, List.mem_cons_self, w_mem12 q⟩
end steps
end Cert.Conv.Ker

end
-- ==== Proof.ConvB.lean ====
module

public import proofs.«01_k».proof.Proof.ConvRun

@[expose] public section

set_option maxRecDepth 16384

noncomputable section

/-! The bias' gradient and the rows kept, at the first block of a column and after. -/

namespace Cert.Conv.Ker

open Cert.Kernel22Ideal Cert.Kernel22Ideal.Gen Idealize.ShloMosaic Idealize.ShloMosaic.TcCoe Cert.Conv Cert.Swa

variable (m : (ℓ : Loc nD τ sig) → Buf (Elt Ideal) ℓ) (c : Dev nD)

section steps
variable (hx : ∀ i, IsR (xA m c i)) (hd : ∀ i, IsR (dA m c i)) (hw : ∀ i, IsR (wA m c i)) (hb : ∀ i, IsR (bA m c i))
include hx hd hw hb

theorem w15_B (j : Fin 4) (r : Fin 16) (hr : ¬ r.val = 0) (h : Fin 2) (q : Fin 1408) : (outsAt0 m c (pt j r).val (pt j r).isLt).2.2.1 (ix3 h (0 : Fin 1) q)
    = ((outsAt0 m c ((pt j r).val - 1) (Nat.lt_of_le_of_lt (Nat.sub_le _ _) (pt j r).isLt)).2.2.1) (ix3 h (0 : Fin 1) q) + gB m c j r h q := by
  rw [outsAt0_B m c (pt j r) (by rw [pmod]; exact hr)]
  frame_out
  refine canon_take 2 (totB ((outsAt0 m c ((pt j r).val - 1) (Nat.lt_of_le_of_lt (Nat.sub_le _ _) (pt j r).isLt)).2.2.1) (gB m c j r)) _ _ ⟨fun x => ?_, fun x => ?_, trivial⟩ ?_
  · obtain ⟨a, rfl⟩ := ixs1 x
    refine Eq.trans ?_ (lb1 (totB ((outsAt0 m c ((pt j r).val - 1) (Nat.lt_of_le_of_lt (Nat.sub_le _ _) (pt j r).isLt)).2.2.1) (gB m c j r)) a).symm
    exact (k41 _ _ a).trans (congrArg₂ (· + ·) (lb1 _ a) (Finset.sum_congr rfl fun p _ => (du2_at m c j r p a)))
  · obtain ⟨a, rfl⟩ := ixs1 x
    refine Eq.trans ?_ (lb0 (totB ((outsAt0 m c ((pt j r).val - 1) (Nat.lt_of_le_of_lt (Nat.sub_le _ _) (pt j r).isLt)).2.2.1) (gB m c j r)) a).symm
    exact (k28 _ _ a).trans (congrArg₂ (· + ·) (lb0 _ a) (Finset.sum_congr rfl fun p _ => (du1_at m c j r p a hx hd hw hb)))
  · fin_cases h
    · exact ⟨_, List.mem_cons_of_mem _ (List.mem_cons_self), b_mem0 0 q⟩
    · exact ⟨_, List.mem_cons_self, b_mem1 0 q⟩
theorem w15_A (j : Fin 4) (r : Fin 16) (hr : r.val = 0) (h : Fin 2) (q : Fin 1408) : (outsAt0 m c (pt j r).val (pt j r).isLt).2.2.1 (ix3 h (0 : Fin 1) q)
    = (k0_pay6 (F := Ideal)) (ix3 h (0 : Fin 1) q) + gB m c j r h q := by
  rw [outsAt0_A m c (pt j r) (by rw [pmod]; exact hr)]
  frame_open
  simp (disch := decide) only [↓ View.readCov_skip, ↓ View.readCov_cons_toLoadRect, ↓ View.readCov_fill]
  frame_out
  refine canon_take 2 (totB (k0_pay6 (F := Ideal)) (gB m c j r)) _ _ ⟨fun x => ?_, fun x => ?_, trivial⟩ ?_
  · obtain ⟨a, rfl⟩ := ixs1 x
    refine Eq.trans ?_ (lb1 (totB (k0_pay6 (F := Ideal)) (gB m c j r)) a).symm
    exact (k41 _ _ a).trans (congrArg₂ (· + ·) (lb1 _ a) (Finset.sum_congr rfl fun p _ => (du2_at m c j r p a)))
  · obtain ⟨a, rfl⟩ := ixs1 x
    refine Eq.trans ?_ (lb0 (totB (k0_pay6 (F := Ideal)) (gB m c j r)) a).symm
    exact (k28 _ _ a).trans (congrArg₂ (· + ·) (lb0 _ a) (Finset.sum_congr rfl fun p _ => (du1_at m c j r p a hx hd hw hb)))
  · fin_cases h
    · exact ⟨_, List.mem_cons_of_mem _ (List.mem_cons_self), b_mem0 0 q⟩
    · exact ⟨_, List.mem_cons_self, b_mem1 0 q⟩
theorem sc_B (j : Fin 4) (r : Fin 16) (hr : ¬ r.val = 0) (h : Fin 2) (o : Fin 8) (q : Fin 1408) : (outsAt0 m c (pt j r).val (pt j r).isLt).2.2.2 (ix3 h o q)
    = keep m c j r (ix3 h o q) := by
  rw [outsAt0_B m c (pt j r) (by rw [pmod]; exact hr)]
  frame_out
  refine canon_take 2 (keep m c j r) _ _ ⟨fun x => ?_, fun x => ?_, trivial⟩ ?_
  · obtain ⟨o', a, rfl⟩ := ixs8 x
    refine Eq.trans ?_ (lc1 (keep m c j r) o' a).symm
    exact (k4 _ a o').trans (du2_at m c j r _ a)
  · obtain ⟨o', a, rfl⟩ := ixs8 x
    refine Eq.trans ?_ (lc0 (keep m c j r) o' a).symm
    exact (k32 _ a o').trans (du1_at m c j r _ a hx hd hw hb)
  · fin_cases h
    · exact ⟨_, List.mem_cons_of_mem _ (List.mem_cons_self), c_mem0 o q⟩
    · exact ⟨_, List.mem_cons_self, c_mem1 o q⟩
theorem sc_A (j : Fin 4) (r : Fin 16) (hr : r.val = 0) (h : Fin 2) (o : Fin 8) (q : Fin 1408) : (outsAt0 m c (pt j r).val (pt j r).isLt).2.2.2 (ix3 h o q)
    = keep m c j r (ix3 h o q) := by
  rw [outsAt0_A m c (pt j r) (by rw [pmod]; exact hr)]
  frame_open
  simp (disch := decide) only [↓ View.readCov_skip, ↓ View.readCov_cons_toLoadRect, ↓ View.readCov_fill]
  frame_out
  refine canon_take 2 (keep m c j r) _ _ ⟨fun x => ?_, fun x => ?_, trivial⟩ ?_
  · obtain ⟨o', a, rfl⟩ := ixs8 x
    refine Eq.trans ?_ (lc1 (keep m c j r) o' a).symm
    exact (k4 _ a o').trans (du2_at m c j r _ a)
  · obtain ⟨o', a, rfl⟩ := ixs8 x
    refine Eq.trans ?_ (lc0 (keep m c j r) o' a).symm
    exact (k32 _ a o').trans (du1_at m c j r _ a hx hd hw hb)
  · fin_cases h
    · exact ⟨_, List.mem_cons_of_mem _ (List.mem_cons_self), c_mem0 o q⟩
    · exact ⟨_, List.mem_cons_self, c_mem1 o q⟩
end steps
end Cert.Conv.Ker

end
-- ==== Proof.ConvX.lean ====
module

public import proofs.«01_k».proof.Proof.ConvRun

@[expose] public section

set_option maxRecDepth 16384

noncomputable section

/-! The inputs' gradient of a block, at the first block of a column and after. -/

namespace Cert.Conv.Ker

open Cert.Kernel22Ideal Cert.Kernel22Ideal.Gen Idealize.ShloMosaic Idealize.ShloMosaic.TcCoe Cert.Conv Cert.Swa

variable (m : (ℓ : Loc nD τ sig) → Buf (Elt Ideal) ℓ) (c : Dev nD)

section steps
variable (hx : ∀ i, IsR (xA m c i)) (hd : ∀ i, IsR (dA m c i)) (hw : ∀ i, IsR (wA m c i)) (hb : ∀ i, IsR (bA m c i))
include hx hd hw hb

theorem w13_B (j : Fin 4) (r : Fin 16) (hr : ¬ r.val = 0) (hC : ∀ (h : Fin 2) (o : Fin 8) (q : Fin 1408), ((outsAt0 m c ((pt j r).val - 1) (Nat.lt_of_le_of_lt (Nat.sub_le _ _) (pt j r).isLt)).2.2.2) (ix3 h o q) = DUn (xA m c) (dA m c) (wA m c) (bA m c) h ((16 - r.val) * 256 + o.val) (ch j q))
    (h : Fin 2) (p : Fin 256) (q : Fin 1408) : (outsAt0 m c (pt j r).val (pt j r).isLt).1 (ix3 h p q)
    = DX (xA m c) (dA m c) (wA m c) (bA m c) h (row r p) (ch j q) := by
  rw [outsAt0_B m c (pt j r) (by rw [pmod]; exact hr)]
  frame_out
  simp only [read_unread_whole]
  refine canon_take 2 (dxB m c j r) _ _ ⟨fun x => ?_, fun x => ?_, trivial⟩ ?_
  · obtain ⟨p', a, rfl⟩ := ixs256 x
    refine Eq.trans ?_ (lx1 (dxB m c j r) p' a).symm
    refine (k40 _ _ _ _ _ _ _ p' a (blk11 m c j r) (blk12 m c j r)).trans ?_
    exact congrArg₂ (· + ·) (congrArg₂ (· + ·) (congrArg₂ (· * ·) ((ld_2 _ a).trans (blk6 m c j r a 2)) (du2_at m c j r p' a))
        (congrArg₂ (· * ·) ((ld_1 _ a).trans (blk6 m c j r a 1)) (ahead_DUn m c 1 (by omega) j r 1 a _ _ (fun k => du2_at m c j r k a) (fun o => (lc1 _ o a).trans (hC 1 o a)) p')))
      (congrArg₂ (· * ·) ((ld_0 _ a).trans (blk6 m c j r a 0)) (ahead_DUn m c 2 (by omega) j r 1 a _ _ (fun k => du2_at m c j r k a) (fun o => (lc1 _ o a).trans (hC 1 o a)) p'))
  · obtain ⟨p', a, rfl⟩ := ixs256 x
    refine Eq.trans ?_ (lx0 (dxB m c j r) p' a).symm
    refine (k27 _ _ _ _ _ _ _ _ p' a (blk11 m c j r) (blk12 m c j r)).trans ?_
    exact congrArg₂ (· + ·) (congrArg₂ (· + ·) (congrArg₂ (· * ·) ((ld_2 _ a).trans (blk5 m c j r a 2)) (du1_at m c j r p' a hx hd hw hb))
        (congrArg₂ (· * ·) ((ld_1 _ a).trans (blk5 m c j r a 1)) (ahead_DUn m c 1 (by omega) j r 0 a _ _ (fun k => du1_at m c j r k a hx hd hw hb) (fun o => (lc0 _ o a).trans (hC 0 o a)) p')))
      (congrArg₂ (· * ·) ((ld_0 _ a).trans (blk5 m c j r a 0)) (ahead_DUn m c 2 (by omega) j r 0 a _ _ (fun k => du1_at m c j r k a hx hd hw hb) (fun o => (lc0 _ o a).trans (hC 0 o a)) p'))
  · fin_cases h
    · exact ⟨_, List.mem_cons_of_mem _ (List.mem_cons_self), x_mem0 p q⟩
    · exact ⟨_, List.mem_cons_self, x_mem1 p q⟩
theorem w13_A (j : Fin 4) (r : Fin 16) (hr : r.val = 0) (hC : ∀ (h : Fin 2) (o : Fin 8) (q : Fin 1408), (k0_pay7 (F := Ideal)) (ix3 h o q) = DUn (xA m c) (dA m c) (wA m c) (bA m c) h ((16 - r.val) * 256 + o.val) (ch j q))
    (h : Fin 2) (p : Fin 256) (q : Fin 1408) : (outsAt0 m c (pt j r).val (pt j r).isLt).1 (ix3 h p q)
    = DX (xA m c) (dA m c) (wA m c) (bA m c) h (row r p) (ch j q) := by
  rw [outsAt0_A m c (pt j r) (by rw [pmod]; exact hr)]
  frame_open
  simp (disch := decide) only [↓ View.readCov_skip, ↓ View.readCov_cons_toLoadRect, ↓ View.readCov_fill]
  frame_out
  refine canon_take 2 (dxB m c j r) _ _ ⟨fun x => ?_, fun x => ?_, trivial⟩ ?_
  · obtain ⟨p', a, rfl⟩ := ixs256 x
    refine Eq.trans ?_ (lx1 (dxB m c j r) p' a).symm
    refine (k40 _ _ _ _ _ _ _ p' a (blk11 m c j r) (blk12 m c j r)).trans ?_
    exact congrArg₂ (· + ·) (congrArg₂ (· + ·) (congrArg₂ (· * ·) ((ld_2 _ a).trans (blk6 m c j r a 2)) (du2_at m c j r p' a))
        (congrArg₂ (· * ·) ((ld_1 _ a).trans (blk6 m c j r a 1)) (ahead_DUn m c 1 (by omega) j r 1 a _ _ (fun k => du2_at m c j r k a) (fun o => (lc1 _ o a).trans (hC 1 o a)) p')))
      (congrArg₂ (· * ·) ((ld_0 _ a).trans (blk6 m c j r a 0)) (ahead_DUn m c 2 (by omega) j r 1 a _ _ (fun k => du2_at m c j r k a) (fun o => (lc1 _ o a).trans (hC 1 o a)) p'))
  · obtain ⟨p', a, rfl⟩ := ixs256 x
    refine Eq.trans ?_ (lx0 (dxB m c j r) p' a).symm
    refine (k27 _ _ _ _ _ _ _ _ p' a (blk11 m c j r) (blk12 m c j r)).trans ?_
    exact congrArg₂ (· + ·) (congrArg₂ (· + ·) (congrArg₂ (· * ·) ((ld_2 _ a).trans (blk5 m c j r a 2)) (du1_at m c j r p' a hx hd hw hb))
        (congrArg₂ (· * ·) ((ld_1 _ a).trans (blk5 m c j r a 1)) (ahead_DUn m c 1 (by omega) j r 0 a _ _ (fun k => du1_at m c j r k a hx hd hw hb) (fun o => (lc0 _ o a).trans (hC 0 o a)) p')))
      (congrArg₂ (· * ·) ((ld_0 _ a).trans (blk5 m c j r a 0)) (ahead_DUn m c 2 (by omega) j r 0 a _ _ (fun k => du1_at m c j r k a hx hd hw hb) (fun o => (lc0 _ o a).trans (hC 0 o a)) p'))
  · fin_cases h
    · exact ⟨_, List.mem_cons_of_mem _ (List.mem_cons_self), x_mem0 p q⟩
    · exact ⟨_, List.mem_cons_self, x_mem1 p q⟩
end steps
end Cert.Conv.Ker

end
-- ==== Proof.ConvRef.lean ====
module

public import proofs.«01_k».proof.Proof.Gen.Reference22Ideal.Read
public import proofs.«01_k».proof.Proof.ConvSpec
public import Idealize.ShloMosaic.Lib.Tactic.WordOmega
public import Idealize.ShloMosaic.Lib.IdealHost

@[expose] public section

set_option maxRecDepth 16384

noncomputable section

/-! The reference's convolution gradients in coordinates. -/

namespace Cert.Conv.Ref

open Cert.Reference22Ideal Cert.Reference22Ideal.Gen Cert.Reference22Ideal.Read Idealize.ShloMosaic Idealize.ShloMosaic.TcCoe Cert.Conv

variable (x : Xt) (d : Dt) (w : Wt) (b : Bt)

theorem sh_zero (s : Fin 4096) (j : Fin 11264) : sh x 0 s j = xE x s j := dif_pos (Nat.zero_le _)

/-- The shifted inputs. -/
theorem r6 (s : Fin 4096) (j : Fin 11264) : val_main_v6 (F := Ideal) x (ix2 s j) = sh x 2 s j := by
  pointwise [val_main_v6, val_main_v2, val_main_v1, val_main_v0, val_main_cst]
  by_cases c : 2 ≤ s.val
  · refine Eq.trans ?_ (dif_pos c).symm
    split_ifs <;> first | omega | rfl | (congr 2; apply Fin.ext; dsimp only; omega)
  · refine Eq.trans ?_ (dif_neg c).symm
    split_ifs <;> first | omega | rfl
theorem r14 (s : Fin 4096) (j : Fin 11264) : val_main_v14 (F := Ideal) x (ix2 s j) = sh x 1 s j := by
  pointwise [val_main_v14, val_main_v2, val_main_v1, val_main_v0, val_main_cst]
  by_cases c : 1 ≤ s.val
  · refine Eq.trans ?_ (dif_pos c).symm
    split_ifs <;> first | omega | rfl | (congr 2; apply Fin.ext; dsimp only; omega)
  · refine Eq.trans ?_ (dif_neg c).symm
    split_ifs <;> first | omega | rfl
theorem r21 (s : Fin 4096) (j : Fin 11264) : val_main_v21 (F := Ideal) x (ix2 s j) = xE x s j := by
  pointwise [val_main_v21, val_main_v2, val_main_v1, val_main_v0, val_main_cst]

/-- The convolution. -/
theorem r25 (s : Fin 4096) (j : Fin 11264) : val_main_v25 (F := Ideal) x w b (ix2 s j) = U x w b s j := by
  unfold U
  pointwise [val_main_v25, val_main_v24, val_main_v23, val_main_v22, val_main_v20, val_main_v19, val_main_v18, val_main_v17, val_main_v16, val_main_v15, val_main_v13, val_main_v12, val_main_v11, val_main_v10, val_main_v9, val_main_v8, val_main_v7, val_main_v5, val_main_v4, r6, r14, r21]

theorem r26 (s : Fin 4096) (c : Fin 5632) : val_main_v26 (F := Ideal) x w b (ix2 s c) = U x w b s (col 0 c) := by
  pointwise [val_main_v26, r25]
  congr 1
  apply Fin.ext; show c.val = 0 * 5632 + c.val; omega
theorem r28 (s : Fin 4096) (c : Fin 5632) : val_main_v28 (F := Ideal) x w b (ix2 s c) = U x w b s (col 1 c) := by
  pointwise [val_main_v28, r25]
  exact congrArg (U x w b s) (Fin.ext (by show 5632 + c.val = 1 * 5632 + c.val; omega))
theorem r27_2 (s : Fin 4096) (c : Fin 5632) : val_main_v27_2 (F := Ideal) x w b (ix2 s c) = sg (U x w b s (col 0 c)) := by
  unfold sg
  pointwise [val_main_v27_2, val_main_call0_v4, val_main_call0_v3, val_main_call0_v2, val_main_call0_v1, val_main_call0_v0, val_main_call0_cst, val_main_call0_cst_0, r26]

/-- The gradient at the convolution's output, the two halves. -/
theorem r36 (h : Fin 2) (s : Fin 4096) (c : Fin 5632) : val_main_v36 (F := Ideal) x d w b (ix2 s (col h c)) = DU x d w b h s c := by
  have e31 : val_main_v31 (F := Ideal) x d w b (ix2 s c) = DU1 x d w b s c := by
    unfold DU1
    pointwise [val_main_v31, val_main_v30, val_main_v27_0, r26, r27_2]
  have e34 : val_main_v34 (F := Ideal) x d w b (ix2 s c) = DU0 x d w b s c := by
    unfold DU0
    pointwise [val_main_v34, val_main_call1_v2, val_main_call1_v1, val_main_call1_v0, val_main_v32, val_main_v30, val_main_v27_1, val_main_call0_v7, val_main_call0_v6, val_main_call0_cst_1, r26, r27_2, r28]
  unfold DU
  have hc := c.isLt
  obtain rfl | rfl : h = 0 ∨ h = 1 := by omega
  · rw [if_pos rfl, ← e34]
    pointwise [val_main_v36, val_main_v35, val_main_v33, val_main_cst_1, val_main_cst_2]
    split_ifs with hF
    · exact absurd hF.1 id
    · exact zero_add _
  · rw [if_neg (by decide), ← e31]
    pointwise [val_main_v36, val_main_v35, val_main_v33, val_main_cst_1, val_main_cst_2]

/-- The gradient of the input, at a column. -/
theorem r71a (s : Fin 4096) (j : Fin 11264) : val_main_v71 (F := Ideal) x d w b (ix2 s j)
    = w (ix2 (2 : Fin 3) j) * val_main_v36 (F := Ideal) x d w b (ix2 s j)
      + (if h : (1 ≤ 2 + s.val ∧ 2 + s.val - 1 < 4096) then w (ix2 (1 : Fin 3) j) * val_main_v36 (F := Ideal) x d w b (ix2 ⟨2 + s.val - 1, h.2⟩ j) else 0)
      + (if h : 2 + s.val < 4096 then w (ix2 (0 : Fin 3) j) * val_main_v36 (F := Ideal) x d w b (ix2 ⟨2 + s.val, h⟩ j) else 0) := by
  pointwise [val_main_v71, val_main_v66, val_main_v65, val_main_v53, val_main_v52, val_main_v43, val_main_v60, val_main_v59, val_main_v47, val_main_v46, val_main_v38, val_main_v37, val_main_v22, val_main_v20, val_main_v19, val_main_v15, val_main_v13, val_main_v12, val_main_v7, val_main_v5, val_main_v4, val_main_cst_5, val_main_cst_9, val_main_cst_14]

theorem r71 (h : Fin 2) (s : Fin 4096) (c : Fin 5632) : val_main_v71 (F := Ideal) x d w b (ix2 s (col h c)) = DX x d w b h s c := by
  rw [r71a]
  have H : ∀ s, val_main_v36 (F := Ideal) x d w b (ix2 s (col h c)) = DU x d w b h s c := fun s => r36 x d w b h s c
  unfold DX DUn
  generalize val_main_v36 (F := Ideal) x d w b = Y at H ⊢
  generalize DU x d w b h = Z at H ⊢
  simp only [H]
  refine congrArg₂ (· + ·) (congrArg₂ (· + ·) rfl ?_) ?_
  · by_cases e : s.val + 1 < 4096
    · rw [dif_pos (show 1 ≤ 2 + s.val ∧ 2 + s.val - 1 < 4096 by omega), dif_pos e]
      exact congrArg (fun z => wE w 1 (col h c) * Z z c) (Fin.ext (show 2 + s.val - 1 = s.val + 1 by omega))
    · rw [dif_neg (show ¬ (1 ≤ 2 + s.val ∧ 2 + s.val - 1 < 4096) by omega), dif_neg e, mul_zero]
  · by_cases e : s.val + 2 < 4096
    · rw [dif_pos (show 2 + s.val < 4096 by omega), dif_pos e]
      exact congrArg (fun z => wE w 0 (col h c) * Z z c) (Fin.ext (show 2 + s.val = s.val + 2 by omega))
    · rw [dif_neg (show ¬ 2 + s.val < 4096 by omega), dif_neg e, mul_zero]

/-- The taps' sums, at a column. -/
theorem r42 (h : Fin 2) (c : Fin 5632) : val_main_v42 (F := Ideal) x d w b (ix1 (col h c)) = DW x d w b h 2 c := by
  pointwise [val_main_v42, val_main_v41, val_main_v40, val_main_v39, val_main_cst_3, val_main_cst_4, r36, r21]
  exact (Fin.sum_univ_one _).trans (Finset.sum_congr rfl fun s _ => congrArg (DU x d w b h s c * ·) (sh_zero x s (col h c)).symm)
theorem r51 (h : Fin 2) (c : Fin 5632) : val_main_v51 (F := Ideal) x d w b (ix1 (col h c)) = DW x d w b h 1 c := by
  pointwise [val_main_v51, val_main_v50, val_main_v49, val_main_v48, val_main_cst_7, val_main_cst_8, r36, r14]
  exact (Fin.sum_univ_one _).trans rfl
theorem r64 (h : Fin 2) (c : Fin 5632) : val_main_v64 (F := Ideal) x d w b (ix1 (col h c)) = DW x d w b h 0 c := by
  pointwise [val_main_v64, val_main_v63, val_main_v62, val_main_v61, val_main_cst_12, val_main_cst_13, r36, r6]
  exact (Fin.sum_univ_one _).trans rfl
theorem r58 (h : Fin 2) (c : Fin 5632) : val_main_v58 (F := Ideal) x d w b (ix2 (0 : Fin 1) (col h c)) = DB x d w b h c := by
  unfold DB
  pointwise [val_main_v58, val_main_v57, val_main_cst_11, r36]
theorem r69 (h : Fin 2) (k : Fin 3) (c : Fin 5632) : val_main_v69 (F := Ideal) x d w b (ix2 k (col h c)) = DW x d w b h k c := by
  have hc := c.isLt
  have hh := h.isLt
  have hk := k.isLt
  pointwise [val_main_v69, val_main_v68, val_main_v67, val_main_v56, val_main_v55, val_main_v54, val_main_v45, val_main_v44, val_main_cst_6, val_main_cst_10, val_main_cst_15, r42, r51, r64]
  obtain e | e | e : k = 0 ∨ k = 1 ∨ k = 2 := by omega
  all_goals
    subst e
    split_ifs <;> first | (exfalso; simp at *; done) | (exfalso; omega) | (simp only [zero_add, add_zero]; done) | skip

theorem col0 (c : Fin 5632) (h : c.val < 11264) : (⟨c.val, h⟩ : Fin 11264) = col 0 c := Fin.ext (by show c.val = 0 * 5632 + c.val; omega)
theorem col1 (c : Fin 5632) (h : 5632 + c.val < 11264) : (⟨5632 + c.val, h⟩ : Fin 11264) = col 1 c := Fin.ext (by show 5632 + c.val = 1 * 5632 + c.val; omega)

/-- The reference's three results. -/
theorem r87 (h : Fin 2) (s : Fin 4096) (c : Fin 5632) : val_main_v87 (F := Ideal) x d w b (ix3 h s c) = DX x d w b h s c := by
  obtain rfl | rfl : h = 0 ∨ h = 1 := by omega
  · pointwise [val_main_v87, val_main_v76, val_main_v75, val_main_v74, val_main_v73, val_main_v72]
    rw [col0]; exact r71 x d w b 0 s c
  · pointwise [val_main_v87, val_main_v76, val_main_v75, val_main_v74, val_main_v73, val_main_v72]
    rw [col1]; exact r71 x d w b 1 s c
theorem r81 (h : Fin 2) (k : Fin 3) (c : Fin 5632) : val_main_v81 (F := Ideal) x d w b (ix3 h k c) = DW x d w b h k c := by
  obtain rfl | rfl : h = 0 ∨ h = 1 := by omega
  · pointwise [val_main_v81, val_main_v80, val_main_v79, val_main_v78, val_main_v77]
    rw [col0]; exact r69 x d w b 0 k c
  · pointwise [val_main_v81, val_main_v80, val_main_v79, val_main_v78, val_main_v77]
    rw [col1]; exact r69 x d w b 1 k c
theorem r86 (h : Fin 2) (c : Fin 5632) : val_main_v86 (F := Ideal) x d w b (ix3 h (0 : Fin 1) c) = DB x d w b h c := by
  obtain rfl | rfl : h = 0 ∨ h = 1 := by omega
  · pointwise [val_main_v86, val_main_v85, val_main_v84, val_main_v83, val_main_v82]
    rw [col0]; exact r58 x d w b 0 c
  · pointwise [val_main_v86, val_main_v85, val_main_v84, val_main_v83, val_main_v82]
    rw [col1]; exact r58 x d w b 1 c

end Cert.Conv.Ref

end
-- ==== Proof.ConvFin.lean ====
module

public import proofs.«01_k».proof.Defs
public import proofs.«01_k».proof.Proof.Gen.Pre_conv_finite
public import proofs.«01_k».proof.Proof.SwaFin
public import proofs.«01_k».proof.Proof.ConvW
public import proofs.«01_k».proof.Proof.ConvB
public import proofs.«01_k».proof.Proof.ConvX
public import proofs.«01_k».proof.Proof.ConvRef
public import Idealize.ShloMosaic.Lib.ReduceAll

@[expose] public section

set_option maxRecDepth 16384

noncomputable section

/-! The arrays after the whole grid are the reference's. -/

namespace Cert.Conv

open Idealize.ShloMosaic Cert.Swa

instance : Subsingleton (Cert.Pre_conv_finite.S_).Idx := ⟨fun _ _ => funext fun d => d.elim0⟩

/-- The precondition, read off the four conjuncts: every element of the four arguments is a real number. -/
theorem of_pre (a0 : FVec Ideal Pre_conv_finite.S4096x11264 .bf16) (a1 : FVec Ideal Pre_conv_finite.S4096x5632 .bf16)
    (a2 : FVec Ideal Pre_conv_finite.S3x11264 .f32) (a3 : FVec Ideal Pre_conv_finite.S1x11264 .f32)
    (h : Pre_conv_finite.fn (F := Ideal) a0 a1 a2 a3 = fun _ => 1#1) :
    (∀ i, IsR (a0 i)) ∧ (∀ i, IsR (a1 i)) ∧ (∀ i, IsR (a2 i)) ∧ ∀ i, IsR (a3 i) := by
  have h' := congrFun h (fun d => d.elim0)
  dsimp only [Pre_conv_finite.fn, Pre_conv_finite.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => isR_of_abs _ (Host.reduce_andi_all _ _ _ _ _ h0 i), fun i => isR_of_abs _ (Host.reduce_andi_all _ _ _ _ _ h1 i),
    fun i => isR_of_abs _ (Host.reduce_andi_all _ _ _ _ _ h2 i), fun i => isR_of_abs _ (Host.reduce_andi_all _ _ _ _ _ h3 i)⟩

end Cert.Conv

namespace Cert.Conv.Ker

open Cert.Kernel22Ideal Cert.Kernel22Ideal.Gen Idealize.ShloMosaic Idealize.ShloMosaic.TcCoe Cert.Conv Cert.Swa
open Cert.Reference22Ideal.Read (val_main_v81 val_main_v86 val_main_v87)

variable (m : (ℓ : Loc nD τ sig) → Buf (Elt Ideal) ℓ) (c : Dev nD)

/-- The sixteen blocks of rows, last to first, are all the rows. -/
theorem sum_rows (f : Fin 4096 → EReal) : ∑ r : Fin 16, ∑ p : Fin 256, f (row r p) = ∑ s, f s := by
  refine Eq.trans ?_ (Fin.sum_mul_add_fin 16 256 f)
  refine Eq.trans ?_ (Equiv.sum_comp Fin.revPerm fun r : Fin 16 => ∑ p : Fin 256, f ⟨r.val * 256 + p.val, by omega⟩)
  refine Finset.sum_congr rfl fun r _ => Finset.sum_congr rfl fun p _ => congrArg f (Fin.ext ?_)
  have e : (Fin.revPerm r).val = 15 - r.val := by rw [Fin.revPerm_apply, Fin.val_rev]; omega
  dsimp only
  rw [e]

theorem ixb (y : S2x1x1408.Idx) : y = ix3 (y 0) (0 : Fin 1) (y 2) :=
  (ValueIdx.eq_ix3 (n0 := 2) (n1 := 1) (n2 := 1408) y).trans (congrArg (fun o : Fin 1 => ix3 (y 0) o (y 2)) (Subsingleton.elim _ _))

/-- A point's term, at any number. -/
def term (g : Fin 4 → Fin 16 → EReal) (n : ℕ) : EReal := if h : n < 64 then g ⟨n / 16, by omega⟩ ⟨n % 16, by omega⟩ else 0
theorem term_pt (g : Fin 4 → Fin 16 → EReal) (j : Fin 4) (r : Fin 16) : term g (j.val * 16 + r.val) = g j r := by
  have e : j.val * 16 + r.val < 64 := by omega
  unfold term
  rw [dif_pos e]
  congr 1
  · exact Fin.ext (pdiv j r)
  · exact Fin.ext (pmod j r)
theorem sum_term (g : Fin 4 → Fin 16 → EReal) (j : Fin 4) : ∑ k ∈ Finset.range 16, term g (16 * j.val + k) = ∑ r, g j r := by
  rw [Finset.sum_range]
  refine Finset.sum_congr rfl fun r _ => ?_
  rw [mul_comm]
  exact term_pt g j r

theorem outs_prev (j : Fin 4) (r : Fin 16) (hr : ¬ r.val = 0) (h1 : (pt j r).val - 1 < cfg0.N) :
    outsAt0 m c ((pt j r).val - 1) h1 = outsAt0 m c (pt j ⟨r.val - 1, by omega⟩).val (pt j ⟨r.val - 1, by omega⟩).isLt := by
  have e : (pt j r).val - 1 = (pt j ⟨r.val - 1, by omega⟩).val := by dsimp only; omega
  congr 1

section steps
variable (hx : ∀ i, IsR (xA m c i)) (hd : ∀ i, IsR (dA m c i)) (hw : ∀ i, IsR (wA m c i)) (hb : ∀ i, IsR (bA m c i))
include hx hd hw hb

/-- The rows kept. -/
theorem sc_at (j : Fin 4) (r : Fin 16) (h : Fin 2) (o : Fin 8) (q : Fin 1408) : (outsAt0 m c (pt j r).val (pt j r).isLt).2.2.2 (ix3 h o q) = keep m c j r (ix3 h o q) := by
  by_cases hr : r.val = 0
  · exact sc_A m c hx hd hw hb j r hr h o q
  · exact sc_B m c hx hd hw hb j r hr h o q

/-- The inputs' gradient. -/
theorem w13_at (j : Fin 4) (r : Fin 16) (h : Fin 2) (p : Fin 256) (q : Fin 1408) : (outsAt0 m c (pt j r).val (pt j r).isLt).1 (ix3 h p q)
    = DX (xA m c) (dA m c) (wA m c) (bA m c) h (row r p) (ch j q) := by
  by_cases hr : r.val = 0
  · refine w13_A m c hx hd hw hb j r hr (fun h o q => ?_) h p q
    have e : ¬ (16 - r.val) * 256 + o.val < 4096 := by omega
    refine (z7 _).trans ?_
    unfold DUn
    rw [dif_neg e]
  · refine w13_B m c hx hd hw hb j r hr (fun h o q => ?_) h p q
    rw [outs_prev m c j r hr]
    refine (sc_at m c hx hd hw hb j _ h o q).trans ?_
    have hr' := r.isLt
    have e : (16 - r.val) * 256 + o.val < 4096 := by omega
    unfold DUn
    rw [dif_pos e]
    refine congrArg (fun s => DU (xA m c) (dA m c) (wA m c) (bA m c) h s (ch j q)) (Fin.ext ?_)
    show (15 - (r.val - 1)) * 256 + o.val = (16 - r.val) * 256 + o.val
    omega

/-- The taps' gradient after a column's last point. -/
theorem w14_at (j : Fin 4) (h : Fin 2) (k : Fin 3) (q : Fin 1408) : (outsAt0 m c (pt j 15).val (pt j 15).isLt).2.1 (ix3 h k q)
    = DW (xA m c) (dA m c) (wA m c) (bA m c) h k (ch j q) := by
  have H := Pipeline.eq_sum_of_reset_step_apply_of_mod (N := cfg0.N) (ι := Fin 1408) (M := EReal) (fun n hn q => (outsAt0 m c n hn).2.1 (ix3 h k q)) 16
    (fun q => k0_pay5 (F := Ideal) (ix3 h k q)) (fun n q => term (fun j r => gW m c j r h k q) n)
    (fun t ht q => by
      obtain ⟨j, r, rfl⟩ := pt_split t
      rw [pmod] at ht
      exact (w14_A m c hx hd hw hb j r ht h k q).trans (congrArg _ (term_pt (fun j r => gW m c j r h k q) j r).symm))
    (fun t ht q => by
      obtain ⟨j, r, rfl⟩ := pt_split t
      rw [pmod] at ht
      exact (w14_B m c hx hd hw hb j r ht h k q).trans (congrArg _ (term_pt (fun j r => gW m c j r h k q) j r).symm)) (pt j 15) (pmod j 15) q
  refine H.trans ?_
  rw [pdiv]
  refine (congrArg₂ (· + ·) (z5 _) (sum_term _ j)).trans ((zero_add _).trans ?_)
  exact sum_rows fun s => DU (xA m c) (dA m c) (wA m c) (bA m c) h s (ch j q) * sh (xA m c) (2 - k.val) s (col h (ch j q))

/-- The bias' gradient after a column's last point. -/
theorem w15_at (j : Fin 4) (h : Fin 2) (q : Fin 1408) : (outsAt0 m c (pt j 15).val (pt j 15).isLt).2.2.1 (ix3 h (0 : Fin 1) q)
    = DB (xA m c) (dA m c) (wA m c) (bA m c) h (ch j q) := by
  have H := Pipeline.eq_sum_of_reset_step_apply_of_mod (N := cfg0.N) (ι := Fin 1408) (M := EReal) (fun n hn q => (outsAt0 m c n hn).2.2.1 (ix3 h (0 : Fin 1) q)) 16
    (fun q => k0_pay6 (F := Ideal) (ix3 h (0 : Fin 1) q)) (fun n q => term (fun j r => gB m c j r h q) n)
    (fun t ht q => by
      obtain ⟨j, r, rfl⟩ := pt_split t
      rw [pmod] at ht
      exact (w15_A m c hx hd hw hb j r ht h q).trans (congrArg _ (term_pt (fun j r => gB m c j r h q) j r).symm))
    (fun t ht q => by
      obtain ⟨j, r, rfl⟩ := pt_split t
      rw [pmod] at ht
      exact (w15_B m c hx hd hw hb j r ht h q).trans (congrArg _ (term_pt (fun j r => gB m c j r h q) j r).symm)) (pt j 15) (pmod j 15) q
  refine H.trans ?_
  rw [pdiv]
  refine (congrArg₂ (· + ·) (z6 _) (sum_term _ j)).trans ((zero_add _).trans ?_)
  exact sum_rows fun s => DU (xA m c) (dA m c) (wA m c) (bA m c) h s (ch j q)

/-- The inputs' gradient, as an array. -/
theorem final13 : (dats m 0 c).arrAt 13 cfg0.N = val_main_v87 (F := Ideal) (xA m c) (dA m c) (wA m c) (bA m c) := by
  refine (dats m 0 c).arrAt_eq_of_covers 13 _ (by decide +kernel) fun t hf y => ?_
  obtain ⟨j, r, rfl⟩ := pt_split t
  have hi := (idx (pt j r)).2.2.2.2.2.2.2.2.2.2.2.2.2.1
  rw [pmod, pdiv] at hi
  blk_simp
  rw [after0_13]
  refine (congrArg _ (ValueIdx.eq_ix3 (n0 := 2) (n1 := 256) (n2 := 1408) y)).trans ((w13_at m c hx hd hw hb j r (y 0) (y 1) (y 2)).trans
    ((Cert.Conv.Ref.r87 (xA m c) (dA m c) (wA m c) (bA m c) (y 0) (row r (y 1)) (ch j (y 2))).symm.trans (congrArg _ ?_)))
  blk_ext [hi]

/-- The taps' gradient. -/
theorem final14 : (dats m 0 c).arrAt 14 cfg0.N = val_main_v81 (F := Ideal) (xA m c) (dA m c) (wA m c) (bA m c) := by
  refine (dats m 0 c).arrAt_eq_of_covers 14 _ (by decide +kernel) fun t hf y => ?_
  have hp : t.val % 16 = 15 := (flush0_14 t).1 hf
  obtain ⟨j, r, rfl⟩ := pt_split t
  rw [pmod] at hp
  obtain rfl : r = 15 := Fin.ext hp
  have hi := (idx (pt j 15)).2.2.2.2.2.2.2.2.2.2.2.2.2.2.1
  rw [pdiv] at hi
  blk_simp
  rw [after0_14]
  refine (congrArg _ (ValueIdx.eq_ix3 (n0 := 2) (n1 := 3) (n2 := 1408) y)).trans ((w14_at m c hx hd hw hb j (y 0) (y 1) (y 2)).trans
    ((Cert.Conv.Ref.r81 (xA m c) (dA m c) (wA m c) (bA m c) (y 0) (y 1) (ch j (y 2))).symm.trans (congrArg _ ?_)))
  blk_ext [hi]

/-- The bias' gradient. -/
theorem final15 : (dats m 0 c).arrAt 15 cfg0.N = val_main_v86 (F := Ideal) (xA m c) (dA m c) (wA m c) (bA m c) := by
  refine (dats m 0 c).arrAt_eq_of_covers 15 _ (by decide +kernel) fun t hf y => ?_
  have hp : t.val % 16 = 15 := (flush0_15 t).1 hf
  obtain ⟨j, r, rfl⟩ := pt_split t
  rw [pmod] at hp
  obtain rfl : r = 15 := Fin.ext hp
  have hi := (idx (pt j 15)).2.2.2.2.2.2.2.2.2.2.2.2.2.2.2
  rw [pdiv] at hi
  blk_simp
  rw [after0_15]
  refine (congrArg _ (ixb y)).trans ((w15_at m c hx hd hw hb j (y 0) (y 2)).trans
    ((Cert.Conv.Ref.r86 (xA m c) (dA m c) (wA m c) (bA m c) (y 0) (ch j (y 2))).symm.trans (congrArg _ ?_)))
  have y1 : (y 1).val = 0 := by have := (y 1).isLt; exact Nat.lt_one_iff.1 this
  blk_ext [hi]
end steps

end Cert.Conv.Ker

end
-- ==== Proof.ConvAct.lean ====
module

public import proofs.«01_k».proof.Proof.Gen.Kernel23Ideal.Value
public import proofs.«01_k».proof.Proof.Gen.Reference23Ideal.Read
public import proofs.«01_k».proof.Proof.ConvPt
public import Idealize.ShloMosaic.Lib.StableHlo.ReadAt

@[expose] public section

set_option maxRecDepth 16384

noncomputable section

/-! The convolution and its gate, forward: the pipelined call's array is the reference's. -/

namespace Cert.Conv.Act

section ref
open Cert.Reference23Ideal Cert.Reference23Ideal.Gen Cert.Reference23Ideal.Read Idealize.ShloMosaic Idealize.ShloMosaic.TcCoe Cert.Conv

variable (x : Xt) (w : Wt) (b : Bt)

/-- The reference's shifted inputs, the convolution and the gated product. -/
theorem r5 (s : Fin 4096) (j : Fin 11264) : val_main_v5 (F := Ideal) x (ix2 s j) = sh x 2 s j := by
  pointwise [val_main_v5, val_main_v2, val_main_v1, val_main_v0, val_main_cst]
  by_cases c : 2 ≤ s.val
  · refine Eq.trans ?_ (dif_pos c).symm
    split_ifs <;> first | omega | rfl | (congr 2; apply Fin.ext; dsimp only; omega)
  · refine Eq.trans ?_ (dif_neg c).symm
    split_ifs <;> first | omega | rfl
theorem r13 (s : Fin 4096) (j : Fin 11264) : val_main_v13 (F := Ideal) x (ix2 s j) = sh x 1 s j := by
  pointwise [val_main_v13, val_main_v2, val_main_v1, val_main_v0, val_main_cst]
  by_cases c : 1 ≤ s.val
  · refine Eq.trans ?_ (dif_pos c).symm
    split_ifs <;> first | omega | rfl | (congr 2; apply Fin.ext; dsimp only; omega)
  · refine Eq.trans ?_ (dif_neg c).symm
    split_ifs <;> first | omega | rfl
theorem r20 (s : Fin 4096) (j : Fin 11264) : val_main_v20 (F := Ideal) x (ix2 s j) = xE x s j := by
  pointwise [val_main_v20, val_main_v2, val_main_v1, val_main_v0, val_main_cst]
theorem r24 (s : Fin 4096) (j : Fin 11264) : val_main_v24 (F := Ideal) x w b (ix2 s j) = U x w b s j := by
  unfold U
  pointwise [val_main_v24, val_main_v23, val_main_v22, val_main_v21, val_main_v19, val_main_v18, val_main_v17, val_main_v16, val_main_v15, val_main_v14, val_main_v12, val_main_v11, val_main_v10, val_main_v9, val_main_v8, val_main_v7, val_main_v6, val_main_v4, val_main_v3, r5, r13, r20]
theorem r25 (s : Fin 4096) (c : Fin 5632) : val_main_v25 (F := Ideal) x w b (ix2 s c) = U x w b s (col 0 c) := by
  pointwise [val_main_v25, r24]
  congr 1
  apply Fin.ext; show c.val = 0 * 5632 + c.val; omega
theorem r27 (s : Fin 4096) (c : Fin 5632) : val_main_v27 (F := Ideal) x w b (ix2 s c) = U x w b s (col 1 c) := by
  pointwise [val_main_v27, r24]
  exact congrArg (U x w b s) (Fin.ext (by show 5632 + c.val = 1 * 5632 + c.val; omega))
theorem r29 (s : Fin 4096) (c : Fin 5632) : val_main_v29 (F := Ideal) x w b (ix2 s c) = U x w b s (col 0 c) * sg (U x w b s (col 0 c)) * U x w b s (col 1 c) := by
  unfold sg
  pointwise [val_main_v29, val_main_v28, val_main_v26, val_main_call0_v5, val_main_call0_v4, val_main_call0_v3, val_main_call0_v2, val_main_call0_v1, val_main_call0_v0, val_main_call0_cst, val_main_call0_cst_0, r25, r27]
end ref

open Cert.Kernel23Ideal Cert.Kernel23Ideal.Gen Idealize.ShloMosaic Idealize.ShloMosaic.TcCoe Cert.Conv
open Cert.Conv.Ker (back Back)

section body
variable (i : grid0.Coords) (v0 : BitVec 1) (x : FVec Ideal S256x1408 .bf16) (B : FVec Ideal S256x256 .bf16) (hx : FVec Ideal S16x1408 .bf16)
  (u s1 s2 : FVec Ideal S256x1408 .f32) (b w0 w1 w2 : FVec Ideal S1x1408 .f32) (p : Fin 256) (q : Fin 1408)

/-- The shifted rows of a block. -/
theorem a11 (hB : Back 1 B) : k0_pay11 (F := Ideal) v0 x B hx (ix2 p q) = back 1 (by omega) v0 x hx p q := Ker.k17 v0 x B hx hB p q
theorem a3 (hB : Back 1 B) : k0_pay3 (F := Ideal) i x B hx (ix2 p q) = back 1 (by omega) (Scalar.cmpi .eq (BitVec.ofNat 32 (i 0).val) 0#32) x hx p q :=
  a11 _ x B hx p q hB
theorem a4 (hB : Back 2 B) : k0_pay4 (F := Ideal) i x B hx (ix2 p q) = back 2 (by omega) (Scalar.cmpi .eq (BitVec.ofNat 32 (i 0).val) 0#32) x hx p q :=
  Ker.k18 _ x B hx hB p q

/-- The first half's convolution. -/
theorem a7 : k0_pay7 (F := Ideal) s1 s2 (k0_pay5 (F := Ideal) x) b (k0_pay6 (F := Ideal) w0) w1 w2 (ix2 p q)
    = b (ix2 (0 : Fin 1) q) + w0 (ix2 (0 : Fin 1) q) * s2 (ix2 p q) + w1 (ix2 (0 : Fin 1) q) * s1 (ix2 p q) + w2 (ix2 (0 : Fin 1) q) * x (ix2 p q) := by
  pointwise [k0_pay7, k0_pay5, k0_pay6]

/-- The second half's, and the gated product. -/
theorem a1 (hB : Back 2 B) : k0_pay1 (F := Ideal) u x (k0_pay8 (F := Ideal) x B) (k0_pay10 (F := Ideal) v0 hx) s1 (k0_pay12 (F := Ideal) x B) b w0 w1 w2 (ix2 p q)
    = u (ix2 p q) * sg (u (ix2 p q))
      * (b (ix2 (0 : Fin 1) q) + w0 (ix2 (0 : Fin 1) q) * back 2 (by omega) v0 x hx p q + w1 (ix2 (0 : Fin 1) q) * s1 (ix2 p q) + w2 (ix2 (0 : Fin 1) q) * x (ix2 p q)) := by
  dsimp (config := { zeta := true }) only [k0_pay1]
  generalize hS : concatenate S256x1408 0 [⟨S8x1408, (_ : FVec Ideal S8x1408 .f32)⟩, ⟨S248x1408, (_ : FVec Ideal S248x1408 .f32)⟩] concatenates_S8x1408_S248x1408_S256x1408_d0 = S
  have e : S (ix2 p q) = back 2 (by omega) v0 x hx p q := by rw [← hS]; exact Ker.k18 v0 x B hx hB p q
  rw [← e]
  clear hS e
  unfold sg
  pointwise []
  simp only [zero_sub]
end body

/-- Where each window's block lies at each point. -/
theorem idx : ∀ t : Fin cfg0.N, win0_0.index t = ![t.val / 4, t.val % 4] ∧ win0_1.index t = ![t.val / 4 * 16 - 1, t.val % 4]
    ∧ win0_2.index t = ![t.val / 4, 4 + t.val % 4] ∧ win0_3.index t = ![t.val / 4 * 16 - 1, 4 + t.val % 4]
    ∧ win0_4.index t = ![0, t.val % 4] ∧ win0_5.index t = ![0, 4 + t.val % 4]
    ∧ win0_6.index t = ![0, t.val % 4] ∧ win0_7.index t = ![0, 4 + t.val % 4]
    ∧ win0_8.index t = ![0, 0] ∧ win0_9.index t = ![0, 0] ∧ win0_10.index t = ![t.val / 4, t.val % 4] :=
  by decide +kernel

/-- A point's first coordinate. -/
theorem coord0 : ∀ t : Fin cfg0.N, (grid0.coords t 0).val = t.val / 4 := by decide +kernel

/-- The point of row block `r` and column block `j`. -/
abbrev pt (r : Fin 16) (j : Fin 4) : Fin cfg0.N := ⟨r.val * 4 + j.val, by have e : cfg0.N = 64 := N_0; omega⟩
/-- The row and the column of a block's element. -/
abbrev row (r : Fin 16) (p : Fin 256) : Fin 4096 := ⟨r.val * 256 + p.val, by omega⟩
abbrev ch (j : Fin 4) (q : Fin 1408) : Fin 5632 := ⟨j.val * 1408 + q.val, by omega⟩

theorem pt_split (t : Fin cfg0.N) : ∃ r j, t = pt r j := by
  have e : cfg0.N = 64 := N_0
  have ht := t.isLt
  exact ⟨⟨t.val / 4, by omega⟩, ⟨t.val % 4, by omega⟩, Fin.ext (by dsimp only; omega)⟩

variable (m : (ℓ : Loc nD τ sig) → Buf (Elt Ideal) ℓ) (c : Dev nD)

/-- The three arguments. -/
abbrev xA : Xt := m ((c : Thread nD τ).loc main_arg0)
abbrev wA : Wt := m ((c : Thread nD τ).loc main_arg1)
abbrev bA : Bt := m ((c : Thread nD τ).loc main_arg2)

theorem V6 (r k : Fin 256) : V (F := Ideal) m c main_v6 (ix2 r k) = (if k.val + 1 = r.val then 1 else 0 : EReal) := by
  unfold V
  after_reads_at
  exact Ker.one_or _ _ _ (Iff.trans (Ker.ofNat_add r k 1 (by omega)) eq_comm)
theorem V11 (r k : Fin 256) : V (F := Ideal) m c main_v11 (ix2 r k) = (if k.val + 2 = r.val then 1 else 0 : EReal) := by
  unfold V
  after_reads_at
  exact Ker.one_or _ _ _ (Iff.trans (Ker.ofNat_add r k 2 (by omega)) eq_comm)

section blocks
variable (j : Fin 4) (r : Fin 16) (p : Fin 256) (q : Fin 1408)

theorem pdiv : (pt r j).val / 4 = r.val := by show (r.val * 4 + j.val) / 4 = r.val; omega
theorem pmod : (pt r j).val % 4 = j.val := by show (r.val * 4 + j.val) % 4 = j.val; omega

theorem blk0 : iblk (F := Ideal) m c 0 (pt r j) (ix2 p q) = xE (xA m c) (row r p) (col 0 (ch j q)) := by
  have hi := (idx (pt r j)).1
  unfold xE
  blk_point [iblk, V, hi]
theorem blk1 (hr : 0 < r.val) (o : Fin 16) : iblk (F := Ideal) m c 1 (pt r j) (ix2 o q) = xE (xA m c) ⟨r.val * 256 - 16 + o.val, by omega⟩ (col 0 (ch j q)) := by
  have hi := (idx (pt r j)).2.1
  unfold xE
  blk_point [iblk, V, hi]
theorem blk2 : iblk (F := Ideal) m c 2 (pt r j) (ix2 p q) = xE (xA m c) (row r p) (col 1 (ch j q)) := by
  have hi := (idx (pt r j)).2.2.1
  unfold xE
  blk_point [iblk, V, hi]
theorem blk3 (hr : 0 < r.val) (o : Fin 16) : iblk (F := Ideal) m c 3 (pt r j) (ix2 o q) = xE (xA m c) ⟨r.val * 256 - 16 + o.val, by omega⟩ (col 1 (ch j q)) := by
  have hi := (idx (pt r j)).2.2.2.1
  unfold xE
  blk_point [iblk, V, hi]
theorem blk4 (k : Fin 3) : iblk (F := Ideal) m c 4 (pt r j) (ix2 k q) = wE (wA m c) k (col 0 (ch j q)) := by
  have hi := (idx (pt r j)).2.2.2.2.1
  unfold wE
  blk_point [iblk, V, hi]
theorem blk5 (k : Fin 3) : iblk (F := Ideal) m c 5 (pt r j) (ix2 k q) = wE (wA m c) k (col 1 (ch j q)) := by
  have hi := (idx (pt r j)).2.2.2.2.2.1
  unfold wE
  blk_point [iblk, V, hi]
theorem blk6 : iblk (F := Ideal) m c 6 (pt r j) (ix2 (0 : Fin 1) q) = bE (bA m c) (col 0 (ch j q)) := by
  have hi := (idx (pt r j)).2.2.2.2.2.2.1
  unfold bE
  blk_point [iblk, V, hi]
theorem blk7 : iblk (F := Ideal) m c 7 (pt r j) (ix2 (0 : Fin 1) q) = bE (bA m c) (col 1 (ch j q)) := by
  have hi := (idx (pt r j)).2.2.2.2.2.2.2.1
  unfold bE
  blk_point [iblk, V, hi]
theorem blk8 : Back 1 (iblk (F := Ideal) m c 8 (pt r j)) := fun a k => by
  have hi := (idx (pt r j)).2.2.2.2.2.2.2.2.1
  refine Eq.trans ?_ (V6 m c a k)
  blk_point [iblk, hi]
theorem blk9 : Back 2 (iblk (F := Ideal) m c 9 (pt r j)) := fun a k => by
  have hi := (idx (pt r j)).2.2.2.2.2.2.2.2.2.1
  refine Eq.trans ?_ (V11 m c a k)
  blk_point [iblk, hi]

/-- The rows before a block's, whichever block they lie in. -/
theorem back_sh (x : Xt) (n : ℕ) (hn : n ≤ 2) (hn1 : 1 ≤ n) (h : Fin 11264) (X : FVec Ideal S256x1408 .bf16) (H : FVec Ideal S16x1408 .bf16)
    (hX : ∀ p : Fin 256, X (ix2 p q) = xE x (row r p) h)
    (hH : ∀ (_ : 0 < r.val) (o : Fin 16), H (ix2 o q) = xE x ⟨r.val * 256 - 16 + o.val, by omega⟩ h) :
    back n hn (Scalar.cmpi .eq (BitVec.ofNat 32 (grid0.coords (pt r j) 0).val) 0#32) X H p q = sh x n (row r p) h := by
  have hp := p.isLt; have hr := r.isLt
  unfold back sh
  by_cases h1 : n ≤ p.val
  · have e : n ≤ r.val * 256 + p.val := by omega
    rw [dif_pos h1, dif_pos e, hX]
    refine congrArg (fun s => xE x s h) (Fin.ext ?_)
    dsimp only; omega
  · rw [dif_neg h1, coord0, pdiv]
    by_cases h0 : r.val = 0
    · have e : ¬ n ≤ r.val * 256 + p.val := by omega
      rw [dif_neg e, h0]
      rfl
    · have e : n ≤ r.val * 256 + p.val := by omega
      rw [dif_pos e]
      have hs : Scalar.cmpi .eq (BitVec.ofNat 32 r.val) 0#32 = 0#1 :=
        (by decide : ∀ r : Fin 16, r.val ≠ 0 → Scalar.cmpi .eq (BitVec.ofNat 32 r.val) 0#32 = 0#1) r h0
      rw [hs]
      refine Eq.trans (b := (H (ix2 ⟨16 + p.val - n, by omega⟩ q) : EReal)) rfl ?_
      rw [hH (by omega)]
      refine congrArg (fun s => xE x s h) (Fin.ext ?_)
      dsimp only; omega

/-- What a point stores. -/
theorem out_at : out0_10 (F := Ideal) (grid0.coords (pt r j)) (iblk m c 0 (pt r j)) (iblk m c 1 (pt r j)) (iblk m c 2 (pt r j)) (iblk m c 3 (pt r j)) (iblk m c 4 (pt r j))
      (iblk m c 5 (pt r j)) (iblk m c 6 (pt r j)) (iblk m c 7 (pt r j)) (iblk m c 8 (pt r j)) (iblk m c 9 (pt r j)) (ix2 p q)
    = U (xA m c) (wA m c) (bA m c) (row r p) (col 0 (ch j q)) * sg (U (xA m c) (wA m c) (bA m c) (row r p) (col 0 (ch j q)))
      * U (xA m c) (wA m c) (bA m c) (row r p) (col 1 (ch j q)) := by
  frame_out
  refine (a1 _ _ _ _ _ _ _ _ _ _ p q (blk9 m c j r)).trans ?_
  have e1 := (a3 (grid0.coords (pt r j)) _ _ _ p q (blk8 m c j r)).trans (back_sh j r p q (xA m c) 1 (by omega) (by omega) _ (iblk m c 0 (pt r j)) (iblk m c 1 (pt r j)) (fun p => blk0 m c j r p q) (fun h o => blk1 m c j r q h o))
  have e2 := (a4 (grid0.coords (pt r j)) _ _ _ p q (blk9 m c j r)).trans (back_sh j r p q (xA m c) 2 (by omega) (by omega) _ (iblk m c 0 (pt r j)) (iblk m c 1 (pt r j)) (fun p => blk0 m c j r p q) (fun h o => blk1 m c j r q h o))
  have e3 := (a11 (Scalar.cmpi .eq (BitVec.ofNat 32 (grid0.coords (pt r j) 0).val) 0#32) _ _ _ p q (blk8 m c j r)).trans (back_sh j r p q (xA m c) 1 (by omega) (by omega) _ (iblk m c 2 (pt r j)) (iblk m c 3 (pt r j)) (fun p => blk2 m c j r p q) (fun h o => blk3 m c j r q h o))
  have e4 := back_sh j r p q (xA m c) 2 (by omega) (by omega) _ (iblk m c 2 (pt r j)) (iblk m c 3 (pt r j)) (fun p => blk2 m c j r p q) (fun h o => blk3 m c j r q h o)
  have u1 : k0_pay7 (F := Ideal) (k0_pay3 (F := Ideal) (grid0.coords (pt r j)) (iblk m c 0 (pt r j)) (iblk m c 8 (pt r j)) (iblk m c 1 (pt r j)))
        (k0_pay4 (F := Ideal) (grid0.coords (pt r j)) (iblk m c 0 (pt r j)) (iblk m c 9 (pt r j)) (iblk m c 1 (pt r j)))
        (k0_pay5 (F := Ideal) (iblk m c 0 (pt r j))) (iblk m c 6 (pt r j)) (k0_pay6 (F := Ideal) (Ker.tap0 (iblk m c 4 (pt r j)))) (Ker.tap1 (iblk m c 4 (pt r j))) (Ker.tap2 (iblk m c 4 (pt r j))) (ix2 p q)
      = U (xA m c) (wA m c) (bA m c) (row r p) (col 0 (ch j q)) := by
    refine (a7 _ _ _ _ _ _ _ p q).trans ?_
    exact congrArg₂ (· + ·) (congrArg₂ (· + ·) (congrArg₂ (· + ·) (blk6 m c j r q) (congrArg₂ (· * ·) ((Ker.ld_0 _ q).trans (blk4 m c j r q 0)) e2))
      (congrArg₂ (· * ·) ((Ker.ld_1 _ q).trans (blk4 m c j r q 1)) e1)) (congrArg₂ (· * ·) ((Ker.ld_2 _ q).trans (blk4 m c j r q 2)) (blk0 m c j r p q))
  have u2 : _ = U (xA m c) (wA m c) (bA m c) (row r p) (col 1 (ch j q)) :=
    congrArg₂ (· + ·) (congrArg₂ (· + ·) (congrArg₂ (· + ·) (blk7 m c j r q) (congrArg₂ (· * ·) ((Ker.ld_0 (iblk m c 5 (pt r j)) q).trans (blk5 m c j r q 0)) e4))
      (congrArg₂ (· * ·) ((Ker.ld_1 (iblk m c 5 (pt r j)) q).trans (blk5 m c j r q 1)) e3)) (congrArg₂ (· * ·) ((Ker.ld_2 (iblk m c 5 (pt r j)) q).trans (blk5 m c j r q 2)) (blk2 m c j r p q))
  exact congrArg₂ (· * ·) (congrArg₂ (· * ·) u1 (congrArg sg u1)) u2
end blocks

/-- The call's array. -/
theorem final : (dats m 0 c).arrAt 10 cfg0.N = Cert.Reference23Ideal.Read.val_main_v29 (F := Ideal) (xA m c) (wA m c) (bA m c) := by
  refine (dats m 0 c).arrAt_eq_of_covers 10 _ (by decide +kernel) fun t hf y => ?_
  obtain ⟨r, j, rfl⟩ := pt_split t
  have hi := (idx (pt r j)).2.2.2.2.2.2.2.2.2.2
  rw [pmod, pdiv] at hi
  blk_simp
  rw [after0_10]
  refine (congrArg _ (ValueIdx.eq_ix2 (n0 := 256) (n1 := 1408) y)).trans ((out_at m c j r (y 0) (y 1)).trans
    ((r29 (xA m c) (wA m c) (bA m c) (row r (y 0)) (ch j (y 1))).symm.trans (congrArg _ ?_)))
  blk_ext [hi]

end Cert.Conv.Act

end
-- ==== Proof.GateMix.lean ====
/- The gate merge, forward: what the pipelined call leaves in its result, index by index, is the reference's
   `sigmoid(ga) · o_a + sigmoid(gb) · o_b`. -/
module

public import proofs.«01_k».proof.Proof.Gen.Kernel24Ideal.Value
public import proofs.«01_k».proof.Proof.Gen.Reference24Ideal.Read
public import Idealize.ShloMosaic.Lib.Pipeline.ValueKit

@[expose] public section

noncomputable section

namespace Cert.Mix

open Idealize.ShloMosaic Idealize.ShloMosaic.TcCoe Idealize.SL.Sem
open Cert.Kernel24Ideal Cert.Kernel24Ideal.Gen
open Cert.Reference24Ideal.Read

variable (m : (ℓ : Loc nD τ sig) → Buf (Elt Ideal) ℓ)

/-- Which block each window holds at a grid point. -/
theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] :=
  (by decide +kernel : ∀ t : Fin grid0.N, _)

/-- The merged branches. -/
theorem final (c : Dev nD) : (dats m 0 c).arrAt 4 cfg0.N
    = val_main_v20 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4⟩ := idx t
  blk_simp
  rw [after0_4]; frame_out
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  simp only [zero_sub]
  blk_point [iblk, V, e0, e1, e2, e3, e4]

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Pre_conv_finite
public import proofs.«01_k».proof.Proof.SwaRunW
public import proofs.«01_k».proof.Proof.SwaVal
public import proofs.«01_k».proof.Proof.SwaFin
public import proofs.«01_k».proof.Proof.Mm
public import proofs.«01_k».proof.Proof.ConvFin
public import proofs.«01_k».proof.Proof.ConvAct
public import proofs.«01_k».proof.Proof.GateMix
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

section
open Cert.KernelIdeal Cert.KernelIdeal.Gen Cert.KernelIdeal.Swa

/-- The kernel's run, with each result array named and the arguments as they were. -/
theorem swa_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25_0) = (dats m 0 c).arrAt 8 cfg0.N
      ∧ r.2.mem ((c.tc : Thread nD τ).loc main_v25_1) = (dats m 0 c).arrAt 9 cfg0.N
      ∧ r.2.mem ((c.tc : Thread nD τ).loc main_v25_2) = (dats m 0 c).arrAt 10 cfg0.N
      ∧ r.2.mem ((c.tc : Thread nD τ).loc main_v25_3) = (dats m 0 c).arrAt 11 cfg0.N
      ∧ r.2.mem ((c.tc : Thread nD τ).loc main_v25_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 8, (h.1 c).1 9, (h.1 c).1 10, (h.1 c).1 11, (h.1 c).1 12, (h.2.1 c).1, (h.2.1 c).2.1, (h.2.1 c).2.2.1, (h.2.1 c).2.2.2⟩)
    (θ_run_and ((θ_run defs _ _).mono (fun _ h => h.1) (run_quiescent m ρ)) (Cert.KernelIdeal.Swa.frame m ρ))
end

theorem congr4 {α β γ δ ε : Type} (f : α → β → γ → δ → ε) {a a' : α} {b b' : β} {c c' : γ} {d d' : δ}
    (ha : a = a') (hb : b = b') (hc : c = c') (hd : d = d') : f a b c d = f a' b' c' d' := by rw [ha, hb, hc, hd]

/-- The sliding-window attention's backward kernel and the reference's gradient, read at extended reals, end with the
    same five arrays where the arguments are finite, and leave their arguments as they were. -/
theorem swa : Cert.algebraic_KernelIdeal_ReferenceIdeal_pre_finite := by
  intro m g m' g' hp hag
  refine ⟨fun c => (Cert.KernelIdeal.Swa.dats m 0 c).arrAt 8 Cert.KernelIdeal.cfg0.N, fun c => (Cert.KernelIdeal.Swa.dats m 0 c).arrAt 9 Cert.KernelIdeal.cfg0.N, fun c => (Cert.KernelIdeal.Swa.dats m 0 c).arrAt 10 Cert.KernelIdeal.cfg0.N, fun c => (Cert.KernelIdeal.Swa.dats m 0 c).arrAt 11 Cert.KernelIdeal.cfg0.N, fun c => (Cert.KernelIdeal.Swa.dats m 0 c).arrAt 12 Cert.KernelIdeal.cfg0.N,
    swa_run m g, (θ_run _ _ _).mono (fun r h c => ?_) (Cert.ReferenceIdeal.Value.run m' g')⟩
  obtain ⟨h0, h1, h2, h3, h4, ha⟩ := h c
  obtain ⟨a0, a1, a2, a3⟩ := hag c
  obtain ⟨hz, hb, hk, hy⟩ := Cert.Swa.of_pre _ _ _ _ (hp c)
  refine ⟨h0.trans ((Cert.ReferenceIdeal.Read.val_main_v182_eq _).trans ?_), h1.trans ((Cert.ReferenceIdeal.Read.val_main_v183_eq _).trans ?_), h2.trans ((Cert.ReferenceIdeal.Read.val_main_v184_eq _).trans ?_), h3.trans ((Cert.ReferenceIdeal.Read.val_main_v181_eq _).trans ?_), h4.trans ((Cert.ReferenceIdeal.Read.val_main_v185_eq _).trans ?_), ha⟩
  · exact Eq.trans (congr4 (Cert.ReferenceIdeal.Read.val_main_v182 (F := Ideal)) a0 a1 a2 a3) (Cert.KernelIdeal.Swa.final8 m c hz hb hk hy).symm
  · exact Eq.trans (congr4 (Cert.ReferenceIdeal.Read.val_main_v183 (F := Ideal)) a0 a1 a2 a3) (Cert.KernelIdeal.Swa.final9 m c hz hb hk hy).symm
  · exact Eq.trans (congr4 (Cert.ReferenceIdeal.Read.val_main_v184 (F := Ideal)) a0 a1 a2 a3) (Cert.KernelIdeal.Swa.final10 m c hz hb hk hy).symm
  · exact Eq.trans (congr4 (Cert.ReferenceIdeal.Read.val_main_v181 (F := Ideal)) a0 a1 a2 a3) (Cert.KernelIdeal.Swa.final11 m c hz hb hk hy).symm
  · exact Eq.trans (congr4 (Cert.ReferenceIdeal.Read.val_main_v185 (F := Ideal)) a0 a1 a2 a3) (Cert.KernelIdeal.Swa.final12 m c hz hb hk hy).symm

/-- The reference leaves its arguments as they were; it has no semaphore. -/
theorem ref_frame : Cert.quiescent_ReferenceIdeal := fun m g _ =>
  (θ_run _ _ _).mono (fun _ h => ⟨fun c => (h c).2.2.2.2.2, sem_eq_zero_of_no_sems rfl _⟩)
    (Cert.ReferenceIdeal.Value.run m g)

/-- The convolution and gate's backward kernel and the reference's gradient, read at extended reals, end with the same
    three arrays where the arguments are finite, and leave their arguments as they were. -/
theorem conv : Cert.algebraic_Kernel22Ideal_Reference22Ideal_pre_conv_finite := by
  intro m g m' g' hp hag
  refine ⟨fun c => (Cert.Kernel22Ideal.Gen.dats m 0 c).arrAt 13 Cert.Kernel22Ideal.cfg0.N, fun c => (Cert.Kernel22Ideal.Gen.dats m 0 c).arrAt 14 Cert.Kernel22Ideal.cfg0.N, fun c => (Cert.Kernel22Ideal.Gen.dats m 0 c).arrAt 15 Cert.Kernel22Ideal.cfg0.N,
    Cert.Kernel22Ideal.Value.run_blocks m g, (θ_run _ _ _).mono (fun r h c => ?_) (Cert.Reference22Ideal.Value.run m' g')⟩
  obtain ⟨h0, h1, h2, ha⟩ := h c
  obtain ⟨a0, a1, a2, a3⟩ := hag c
  obtain ⟨hx, hd, hw, hb⟩ := Cert.Conv.of_pre _ _ _ _ (hp c)
  refine ⟨h0.trans ((Cert.Reference22Ideal.Read.val_main_v87_eq _).trans ?_), h1.trans ((Cert.Reference22Ideal.Read.val_main_v81_eq _).trans ?_), h2.trans ((Cert.Reference22Ideal.Read.val_main_v86_eq _).trans ?_), ha⟩
  · exact Eq.trans (congr4 (Cert.Reference22Ideal.Read.val_main_v87 (F := Ideal)) a0 a1 a2 a3) (Cert.Conv.Ker.final13 m c hx hd hw hb).symm
  · exact Eq.trans (congr4 (Cert.Reference22Ideal.Read.val_main_v81 (F := Ideal)) a0 a1 a2 a3) (Cert.Conv.Ker.final14 m c hx hd hw hb).symm
  · exact Eq.trans (congr4 (Cert.Reference22Ideal.Read.val_main_v86 (F := Ideal)) a0 a1 a2 a3) (Cert.Conv.Ker.final15 m c hx hd hw hb).symm

/-- The reference leaves its arguments as they were; it has no semaphore. -/
theorem ref_frame22 : Cert.quiescent_Reference22Ideal := fun m g _ =>
  (θ_run _ _ _).mono (fun _ h => ⟨fun c => (h c).2.2.2, sem_eq_zero_of_no_sems rfl _⟩)
    (Cert.Reference22Ideal.Value.run m g)

theorem congr3 {α β γ δ : Type} (f : α → β → γ → δ) {a a' : α} {b b' : β} {c c' : γ}
    (ha : a = a') (hb : b = b') (hc : c = c') : f a b c = f a' b' c' := by rw [ha, hb, hc]

/-- The convolution and its gate, forward: the pipelined call and the reference, read at extended reals, end with the same
    array and leave their arguments as they were. -/
theorem act : Cert.algebraic_Kernel23Ideal_Reference23Ideal := by
  intro m g m' g' _ hag
  refine ⟨fun c => (Cert.Kernel23Ideal.Gen.dats m 0 c).arrAt 10 Cert.Kernel23Ideal.cfg0.N,
    Cert.Kernel23Ideal.Value.run_blocks m g, (θ_run _ _ _).mono (fun r h c => ?_) (Cert.Reference23Ideal.Value.run m' g')⟩
  obtain ⟨h0, ha⟩ := h c
  obtain ⟨a0, a1, a2⟩ := hag c
  refine ⟨h0.trans ((Cert.Reference23Ideal.Read.val_main_v29_eq _ _).trans ?_), ha⟩
  exact Eq.trans (congr3 (Cert.Reference23Ideal.Read.val_main_v29 (F := Ideal)) a0 a1 a2) (Cert.Conv.Act.final m c).symm

/-- The reference leaves its arguments as they were. -/
theorem ref_frame23 : Cert.quiescent_Reference23Ideal := fun m g _ =>
  (θ_run _ _ _).mono (fun _ h => ⟨fun c => (h c).2, sem_eq_zero_of_no_sems rfl _⟩)
    (Cert.Reference23Ideal.Value.run m g)

/-- The merge of the two branches by their gates, forward: the pipelined call and the reference, read at extended reals, end with the same
    array and leave their arguments as they were. -/
theorem mix : Cert.algebraic_Kernel24Ideal_Reference24Ideal := by
  intro m g m' g' _ hag
  refine ⟨fun c => (Cert.Kernel24Ideal.Gen.dats m 0 c).arrAt 4 Cert.Kernel24Ideal.cfg0.N,
    Cert.Kernel24Ideal.Value.run_blocks m g, (θ_run _ _ _).mono (fun r h c => ?_) (Cert.Reference24Ideal.Value.run m' g')⟩
  obtain ⟨h0, ha⟩ := h c
  obtain ⟨a0, a1, a2⟩ := hag c
  refine ⟨h0.trans ((Cert.Reference24Ideal.Read.val_main_v20_eq _ _ _).trans ?_), ha⟩
  exact Eq.trans (congr3 (Cert.Reference24Ideal.Read.val_main_v20 (F := Ideal)) a0 a1 a2) (Cert.Mix.final m c).symm

/-- The reference leaves its arguments as they were. -/
theorem ref_frame24 : Cert.quiescent_Reference24Ideal := fun m g _ =>
  (θ_run _ _ _).mono (fun _ h => ⟨fun c => (h c).2, sem_eq_zero_of_no_sems rfl _⟩)
    (Cert.Reference24Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_conv_finite.Gen.facts,
  fun m ρ _ => Cert.Kernel.Swa.frame m ρ, fun m ρ _ => Cert.KernelIdeal.Swa.frame m ρ, fun m ρ _ => Cert.KernelIdeal.Swa.frame m ρ,
  ref_frame, fun m g _ => ref_frame m g trivial,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, ref_frame6,
  fun m ρ _ => Cert.Kernel7.Gen.frame m ρ, fun m ρ _ => Cert.Kernel7Ideal.Gen.frame m ρ, ref_frame7,
  fun m ρ _ => Cert.Kernel8.Gen.frame m ρ, fun m ρ _ => Cert.Kernel8Ideal.Gen.frame m ρ, ref_frame8,
  fun m ρ _ => Cert.Kernel9.Gen.frame m ρ, fun m ρ _ => Cert.Kernel9Ideal.Gen.frame m ρ, ref_frame9,
  fun m ρ _ => Cert.Kernel10.Gen.frame m ρ, fun m ρ _ => Cert.Kernel10Ideal.Gen.frame m ρ, ref_frame10,
  fun m ρ _ => Cert.Kernel11.Gen.frame m ρ, fun m ρ _ => Cert.Kernel11Ideal.Gen.frame m ρ, ref_frame11,
  fun m ρ _ => Cert.Kernel12.Gen.frame m ρ, fun m ρ _ => Cert.Kernel12Ideal.Gen.frame m ρ, ref_frame12,
  fun m ρ _ => Cert.Kernel13.Gen.frame m ρ, fun m ρ _ => Cert.Kernel13Ideal.Gen.frame m ρ, ref_frame13,
  fun m ρ _ => Cert.Kernel14.Gen.frame m ρ, fun m ρ _ => Cert.Kernel14Ideal.Gen.frame m ρ, ref_frame14,
  fun m ρ _ => Cert.Kernel15.Gen.frame m ρ, fun m ρ _ => Cert.Kernel15Ideal.Gen.frame m ρ, ref_frame15,
  fun m ρ _ => Cert.Kernel16.Gen.frame m ρ, fun m ρ _ => Cert.Kernel16Ideal.Gen.frame m ρ, ref_frame16,
  fun m ρ _ => Cert.Kernel17.Gen.frame m ρ, fun m ρ _ => Cert.Kernel17Ideal.Gen.frame m ρ, ref_frame17,
  fun m ρ _ => Cert.Kernel18.Gen.frame m ρ, fun m ρ _ => Cert.Kernel18Ideal.Gen.frame m ρ, ref_frame18,
  fun m ρ _ => Cert.Kernel19.Gen.frame m ρ, fun m ρ _ => Cert.Kernel19Ideal.Gen.frame m ρ, ref_frame19,
  fun m ρ _ => Cert.Kernel20.Gen.frame m ρ, fun m ρ _ => Cert.Kernel20Ideal.Gen.frame m ρ, ref_frame20,
  fun m ρ _ => Cert.Kernel21.Gen.frame m ρ, fun m ρ _ => Cert.Kernel21Ideal.Gen.frame m ρ, ref_frame21,
  fun m ρ _ => Cert.Kernel22.Gen.frame m ρ, fun m ρ _ => Cert.Kernel22Ideal.Gen.frame m ρ, fun m ρ _ => Cert.Kernel22Ideal.Gen.frame m ρ,
  ref_frame22, fun m g _ => ref_frame22 m g trivial,
  fun m ρ _ => Cert.Kernel23.Gen.frame m ρ, fun m ρ _ => Cert.Kernel23Ideal.Gen.frame m ρ, ref_frame23,
  fun m ρ _ => Cert.Kernel24.Gen.frame m ρ, fun m ρ _ => Cert.Kernel24Ideal.Gen.frame m ρ, ref_frame24,
  IdealRules.named_const.statement Cert.KernelIdeal.κ "mask" .f32 0xF149F2CA#32 ⊥ rfl, swa,
  trivial, gate,
  trivial, mm3,
  trivial, mm4,
  trivial, mm5,
  trivial, mm6,
  trivial, mm7,
  trivial, mm8,
  trivial, mm9,
  trivial, mm10,
  trivial, mm11,
  trivial, mm12,
  trivial, mm13,
  trivial, mm14,
  trivial, mm15,
  trivial, mm16,
  trivial, mm17,
  trivial, mm18,
  trivial, mm19,
  trivial, mm20,
  trivial, mm21,
  trivial, conv,
  trivial, act,
  trivial, mix⟩

end Cert.Proof

end
